-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_probes_in_range [hPre_probes_in_range : Cert.Pre_probes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_probes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_probes_in_range [hPre_probes_in_range : Cert.Pre_probes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_probes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Quantise [hPre_clusters_in_range : Cert.Pre_clusters_in_range.Facts] (m : (ℓ : Loc Cert.Quantise.nD Cert.Quantise.τ Cert.Quantise.sig) → Buf (Elt Bits) ℓ) : Prop :=
  ∀ c : Dev Cert.Quantise.nD,
    (Cert.Pre_clusters_in_range.fn (F := Bits) (m ((c.tc : Thread Cert.Quantise.nD Cert.Quantise.τ).loc Cert.Quantise.main_arg0)) (m ((c.tc : Thread Cert.Quantise.nD Cert.Quantise.τ).loc Cert.Quantise.main_arg1)) (m ((c.tc : Thread Cert.Quantise.nD Cert.Quantise.τ).loc Cert.Quantise.main_arg2)) (m ((c.tc : Thread Cert.Quantise.nD Cert.Quantise.τ).loc Cert.Quantise.main_arg3))) = (fun _ => 1#1)

def Pre_QuantiseIdeal [hPre_clusters_in_range : Cert.Pre_clusters_in_range.Facts] (m : (ℓ : Loc Cert.QuantiseIdeal.nD Cert.QuantiseIdeal.τ Cert.QuantiseIdeal.sig) → Buf (Elt Ideal) ℓ) : Prop :=
  ∀ c : Dev Cert.QuantiseIdeal.nD,
    (Cert.Pre_clusters_in_range.fn (F := Ideal) (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2)) (m ((c.tc : Thread Cert.QuantiseIdeal.nD Cert.QuantiseIdeal.τ).loc Cert.QuantiseIdeal.main_arg3))) = (fun _ => 1#1)

def Pre_QuantiseReferenceIdeal (m : (ℓ : Loc Cert.QuantiseReferenceIdeal.nD Cert.QuantiseReferenceIdeal.τ Cert.QuantiseReferenceIdeal.sig) → Buf (Elt Ideal) ℓ) : Prop :=
  True

def Pre_QuantiseReferenceIdeal_clusters_in_range [hPre_clusters_in_range : Cert.Pre_clusters_in_range.Facts] (m : (ℓ : Loc Cert.QuantiseReferenceIdeal.nD Cert.QuantiseReferenceIdeal.τ Cert.QuantiseReferenceIdeal.sig) → Buf (Elt Ideal) ℓ) : Prop :=
  ∀ c : Dev Cert.QuantiseReferenceIdeal.nD,
    (Cert.Pre_clusters_in_range.fn (F := Ideal) (m ((c.tc : Thread Cert.QuantiseReferenceIdeal.nD Cert.QuantiseReferenceIdeal.τ).loc Cert.QuantiseReferenceIdeal.main_arg0)) (m ((c.tc : Thread Cert.QuantiseReferenceIdeal.nD Cert.QuantiseReferenceIdeal.τ).loc Cert.QuantiseReferenceIdeal.main_arg1)) (m ((c.tc : Thread Cert.QuantiseReferenceIdeal.nD Cert.QuantiseReferenceIdeal.τ).loc Cert.QuantiseReferenceIdeal.main_arg2)) (m ((c.tc : Thread Cert.QuantiseReferenceIdeal.nD Cert.QuantiseReferenceIdeal.τ).loc Cert.QuantiseReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_probes_in_range [hKernelIdeal : Cert.KernelIdeal.Facts] [hPre_probes_in_range : Cert.Pre_probes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_probes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_probes_in_range [hReferenceIdeal : Cert.ReferenceIdeal.Facts] [hPre_probes_in_range : Cert.Pre_probes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_probes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Quantise [hQuantise : Cert.Quantise.Facts] [hPre_clusters_in_range : Cert.Pre_clusters_in_range.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0)
      ∧ r.2.mem ((c.tc : Thread Cert.Quantise.nD Cert.Quantise.τ).loc Cert.Quantise.main_arg1) = m ((c.tc : Thread Cert.Quantise.nD Cert.Quantise.τ).loc Cert.Quantise.main_arg1)
      ∧ r.2.mem ((c.tc : Thread Cert.Quantise.nD Cert.Quantise.τ).loc Cert.Quantise.main_arg2) = m ((c.tc : Thread Cert.Quantise.nD Cert.Quantise.τ).loc Cert.Quantise.main_arg2)
      ∧ r.2.mem ((c.tc : Thread Cert.Quantise.nD Cert.Quantise.τ).loc Cert.Quantise.main_arg3) = m ((c.tc : Thread Cert.Quantise.nD Cert.Quantise.τ).loc Cert.Quantise.main_arg3))
      ∧ r.2.sem = fun _ => 0)

def quiescent_QuantiseIdeal [hQuantiseIdeal : Cert.QuantiseIdeal.Facts] [hPre_clusters_in_range : Cert.Pre_clusters_in_range.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
      ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2)
      ∧ r.2.mem ((c.tc : Thread Cert.QuantiseIdeal.nD Cert.QuantiseIdeal.τ).loc Cert.QuantiseIdeal.main_arg3) = m ((c.tc : Thread Cert.QuantiseIdeal.nD Cert.QuantiseIdeal.τ).loc Cert.QuantiseIdeal.main_arg3))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0)
      ∧ r.2.mem ((c.tc : Thread Cert.QuantiseReferenceIdeal.nD Cert.QuantiseReferenceIdeal.τ).loc Cert.QuantiseReferenceIdeal.main_arg1) = m ((c.tc : Thread Cert.QuantiseReferenceIdeal.nD Cert.QuantiseReferenceIdeal.τ).loc Cert.QuantiseReferenceIdeal.main_arg1)
      ∧ r.2.mem ((c.tc : Thread Cert.QuantiseReferenceIdeal.nD Cert.QuantiseReferenceIdeal.τ).loc Cert.QuantiseReferenceIdeal.main_arg2) = m ((c.tc : Thread Cert.QuantiseReferenceIdeal.nD Cert.QuantiseReferenceIdeal.τ).loc Cert.QuantiseReferenceIdeal.main_arg2)
      ∧ r.2.mem ((c.tc : Thread Cert.QuantiseReferenceIdeal.nD Cert.QuantiseReferenceIdeal.τ).loc Cert.QuantiseReferenceIdeal.main_arg3) = m ((c.tc : Thread Cert.QuantiseReferenceIdeal.nD Cert.QuantiseReferenceIdeal.τ).loc Cert.QuantiseReferenceIdeal.main_arg3))
      ∧ r.2.sem = fun _ => 0)

def quiescent_QuantiseReferenceIdeal_pre_clusters_in_range [hQuantiseReferenceIdeal : Cert.QuantiseReferenceIdeal.Facts] [hPre_clusters_in_range : Cert.Pre_clusters_in_range.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal_clusters_in_range m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0)
      ∧ r.2.mem ((c.tc : Thread Cert.QuantiseReferenceIdeal.nD Cert.QuantiseReferenceIdeal.τ).loc Cert.QuantiseReferenceIdeal.main_arg1) = m ((c.tc : Thread Cert.QuantiseReferenceIdeal.nD Cert.QuantiseReferenceIdeal.τ).loc Cert.QuantiseReferenceIdeal.main_arg1)
      ∧ r.2.mem ((c.tc : Thread Cert.QuantiseReferenceIdeal.nD Cert.QuantiseReferenceIdeal.τ).loc Cert.QuantiseReferenceIdeal.main_arg2) = m ((c.tc : Thread Cert.QuantiseReferenceIdeal.nD Cert.QuantiseReferenceIdeal.τ).loc Cert.QuantiseReferenceIdeal.main_arg2)
      ∧ r.2.mem ((c.tc : Thread Cert.QuantiseReferenceIdeal.nD Cert.QuantiseReferenceIdeal.τ).loc Cert.QuantiseReferenceIdeal.main_arg3) = m ((c.tc : Thread Cert.QuantiseReferenceIdeal.nD Cert.QuantiseReferenceIdeal.τ).loc Cert.QuantiseReferenceIdeal.main_arg3))
      ∧ r.2.sem = fun _ => 0)

def preserves_Kernel_KernelIdeal : Prop :=
  True

def algebraic_KernelIdeal_ReferenceIdeal_pre_probes_in_range [hKernelIdeal : Cert.KernelIdeal.Facts] [hReferenceIdeal : Cert.ReferenceIdeal.Facts] [hPre_probes_in_range : Cert.Pre_probes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_probes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Quantise_QuantiseIdeal : Prop :=
  True

def algebraic_QuantiseIdeal_QuantiseReferenceIdeal [hQuantiseIdeal : Cert.QuantiseIdeal.Facts] [hQuantiseReferenceIdeal : Cert.QuantiseReferenceIdeal.Facts] [hPre_clusters_in_range : Cert.Pre_clusters_in_range.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)
      ∧ m' ((c.tc : Thread Cert.QuantiseReferenceIdeal.nD Cert.QuantiseReferenceIdeal.τ).loc Cert.QuantiseReferenceIdeal.main_arg1) = m ((c.tc : Thread Cert.QuantiseIdeal.nD Cert.QuantiseIdeal.τ).loc Cert.QuantiseIdeal.main_arg1)
      ∧ m' ((c.tc : Thread Cert.QuantiseReferenceIdeal.nD Cert.QuantiseReferenceIdeal.τ).loc Cert.QuantiseReferenceIdeal.main_arg2) = m ((c.tc : Thread Cert.QuantiseIdeal.nD Cert.QuantiseIdeal.τ).loc Cert.QuantiseIdeal.main_arg2)
      ∧ m' ((c.tc : Thread Cert.QuantiseReferenceIdeal.nD Cert.QuantiseReferenceIdeal.τ).loc Cert.QuantiseReferenceIdeal.main_arg3) = m ((c.tc : Thread Cert.QuantiseIdeal.nD Cert.QuantiseIdeal.τ).loc Cert.QuantiseIdeal.main_arg3)) →
    ∃ (v0 : (c : Dev Cert.QuantiseIdeal.nD) → Buf (Elt Ideal) ((c.tc : Thread Cert.QuantiseIdeal.nD Cert.QuantiseIdeal.τ).loc Cert.QuantiseIdeal.main_v0_0)) (v1 : (c : Dev Cert.QuantiseIdeal.nD) → Buf (Elt Ideal) ((c.tc : Thread Cert.QuantiseIdeal.nD Cert.QuantiseIdeal.τ).loc Cert.QuantiseIdeal.main_v0_1)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v0_0) = v0 c
          ∧ r.2.mem ((c.tc : Thread Cert.QuantiseIdeal.nD Cert.QuantiseIdeal.τ).loc Cert.QuantiseIdeal.main_v0_1) = v1 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
          ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
          ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2)
          ∧ r.2.mem ((c.tc : Thread Cert.QuantiseIdeal.nD Cert.QuantiseIdeal.τ).loc Cert.QuantiseIdeal.main_arg3) = m ((c.tc : Thread Cert.QuantiseIdeal.nD Cert.QuantiseIdeal.τ).loc Cert.QuantiseIdeal.main_arg3))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v33) = v0 c
          ∧ r.2.mem ((c.tc : Thread Cert.QuantiseReferenceIdeal.nD Cert.QuantiseReferenceIdeal.τ).loc Cert.QuantiseReferenceIdeal.main_v51) = v1 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0)
          ∧ r.2.mem ((c.tc : Thread Cert.QuantiseReferenceIdeal.nD Cert.QuantiseReferenceIdeal.τ).loc Cert.QuantiseReferenceIdeal.main_arg1) = m' ((c.tc : Thread Cert.QuantiseReferenceIdeal.nD Cert.QuantiseReferenceIdeal.τ).loc Cert.QuantiseReferenceIdeal.main_arg1)
          ∧ r.2.mem ((c.tc : Thread Cert.QuantiseReferenceIdeal.nD Cert.QuantiseReferenceIdeal.τ).loc Cert.QuantiseReferenceIdeal.main_arg2) = m' ((c.tc : Thread Cert.QuantiseReferenceIdeal.nD Cert.QuantiseReferenceIdeal.τ).loc Cert.QuantiseReferenceIdeal.main_arg2)
          ∧ r.2.mem ((c.tc : Thread Cert.QuantiseReferenceIdeal.nD Cert.QuantiseReferenceIdeal.τ).loc Cert.QuantiseReferenceIdeal.main_arg3) = m' ((c.tc : Thread Cert.QuantiseReferenceIdeal.nD Cert.QuantiseReferenceIdeal.τ).loc Cert.QuantiseReferenceIdeal.main_arg3))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts) (hPre_probes_in_range : Cert.Pre_probes_in_range.Facts) (hPre_clusters_in_range : Cert.Pre_clusters_in_range.Facts),
    quiescent_Kernel (hKernel := hKernel)
    ∧ quiescent_KernelIdeal (hKernelIdeal := hKernelIdeal)
    ∧ quiescent_KernelIdeal_pre_probes_in_range (hKernelIdeal := hKernelIdeal) (hPre_probes_in_range := hPre_probes_in_range)
    ∧ quiescent_ReferenceIdeal (hReferenceIdeal := hReferenceIdeal)
    ∧ quiescent_ReferenceIdeal_pre_probes_in_range (hReferenceIdeal := hReferenceIdeal) (hPre_probes_in_range := hPre_probes_in_range)
    ∧ quiescent_Quantise (hQuantise := hQuantise) (hPre_clusters_in_range := hPre_clusters_in_range)
    ∧ quiescent_QuantiseIdeal (hQuantiseIdeal := hQuantiseIdeal) (hPre_clusters_in_range := hPre_clusters_in_range)
    ∧ quiescent_QuantiseReferenceIdeal (hQuantiseReferenceIdeal := hQuantiseReferenceIdeal)
    ∧ quiescent_QuantiseReferenceIdeal_pre_clusters_in_range (hQuantiseReferenceIdeal := hQuantiseReferenceIdeal) (hPre_clusters_in_range := hPre_clusters_in_range)
    ∧ preserves_Kernel_KernelIdeal
    ∧ algebraic_KernelIdeal_ReferenceIdeal_pre_probes_in_range (hKernelIdeal := hKernelIdeal) (hReferenceIdeal := hReferenceIdeal) (hPre_probes_in_range := hPre_probes_in_range)
    ∧ preserves_Quantise_QuantiseIdeal
    ∧ algebraic_QuantiseIdeal_QuantiseReferenceIdeal (hQuantiseIdeal := hQuantiseIdeal) (hQuantiseReferenceIdeal := hQuantiseReferenceIdeal) (hPre_clusters_in_range := hPre_clusters_in_range)
-- ==== Pre_clusters_in_range.lean ====
abbrev S24x2048 : Shape := ⟨2, ![24, 2048]⟩
abbrev S400x2048 : Shape := ⟨2, ![400, 2048]⟩
abbrev S24x8 : Shape := ⟨2, ![24, 8]⟩
abbrev S24x8x2048 : Shape := ⟨3, ![24, 8, 2048]⟩
abbrev S_ : Shape := ⟨0, ![]⟩

class Facts : Prop where
  bcast_S_S24x8 : S_.BroadcastsInDim S24x8 (![] : Fin 0 → Fin S24x8.rank)

variable [Facts]

def fn {F : FTy → Type} [FloatOps F] (main_arg0 : FVec F S24x2048 .f32) (main_arg1 : FVec F S400x2048 .f32) (main_arg2 : IVec S24x8 32) (main_arg3 : FVec F S24x8x2048 .f32) : IVec S24x8 1 :=
  let main_c : IVec S_ 32 := constantI S_ 32 0#32
  let main_v0 : IVec S24x8 32 := broadcastInDim S24x8 ![] bcast_S_S24x8 main_c
  let main_v1 : IVec S24x8 1 := cmpi .sge main_arg2 main_v0
  let main_c_0 : IVec S_ 32 := constantI S_ 32 400#32
  let main_v2 : IVec S24x8 32 := broadcastInDim S24x8 ![] bcast_S_S24x8 main_c_0
  let main_v3 : IVec S24x8 1 := cmpi .slt main_arg2 main_v2
  let main_v4 : IVec S24x8 1 := andi main_v1 main_v3
  main_v4
-- ==== Pre_probes_in_range.lean ====
abbrev S24 : Shape := ⟨1, ![24]⟩
abbrev S24x48x64x128 : Shape := ⟨4, ![24, 48, 64, 128]⟩
abbrev S2x256x128 : Shape := ⟨3, ![2, 256, 128]⟩
abbrev S4x24x128 : Shape := ⟨3, ![4, 24, 128]⟩
abbrev S24x6144 : Shape := ⟨2, ![24, 6144]⟩
abbrev S_ : Shape := ⟨0, ![]⟩

class Facts : Prop where
  bcast_S_S24x6144 : S_.BroadcastsInDim S24x6144 (![] : Fin 0 → Fin S24x6144.rank)

variable [Facts]

def fn {F : FTy → Type} [FloatOps F] (main_arg0 : IVec S24 32) (main_arg1 : IVec S24x48x64x128 32) (main_arg2 : IVec S2x256x128 32) (main_arg3 : FVec F S4x24x128 .f32) (main_arg4 : IVec S24x6144 32) (main_arg5 : FVec F S24x6144 .f32) (main_arg6 : FVec F S24x6144 .f32) : IVec S24x6144 1 :=
  let main_c : IVec S_ 32 := constantI S_ 32 0#32
  let main_v0 : IVec S24x6144 32 := broadcastInDim S24x6144 ![] bcast_S_S24x6144 main_c
  let main_v1 : IVec S24x6144 1 := cmpi .sge main_arg4 main_v0
  let main_c_0 : IVec S_ 32 := constantI S_ 32 8#32
  let main_v2 : IVec S24x6144 32 := broadcastInDim S24x6144 ![] bcast_S_S24x6144 main_c_0
  let main_v3 : IVec S24x6144 1 := cmpi .slt main_arg4 main_v2
  let main_v4 : IVec S24x6144 1 := andi main_v1 main_v3
  main_v4
-- ==== Kernel.lean ====
abbrev S24 : Shape := ⟨1, ![24]⟩
abbrev S24x48x64x128 : Shape := ⟨4, ![24, 48, 64, 128]⟩
abbrev S2x256x128 : Shape := ⟨3, ![2, 256, 128]⟩
abbrev S4x24x128 : Shape := ⟨3, ![4, 24, 128]⟩
abbrev S24x6144 : Shape := ⟨2, ![24, 6144]⟩
abbrev S24x1 : Shape := ⟨2, ![24, 1]⟩
abbrev S24x128 : Shape := ⟨2, ![24, 128]⟩
abbrev S8x8x64x128 : Shape := ⟨4, ![8, 8, 64, 128]⟩
abbrev S4x8x128 : Shape := ⟨3, ![4, 8, 128]⟩
abbrev S8x1024 : Shape := ⟨2, ![8, 1024]⟩
abbrev S8x128 : Shape := ⟨2, ![8, 128]⟩
abbrev S1 : Shape := ⟨1, ![1]⟩
abbrev S1x128 : Shape := ⟨2, ![1, 128]⟩
abbrev S1x1x8x128 : Shape := ⟨4, ![1, 1, 8, 128]⟩
abbrev S1x8x128 : Shape := ⟨3, ![1, 8, 128]⟩
abbrev S8x128x1 : Shape := ⟨3, ![8, 128, 1]⟩
abbrev S128 : Shape := ⟨1, ![128]⟩

abbrev nBuf : Space → Nat
  | .hbm => 11
  | .vmem => 20
  | .smem => 1
  | _ => 0

abbrev bufTy : (tb : Table) → Fin (tcTables nBuf tb) → BufTy
  | .hbm, ⟨0, _⟩ => ⟨S24x48x64x128, .i32⟩
  | .hbm, ⟨1, _⟩ => ⟨S2x256x128, .i32⟩
  | .hbm, ⟨2, _⟩ => ⟨S4x24x128, .f32⟩
  | .hbm, ⟨3, _⟩ => ⟨S24x6144, .i32⟩
  | .hbm, ⟨4, _⟩ => ⟨S24x6144, .f32⟩
  | .hbm, ⟨5, _⟩ => ⟨S24x6144, .f32⟩
  | .hbm, ⟨6, _⟩ => ⟨S24x1, .i32⟩
  | .hbm, ⟨7, _⟩ => ⟨S24x128, .i32⟩
  | .hbm, ⟨8, _⟩ => ⟨S24x6144, .f32⟩
  | .hbm, ⟨9, _⟩ => ⟨S24x6144, .f32⟩
  | .hbm, ⟨10, _⟩ => ⟨S24x6144, .f32⟩
  | .local _ .vmem, ⟨0, _⟩ => ⟨S8x8x64x128, .i32⟩
  | .local _ .vmem, ⟨1, _⟩ => ⟨S8x8x64x128, .i32⟩
  | .local _ .vmem, ⟨2, _⟩ => ⟨S2x256x128, .i32⟩
  | .local _ .vmem, ⟨3, _⟩ => ⟨S4x8x128, .f32⟩
  | .local _ .vmem, ⟨4, _⟩ => ⟨S4x8x128, .f32⟩
  | .local _ .vmem, ⟨5, _⟩ => ⟨S8x1024, .i32⟩
  | .local _ .vmem, ⟨6, _⟩ => ⟨S8x1024, .i32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x128, .i32⟩
  | .local _ .vmem, ⟨12, _⟩ => ⟨S8x128, .i32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S8x1024, .i32⟩
  | .local _ .smem, ⟨0, _⟩ => ⟨S24, .i32⟩
  | _, _ => ⟨S24x48x64x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![3, 6], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_1 : BitVec 32 := 0#32
  let c8_i32_2 : BitVec 32 := 8#32
  let v5 : BitVec 32 := Scalar.addi c0_i32_1 c8_i32_2
  let c1_i32 : BitVec 32 := 1#32
  ⟨c0_i32_1, v5, c1_i32⟩
def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v846 : Index := Scalar.indexCast v1
  ![v846.toNat]
def k0_mult1 (k0_t1 : Fin k0_t1_loop.trips) : BitVec 32 :=
  let c0_i32_396 : BitVec 32 := 0#32
  let c0_i32_1 : BitVec 32 := 0#32
  let c1_i32 : BitVec 32 := 1#32
  let arg14 : BitVec 32 := Scf.iv c0_i32_1 c1_i32 k0_t1
  let c1_i32_395 : BitVec 32 := 1#32
  let v841 : BitVec 32 := Scalar.muli arg14 c1_i32_395
  let v842 : BitVec 32 := Scalar.addi c0_i32_396 v841
  let c128_i32_400 : BitVec 32 := 128#32
  let v851 : BitVec 32 := Scalar.muli v842 c128_i32_400
  v851
def k0_off2 (k0_t1 : Fin k0_t1_loop.trips) : Fin 2 → Nat :=
  let c0_401 : Index := 0#32
  let c0_i32_396 : BitVec 32 := 0#32
  let c0_i32_1 : BitVec 32 := 0#32
  let c1_i32 : BitVec 32 := 1#32
  let arg14 : BitVec 32 := Scf.iv c0_i32_1 c1_i32 k0_t1
  let c1_i32_395 : BitVec 32 := 1#32
  let v841 : BitVec 32 := Scalar.muli arg14 c1_i32_395
  let v842 : BitVec 32 := Scalar.addi c0_i32_396 v841
  let c128_i32_400 : BitVec 32 := 128#32
  let v851 : BitVec 32 := Scalar.muli v842 c128_i32_400
  let v852 : BitVec 32 := v851
  let v853 : Index := Scalar.indexCast v852
  ![0, v853.toNat]
def k0_off3 (k0_t1 : Fin k0_t1_loop.trips) : Fin 4 → Nat :=
  let c0_407 : Index := 0#32
  let c0_i32_396 : BitVec 32 := 0#32
  let c0_i32_1 : BitVec 32 := 0#32
  let c1_i32 : BitVec 32 := 1#32
  let arg14 : BitVec 32 := Scf.iv c0_i32_1 c1_i32 k0_t1
  let c1_i32_395 : BitVec 32 := 1#32
  let v841 : BitVec 32 := Scalar.muli arg14 c1_i32_395
  let v842 : BitVec 32 := Scalar.addi c0_i32_396 v841
  let v864 : Index := Scalar.indexCast v842
  let c0_408 : Index := 0#32
  let c0_409 : Index := 0#32
  ![0, v864.toNat, 0, 0]
def k0_off4 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v869 : Index := Scalar.indexCast v2
  let c0_410 : Index := 0#32
  let c0_411 : Index := 0#32
  ![v869.toNat, 0, 0]
def k0_off5 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v883 : Index := Scalar.indexCast v2
  let c64 : Index := 64#32
  let c0_414 : Index := 0#32
  ![v883.toNat, 64, 0]
def k0_off6 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v897 : Index := Scalar.indexCast v2
  let c128_417 : Index := 128#32
  let c0_418 : Index := 0#32
  ![v897.toNat, 128, 0]
def k0_off7 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v911 : Index := Scalar.indexCast v2
  let c192 : Index := 192#32
  let c0_421 : Index := 0#32
  ![v911.toNat, 192, 0]
def k0_off8 (k0_t1 : Fin k0_t1_loop.trips) : Fin 4 → Nat :=
  let c0_424 : Index := 0#32
  let c0_i32_396 : BitVec 32 := 0#32
  let c0_i32_1 : BitVec 32 := 0#32
  let c1_i32 : BitVec 32 := 1#32
  let arg14 : BitVec 32 := Scf.iv c0_i32_1 c1_i32 k0_t1
  let c1_i32_395 : BitVec 32 := 1#32
  let v841 : BitVec 32 := Scalar.muli arg14 c1_i32_395
  let v842 : BitVec 32 := Scalar.addi c0_i32_396 v841
  let v925 : Index := Scalar.indexCast v842
  let c8 : Index := 8#32
  let c0_425 : Index := 0#32
  ![0, v925.toNat, 8, 0]
def k0_off9 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v930 : Index := Scalar.indexCast v2
  let c8_426 : Index := 8#32
  let c0_427 : Index := 0#32
  ![v930.toNat, 8, 0]
def k0_off10 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v944 : Index := Scalar.indexCast v2
  let c72 : Index := 72#32
  let c0_430 : Index := 0#32
  ![v944.toNat, 72, 0]
def k0_off11 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v958 : Index := Scalar.indexCast v2
  let c136 : Index := 136#32
  let c0_433 : Index := 0#32
  ![v958.toNat, 136, 0]
def k0_off12 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v972 : Index := Scalar.indexCast v2
  let c200 : Index := 200#32
  let c0_436 : Index := 0#32
  ![v972.toNat, 200, 0]
def k0_off13 (k0_t1 : Fin k0_t1_loop.trips) : Fin 4 → Nat :=
  let c0_439 : Index := 0#32
  let c0_i32_396 : BitVec 32 := 0#32
  let c0_i32_1 : BitVec 32 := 0#32
  let c1_i32 : BitVec 32 := 1#32
  let arg14 : BitVec 32 := Scf.iv c0_i32_1 c1_i32 k0_t1
  let c1_i32_395 : BitVec 32 := 1#32
  let v841 : BitVec 32 := Scalar.muli arg14 c1_i32_395
  let v842 : BitVec 32 := Scalar.addi c0_i32_396 v841
  let v986 : Index := Scalar.indexCast v842
  let c16 : Index := 16#32
  let c0_440 : Index := 0#32
  ![0, v986.toNat, 16, 0]
def k0_off14 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v991 : Index := Scalar.indexCast v2
  let c16_441 : Index := 16#32
  let c0_442 : Index := 0#32
  ![v991.toNat, 16, 0]
def k0_off15 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1005 : Index := Scalar.indexCast v2
  let c80 : Index := 80#32
  let c0_445 : Index := 0#32
  ![v1005.toNat, 80, 0]
def k0_off16 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1019 : Index := Scalar.indexCast v2
  let c144 : Index := 144#32
  let c0_448 : Index := 0#32
  ![v1019.toNat, 144, 0]
def k0_off17 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1033 : Index := Scalar.indexCast v2
  let c208 : Index := 208#32
  let c0_451 : Index := 0#32
  ![v1033.toNat, 208, 0]
def k0_off18 (k0_t1 : Fin k0_t1_loop.trips) : Fin 4 → Nat :=
  let c0_454 : Index := 0#32
  let c0_i32_396 : BitVec 32 := 0#32
  let c0_i32_1 : BitVec 32 := 0#32
  let c1_i32 : BitVec 32 := 1#32
  let arg14 : BitVec 32 := Scf.iv c0_i32_1 c1_i32 k0_t1
  let c1_i32_395 : BitVec 32 := 1#32
  let v841 : BitVec 32 := Scalar.muli arg14 c1_i32_395
  let v842 : BitVec 32 := Scalar.addi c0_i32_396 v841
  let v1047 : Index := Scalar.indexCast v842
  let c24 : Index := 24#32
  let c0_455 : Index := 0#32
  ![0, v1047.toNat, 24, 0]
def k0_off19 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1052 : Index := Scalar.indexCast v2
  let c24_456 : Index := 24#32
  let c0_457 : Index := 0#32
  ![v1052.toNat, 24, 0]
def k0_off20 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1066 : Index := Scalar.indexCast v2
  let c88 : Index := 88#32
  let c0_460 : Index := 0#32
  ![v1066.toNat, 88, 0]
def k0_off21 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1080 : Index := Scalar.indexCast v2
  let c152 : Index := 152#32
  let c0_463 : Index := 0#32
  ![v1080.toNat, 152, 0]
def k0_off22 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1094 : Index := Scalar.indexCast v2
  let c216 : Index := 216#32
  let c0_466 : Index := 0#32
  ![v1094.toNat, 216, 0]
def k0_off23 (k0_t1 : Fin k0_t1_loop.trips) : Fin 4 → Nat :=
  let c0_469 : Index := 0#32
  let c0_i32_396 : BitVec 32 := 0#32
  let c0_i32_1 : BitVec 32 := 0#32
  let c1_i32 : BitVec 32 := 1#32
  let arg14 : BitVec 32 := Scf.iv c0_i32_1 c1_i32 k0_t1
  let c1_i32_395 : BitVec 32 := 1#32
  let v841 : BitVec 32 := Scalar.muli arg14 c1_i32_395
  let v842 : BitVec 32 := Scalar.addi c0_i32_396 v841
  let v1108 : Index := Scalar.indexCast v842
  let c32 : Index := 32#32
  let c0_470 : Index := 0#32
  ![0, v1108.toNat, 32, 0]
def k0_off24 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1113 : Index := Scalar.indexCast v2
  let c32_471 : Index := 32#32
  let c0_472 : Index := 0#32
  ![v1113.toNat, 32, 0]
def k0_off25 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1127 : Index := Scalar.indexCast v2
  let c96 : Index := 96#32
  let c0_475 : Index := 0#32
  ![v1127.toNat, 96, 0]
def k0_off26 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1141 : Index := Scalar.indexCast v2
  let c160 : Index := 160#32
  let c0_478 : Index := 0#32
  ![v1141.toNat, 160, 0]
def k0_off27 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1155 : Index := Scalar.indexCast v2
  let c224 : Index := 224#32
  let c0_481 : Index := 0#32
  ![v1155.toNat, 224, 0]
def k0_off28 (k0_t1 : Fin k0_t1_loop.trips) : Fin 4 → Nat :=
  let c0_484 : Index := 0#32
  let c0_i32_396 : BitVec 32 := 0#32
  let c0_i32_1 : BitVec 32 := 0#32
  let c1_i32 : BitVec 32 := 1#32
  let arg14 : BitVec 32 := Scf.iv c0_i32_1 c1_i32 k0_t1
  let c1_i32_395 : BitVec 32 := 1#32
  let v841 : BitVec 32 := Scalar.muli arg14 c1_i32_395
  let v842 : BitVec 32 := Scalar.addi c0_i32_396 v841
  let v1169 : Index := Scalar.indexCast v842
  let c40 : Index := 40#32
  let c0_485 : Index := 0#32
  ![0, v1169.toNat, 40, 0]
def k0_off29 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1174 : Index := Scalar.indexCast v2
  let c40_486 : Index := 40#32
  let c0_487 : Index := 0#32
  ![v1174.toNat, 40, 0]
def k0_off30 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1188 : Index := Scalar.indexCast v2
  let c104 : Index := 104#32
  let c0_490 : Index := 0#32
  ![v1188.toNat, 104, 0]
def k0_off31 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1202 : Index := Scalar.indexCast v2
  let c168 : Index := 168#32
  let c0_493 : Index := 0#32
  ![v1202.toNat, 168, 0]
def k0_off32 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1216 : Index := Scalar.indexCast v2
  let c232 : Index := 232#32
  let c0_496 : Index := 0#32
  ![v1216.toNat, 232, 0]
def k0_off33 (k0_t1 : Fin k0_t1_loop.trips) : Fin 4 → Nat :=
  let c0_499 : Index := 0#32
  let c0_i32_396 : BitVec 32 := 0#32
  let c0_i32_1 : BitVec 32 := 0#32
  let c1_i32 : BitVec 32 := 1#32
  let arg14 : BitVec 32 := Scf.iv c0_i32_1 c1_i32 k0_t1
  let c1_i32_395 : BitVec 32 := 1#32
  let v841 : BitVec 32 := Scalar.muli arg14 c1_i32_395
  let v842 : BitVec 32 := Scalar.addi c0_i32_396 v841
  let v1230 : Index := Scalar.indexCast v842
  let c48 : Index := 48#32
  let c0_500 : Index := 0#32
  ![0, v1230.toNat, 48, 0]
def k0_off34 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1235 : Index := Scalar.indexCast v2
  let c48_501 : Index := 48#32
  let c0_502 : Index := 0#32
  ![v1235.toNat, 48, 0]
def k0_off35 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1249 : Index := Scalar.indexCast v2
  let c112 : Index := 112#32
  let c0_505 : Index := 0#32
  ![v1249.toNat, 112, 0]
def k0_off36 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1263 : Index := Scalar.indexCast v2
  let c176 : Index := 176#32
  let c0_508 : Index := 0#32
  ![v1263.toNat, 176, 0]
def k0_off37 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1277 : Index := Scalar.indexCast v2
  let c240 : Index := 240#32
  let c0_511 : Index := 0#32
  ![v1277.toNat, 240, 0]
def k0_off38 (k0_t1 : Fin k0_t1_loop.trips) : Fin 4 → Nat :=
  let c0_514 : Index := 0#32
  let c0_i32_396 : BitVec 32 := 0#32
  let c0_i32_1 : BitVec 32 := 0#32
  let c1_i32 : BitVec 32 := 1#32
  let arg14 : BitVec 32 := Scf.iv c0_i32_1 c1_i32 k0_t1
  let c1_i32_395 : BitVec 32 := 1#32
  let v841 : BitVec 32 := Scalar.muli arg14 c1_i32_395
  let v842 : BitVec 32 := Scalar.addi c0_i32_396 v841
  let v1291 : Index := Scalar.indexCast v842
  let c56 : Index := 56#32
  let c0_515 : Index := 0#32
  ![0, v1291.toNat, 56, 0]
def k0_off39 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1296 : Index := Scalar.indexCast v2
  let c56_516 : Index := 56#32
  let c0_517 : Index := 0#32
  ![v1296.toNat, 56, 0]
def k0_off40 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1310 : Index := Scalar.indexCast v2
  let c120 : Index := 120#32
  let c0_520 : Index := 0#32
  ![v1310.toNat, 120, 0]
def k0_off41 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1324 : Index := Scalar.indexCast v2
  let c184 : Index := 184#32
  let c0_523 : Index := 0#32
  ![v1324.toNat, 184, 0]
def k0_off42 (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c4_i32 : BitVec 32 := 4#32
  let v2 : BitVec 32 := Scalar.shrui v1 c4_i32
  let v1338 : Index := Scalar.indexCast v2
  let c248 : Index := 248#32
  let c0_526 : Index := 0#32
  ![v1338.toNat, 248, 0]
@[reducible] def k0_t2_loop : Scf.Loop 32 :=
  let c0_i32_9 : BitVec 32 := 0#32
  let c8_i32_10 : BitVec 32 := 8#32
  let v11 : BitVec 32 := Scalar.addi c0_i32_9 c8_i32_10
  let c1_i32_11 : BitVec 32 := 1#32
  ⟨c0_i32_9, v11, c1_i32_11⟩
def k0_off43 (i : grid0.Coords) : Fin 1 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let v846 : Index := Scalar.indexCast v7
  ![v846.toNat]
def k0_mult2 (k0_t2 : Fin k0_t2_loop.trips) : BitVec 32 :=
  let c0_i32_396 : BitVec 32 := 0#32
  let c0_i32_9 : BitVec 32 := 0#32
  let c1_i32_11 : BitVec 32 := 1#32
  let arg14 : BitVec 32 := Scf.iv c0_i32_9 c1_i32_11 k0_t2
  let c1_i32_395 : BitVec 32 := 1#32
  let v841 : BitVec 32 := Scalar.muli arg14 c1_i32_395
  let v842 : BitVec 32 := Scalar.addi c0_i32_396 v841
  let c128_i32_400 : BitVec 32 := 128#32
  let v851 : BitVec 32 := Scalar.muli v842 c128_i32_400
  v851
def k0_off44 (k0_t2 : Fin k0_t2_loop.trips) : Fin 2 → Nat :=
  let c1_401 : Index := 1#32
  let c0_i32_396 : BitVec 32 := 0#32
  let c0_i32_9 : BitVec 32 := 0#32
  let c1_i32_11 : BitVec 32 := 1#32
  let arg14 : BitVec 32 := Scf.iv c0_i32_9 c1_i32_11 k0_t2
  let c1_i32_395 : BitVec 32 := 1#32
  let v841 : BitVec 32 := Scalar.muli arg14 c1_i32_395
  let v842 : BitVec 32 := Scalar.addi c0_i32_396 v841
  let c128_i32_400 : BitVec 32 := 128#32
  let v851 : BitVec 32 := Scalar.muli v842 c128_i32_400
  let v852 : BitVec 32 := v851
  let v853 : Index := Scalar.indexCast v852
  ![1, v853.toNat]
def k0_off45 (k0_t2 : Fin k0_t2_loop.trips) : Fin 4 → Nat :=
  let c1_407 : Index := 1#32
  let c0_i32_396 : BitVec 32 := 0#32
  let c0_i32_9 : BitVec 32 := 0#32
  let c1_i32_11 : BitVec 32 := 1#32
  let arg14 : BitVec 32 := Scf.iv c0_i32_9 c1_i32_11 k0_t2
  let c1_i32_395 : BitVec 32 := 1#32
  let v841 : BitVec 32 := Scalar.muli arg14 c1_i32_395
  let v842 : BitVec 32 := Scalar.addi c0_i32_396 v841
  let v864 : Index := Scalar.indexCast v842
  let c0_408 : Index := 0#32
  let c0_409 : Index := 0#32
  ![1, v864.toNat, 0, 0]
def k0_off46 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v869 : Index := Scalar.indexCast v8
  let c0_410 : Index := 0#32
  let c0_411 : Index := 0#32
  ![v869.toNat, 0, 0]
def k0_off47 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v883 : Index := Scalar.indexCast v8
  let c64 : Index := 64#32
  let c0_414 : Index := 0#32
  ![v883.toNat, 64, 0]
def k0_off48 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v897 : Index := Scalar.indexCast v8
  let c128_417 : Index := 128#32
  let c0_418 : Index := 0#32
  ![v897.toNat, 128, 0]
def k0_off49 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v911 : Index := Scalar.indexCast v8
  let c192 : Index := 192#32
  let c0_421 : Index := 0#32
  ![v911.toNat, 192, 0]
def k0_off50 (k0_t2 : Fin k0_t2_loop.trips) : Fin 4 → Nat :=
  let c1_424 : Index := 1#32
  let c0_i32_396 : BitVec 32 := 0#32
  let c0_i32_9 : BitVec 32 := 0#32
  let c1_i32_11 : BitVec 32 := 1#32
  let arg14 : BitVec 32 := Scf.iv c0_i32_9 c1_i32_11 k0_t2
  let c1_i32_395 : BitVec 32 := 1#32
  let v841 : BitVec 32 := Scalar.muli arg14 c1_i32_395
  let v842 : BitVec 32 := Scalar.addi c0_i32_396 v841
  let v925 : Index := Scalar.indexCast v842
  let c8 : Index := 8#32
  let c0_425 : Index := 0#32
  ![1, v925.toNat, 8, 0]
def k0_off51 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v930 : Index := Scalar.indexCast v8
  let c8_426 : Index := 8#32
  let c0_427 : Index := 0#32
  ![v930.toNat, 8, 0]
def k0_off52 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v944 : Index := Scalar.indexCast v8
  let c72 : Index := 72#32
  let c0_430 : Index := 0#32
  ![v944.toNat, 72, 0]
def k0_off53 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v958 : Index := Scalar.indexCast v8
  let c136 : Index := 136#32
  let c0_433 : Index := 0#32
  ![v958.toNat, 136, 0]
def k0_off54 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v972 : Index := Scalar.indexCast v8
  let c200 : Index := 200#32
  let c0_436 : Index := 0#32
  ![v972.toNat, 200, 0]
def k0_off55 (k0_t2 : Fin k0_t2_loop.trips) : Fin 4 → Nat :=
  let c1_439 : Index := 1#32
  let c0_i32_396 : BitVec 32 := 0#32
  let c0_i32_9 : BitVec 32 := 0#32
  let c1_i32_11 : BitVec 32 := 1#32
  let arg14 : BitVec 32 := Scf.iv c0_i32_9 c1_i32_11 k0_t2
  let c1_i32_395 : BitVec 32 := 1#32
  let v841 : BitVec 32 := Scalar.muli arg14 c1_i32_395
  let v842 : BitVec 32 := Scalar.addi c0_i32_396 v841
  let v986 : Index := Scalar.indexCast v842
  let c16 : Index := 16#32
  let c0_440 : Index := 0#32
  ![1, v986.toNat, 16, 0]
def k0_off56 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v991 : Index := Scalar.indexCast v8
  let c16_441 : Index := 16#32
  let c0_442 : Index := 0#32
  ![v991.toNat, 16, 0]
def k0_off57 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1005 : Index := Scalar.indexCast v8
  let c80 : Index := 80#32
  let c0_445 : Index := 0#32
  ![v1005.toNat, 80, 0]
def k0_off58 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1019 : Index := Scalar.indexCast v8
  let c144 : Index := 144#32
  let c0_448 : Index := 0#32
  ![v1019.toNat, 144, 0]
def k0_off59 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1033 : Index := Scalar.indexCast v8
  let c208 : Index := 208#32
  let c0_451 : Index := 0#32
  ![v1033.toNat, 208, 0]
def k0_off60 (k0_t2 : Fin k0_t2_loop.trips) : Fin 4 → Nat :=
  let c1_454 : Index := 1#32
  let c0_i32_396 : BitVec 32 := 0#32
  let c0_i32_9 : BitVec 32 := 0#32
  let c1_i32_11 : BitVec 32 := 1#32
  let arg14 : BitVec 32 := Scf.iv c0_i32_9 c1_i32_11 k0_t2
  let c1_i32_395 : BitVec 32 := 1#32
  let v841 : BitVec 32 := Scalar.muli arg14 c1_i32_395
  let v842 : BitVec 32 := Scalar.addi c0_i32_396 v841
  let v1047 : Index := Scalar.indexCast v842
  let c24 : Index := 24#32
  let c0_455 : Index := 0#32
  ![1, v1047.toNat, 24, 0]
def k0_off61 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1052 : Index := Scalar.indexCast v8
  let c24_456 : Index := 24#32
  let c0_457 : Index := 0#32
  ![v1052.toNat, 24, 0]
def k0_off62 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1066 : Index := Scalar.indexCast v8
  let c88 : Index := 88#32
  let c0_460 : Index := 0#32
  ![v1066.toNat, 88, 0]
def k0_off63 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1080 : Index := Scalar.indexCast v8
  let c152 : Index := 152#32
  let c0_463 : Index := 0#32
  ![v1080.toNat, 152, 0]
def k0_off64 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1094 : Index := Scalar.indexCast v8
  let c216 : Index := 216#32
  let c0_466 : Index := 0#32
  ![v1094.toNat, 216, 0]
def k0_off65 (k0_t2 : Fin k0_t2_loop.trips) : Fin 4 → Nat :=
  let c1_469 : Index := 1#32
  let c0_i32_396 : BitVec 32 := 0#32
  let c0_i32_9 : BitVec 32 := 0#32
  let c1_i32_11 : BitVec 32 := 1#32
  let arg14 : BitVec 32 := Scf.iv c0_i32_9 c1_i32_11 k0_t2
  let c1_i32_395 : BitVec 32 := 1#32
  let v841 : BitVec 32 := Scalar.muli arg14 c1_i32_395
  let v842 : BitVec 32 := Scalar.addi c0_i32_396 v841
  let v1108 : Index := Scalar.indexCast v842
  let c32 : Index := 32#32
  let c0_470 : Index := 0#32
  ![1, v1108.toNat, 32, 0]
def k0_off66 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1113 : Index := Scalar.indexCast v8
  let c32_471 : Index := 32#32
  let c0_472 : Index := 0#32
  ![v1113.toNat, 32, 0]
def k0_off67 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1127 : Index := Scalar.indexCast v8
  let c96 : Index := 96#32
  let c0_475 : Index := 0#32
  ![v1127.toNat, 96, 0]
def k0_off68 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1141 : Index := Scalar.indexCast v8
  let c160 : Index := 160#32
  let c0_478 : Index := 0#32
  ![v1141.toNat, 160, 0]
def k0_off69 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1155 : Index := Scalar.indexCast v8
  let c224 : Index := 224#32
  let c0_481 : Index := 0#32
  ![v1155.toNat, 224, 0]
def k0_off70 (k0_t2 : Fin k0_t2_loop.trips) : Fin 4 → Nat :=
  let c1_484 : Index := 1#32
  let c0_i32_396 : BitVec 32 := 0#32
  let c0_i32_9 : BitVec 32 := 0#32
  let c1_i32_11 : BitVec 32 := 1#32
  let arg14 : BitVec 32 := Scf.iv c0_i32_9 c1_i32_11 k0_t2
  let c1_i32_395 : BitVec 32 := 1#32
  let v841 : BitVec 32 := Scalar.muli arg14 c1_i32_395
  let v842 : BitVec 32 := Scalar.addi c0_i32_396 v841
  let v1169 : Index := Scalar.indexCast v842
  let c40 : Index := 40#32
  let c0_485 : Index := 0#32
  ![1, v1169.toNat, 40, 0]
def k0_off71 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1174 : Index := Scalar.indexCast v8
  let c40_486 : Index := 40#32
  let c0_487 : Index := 0#32
  ![v1174.toNat, 40, 0]
def k0_off72 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1188 : Index := Scalar.indexCast v8
  let c104 : Index := 104#32
  let c0_490 : Index := 0#32
  ![v1188.toNat, 104, 0]
def k0_off73 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1202 : Index := Scalar.indexCast v8
  let c168 : Index := 168#32
  let c0_493 : Index := 0#32
  ![v1202.toNat, 168, 0]
def k0_off74 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1216 : Index := Scalar.indexCast v8
  let c232 : Index := 232#32
  let c0_496 : Index := 0#32
  ![v1216.toNat, 232, 0]
def k0_off75 (k0_t2 : Fin k0_t2_loop.trips) : Fin 4 → Nat :=
  let c1_499 : Index := 1#32
  let c0_i32_396 : BitVec 32 := 0#32
  let c0_i32_9 : BitVec 32 := 0#32
  let c1_i32_11 : BitVec 32 := 1#32
  let arg14 : BitVec 32 := Scf.iv c0_i32_9 c1_i32_11 k0_t2
  let c1_i32_395 : BitVec 32 := 1#32
  let v841 : BitVec 32 := Scalar.muli arg14 c1_i32_395
  let v842 : BitVec 32 := Scalar.addi c0_i32_396 v841
  let v1230 : Index := Scalar.indexCast v842
  let c48 : Index := 48#32
  let c0_500 : Index := 0#32
  ![1, v1230.toNat, 48, 0]
def k0_off76 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1235 : Index := Scalar.indexCast v8
  let c48_501 : Index := 48#32
  let c0_502 : Index := 0#32
  ![v1235.toNat, 48, 0]
def k0_off77 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1249 : Index := Scalar.indexCast v8
  let c112 : Index := 112#32
  let c0_505 : Index := 0#32
  ![v1249.toNat, 112, 0]
def k0_off78 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1263 : Index := Scalar.indexCast v8
  let c176 : Index := 176#32
  let c0_508 : Index := 0#32
  ![v1263.toNat, 176, 0]
def k0_off79 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1277 : Index := Scalar.indexCast v8
  let c240 : Index := 240#32
  let c0_511 : Index := 0#32
  ![v1277.toNat, 240, 0]
def k0_off80 (k0_t2 : Fin k0_t2_loop.trips) : Fin 4 → Nat :=
  let c1_514 : Index := 1#32
  let c0_i32_396 : BitVec 32 := 0#32
  let c0_i32_9 : BitVec 32 := 0#32
  let c1_i32_11 : BitVec 32 := 1#32
  let arg14 : BitVec 32 := Scf.iv c0_i32_9 c1_i32_11 k0_t2
  let c1_i32_395 : BitVec 32 := 1#32
  let v841 : BitVec 32 := Scalar.muli arg14 c1_i32_395
  let v842 : BitVec 32 := Scalar.addi c0_i32_396 v841
  let v1291 : Index := Scalar.indexCast v842
  let c56 : Index := 56#32
  let c0_515 : Index := 0#32
  ![1, v1291.toNat, 56, 0]
def k0_off81 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1296 : Index := Scalar.indexCast v8
  let c56_516 : Index := 56#32
  let c0_517 : Index := 0#32
  ![v1296.toNat, 56, 0]
def k0_off82 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1310 : Index := Scalar.indexCast v8
  let c120 : Index := 120#32
  let c0_520 : Index := 0#32
  ![v1310.toNat, 120, 0]
def k0_off83 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1324 : Index := Scalar.indexCast v8
  let c184 : Index := 184#32
  let c0_523 : Index := 0#32
  ![v1324.toNat, 184, 0]
def k0_off84 (i : grid0.Coords) : Fin 3 → Nat :=
  let arg0 : BitVec 32 := BitVec.ofNat 32 (i 0).val
  let c8_i32_4 : BitVec 32 := 8#32
  let v6 : BitVec 32 := Scalar.muli arg0 c8_i32_4
  let c1_i32_5 : BitVec 32 := 1#32
  let v7 : BitVec 32 := Scalar.addi v6 c1_i32_5
  let c4_i32_6 : BitVec 32 := 4#32
  let v8 : BitVec 32 := Scalar.shrui v7 c4_i32_6
  let v1338 : Index := Scalar.indexCast v8
  let c248 : Index := 248#32
  let c0_526 : Index := 0#32
  ![v1338.toNat, 248, 0]
@[reducible] def k0_t3_loop : Scf.Loop 32 :=
  let c0_i32_17 : BitVec 32 := 0#32
  let c8_i32_18 : BitVec 32 := 8#32
  let v17 : BitVec 32 := Scalar.addi c0_i32_17 c8_i32_18
  let c1_i32_19 : BitVec 32 := 1#32
  ⟨c0_i32_17, v17, c1_i32_19⟩
def k0_off85 (i : grid0.Coords) : Fin 1 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let v846 : Index := Scalar.indexCast v13
  ![v846.toNat]
def k0_mult3 (k0_t3 : Fin k0_t3_loop.trips) : BitVec 32 :=
  let c0_i32_396 : BitVec 32 := 0#32
  let c0_i32_17 : BitVec 32 := 0#32
  let c1_i32_19 : BitVec 32 := 1#32
  let arg14 : BitVec 32 := Scf.iv c0_i32_17 c1_i32_19 k0_t3
  let c1_i32_395 : BitVec 32 := 1#32
  let v841 : BitVec 32 := Scalar.muli arg14 c1_i32_395
  let v842 : BitVec 32 := Scalar.addi c0_i32_396 v841
  let c128_i32_400 : BitVec 32 := 128#32
  let v851 : BitVec 32 := Scalar.muli v842 c128_i32_400
  v851
def k0_off86 (k0_t3 : Fin k0_t3_loop.trips) : Fin 2 → Nat :=
  let c2_401 : Index := 2#32
  let c0_i32_396 : BitVec 32 := 0#32
  let c0_i32_17 : BitVec 32 := 0#32
  let c1_i32_19 : BitVec 32 := 1#32
  let arg14 : BitVec 32 := Scf.iv c0_i32_17 c1_i32_19 k0_t3
  let c1_i32_395 : BitVec 32 := 1#32
  let v841 : BitVec 32 := Scalar.muli arg14 c1_i32_395
  let v842 : BitVec 32 := Scalar.addi c0_i32_396 v841
  let c128_i32_400 : BitVec 32 := 128#32
  let v851 : BitVec 32 := Scalar.muli v842 c128_i32_400
  let v852 : BitVec 32 := v851
  let v853 : Index := Scalar.indexCast v852
  ![2, v853.toNat]
def k0_off87 (k0_t3 : Fin k0_t3_loop.trips) : Fin 4 → Nat :=
  let c2_407 : Index := 2#32
  let c0_i32_396 : BitVec 32 := 0#32
  let c0_i32_17 : BitVec 32 := 0#32
  let c1_i32_19 : BitVec 32 := 1#32
  let arg14 : BitVec 32 := Scf.iv c0_i32_17 c1_i32_19 k0_t3
  let c1_i32_395 : BitVec 32 := 1#32
  let v841 : BitVec 32 := Scalar.muli arg14 c1_i32_395
  let v842 : BitVec 32 := Scalar.addi c0_i32_396 v841
  let v864 : Index := Scalar.indexCast v842
  let c0_408 : Index := 0#32
  let c0_409 : Index := 0#32
  ![2, v864.toNat, 0, 0]
def k0_off88 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v869 : Index := Scalar.indexCast v14
  let c0_410 : Index := 0#32
  let c0_411 : Index := 0#32
  ![v869.toNat, 0, 0]
def k0_off89 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v883 : Index := Scalar.indexCast v14
  let c64 : Index := 64#32
  let c0_414 : Index := 0#32
  ![v883.toNat, 64, 0]
def k0_off90 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v897 : Index := Scalar.indexCast v14
  let c128_417 : Index := 128#32
  let c0_418 : Index := 0#32
  ![v897.toNat, 128, 0]
def k0_off91 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v911 : Index := Scalar.indexCast v14
  let c192 : Index := 192#32
  let c0_421 : Index := 0#32
  ![v911.toNat, 192, 0]
def k0_off92 (k0_t3 : Fin k0_t3_loop.trips) : Fin 4 → Nat :=
  let c2_424 : Index := 2#32
  let c0_i32_396 : BitVec 32 := 0#32
  let c0_i32_17 : BitVec 32 := 0#32
  let c1_i32_19 : BitVec 32 := 1#32
  let arg14 : BitVec 32 := Scf.iv c0_i32_17 c1_i32_19 k0_t3
  let c1_i32_395 : BitVec 32 := 1#32
  let v841 : BitVec 32 := Scalar.muli arg14 c1_i32_395
  let v842 : BitVec 32 := Scalar.addi c0_i32_396 v841
  let v925 : Index := Scalar.indexCast v842
  let c8 : Index := 8#32
  let c0_425 : Index := 0#32
  ![2, v925.toNat, 8, 0]
def k0_off93 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v930 : Index := Scalar.indexCast v14
  let c8_426 : Index := 8#32
  let c0_427 : Index := 0#32
  ![v930.toNat, 8, 0]
def k0_off94 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v944 : Index := Scalar.indexCast v14
  let c72 : Index := 72#32
  let c0_430 : Index := 0#32
  ![v944.toNat, 72, 0]
def k0_off95 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v958 : Index := Scalar.indexCast v14
  let c136 : Index := 136#32
  let c0_433 : Index := 0#32
  ![v958.toNat, 136, 0]
def k0_off96 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v972 : Index := Scalar.indexCast v14
  let c200 : Index := 200#32
  let c0_436 : Index := 0#32
  ![v972.toNat, 200, 0]
def k0_off97 (k0_t3 : Fin k0_t3_loop.trips) : Fin 4 → Nat :=
  let c2_439 : Index := 2#32
  let c0_i32_396 : BitVec 32 := 0#32
  let c0_i32_17 : BitVec 32 := 0#32
  let c1_i32_19 : BitVec 32 := 1#32
  let arg14 : BitVec 32 := Scf.iv c0_i32_17 c1_i32_19 k0_t3
  let c1_i32_395 : BitVec 32 := 1#32
  let v841 : BitVec 32 := Scalar.muli arg14 c1_i32_395
  let v842 : BitVec 32 := Scalar.addi c0_i32_396 v841
  let v986 : Index := Scalar.indexCast v842
  let c16 : Index := 16#32
  let c0_440 : Index := 0#32
  ![2, v986.toNat, 16, 0]
def k0_off98 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v991 : Index := Scalar.indexCast v14
  let c16_441 : Index := 16#32
  let c0_442 : Index := 0#32
  ![v991.toNat, 16, 0]
def k0_off99 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1005 : Index := Scalar.indexCast v14
  let c80 : Index := 80#32
  let c0_445 : Index := 0#32
  ![v1005.toNat, 80, 0]
def k0_off100 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1019 : Index := Scalar.indexCast v14
  let c144 : Index := 144#32
  let c0_448 : Index := 0#32
  ![v1019.toNat, 144, 0]
def k0_off101 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1033 : Index := Scalar.indexCast v14
  let c208 : Index := 208#32
  let c0_451 : Index := 0#32
  ![v1033.toNat, 208, 0]
def k0_off102 (k0_t3 : Fin k0_t3_loop.trips) : Fin 4 → Nat :=
  let c2_454 : Index := 2#32
  let c0_i32_396 : BitVec 32 := 0#32
  let c0_i32_17 : BitVec 32 := 0#32
  let c1_i32_19 : BitVec 32 := 1#32
  let arg14 : BitVec 32 := Scf.iv c0_i32_17 c1_i32_19 k0_t3
  let c1_i32_395 : BitVec 32 := 1#32
  let v841 : BitVec 32 := Scalar.muli arg14 c1_i32_395
  let v842 : BitVec 32 := Scalar.addi c0_i32_396 v841
  let v1047 : Index := Scalar.indexCast v842
  let c24 : Index := 24#32
  let c0_455 : Index := 0#32
  ![2, v1047.toNat, 24, 0]
def k0_off103 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1052 : Index := Scalar.indexCast v14
  let c24_456 : Index := 24#32
  let c0_457 : Index := 0#32
  ![v1052.toNat, 24, 0]
def k0_off104 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1066 : Index := Scalar.indexCast v14
  let c88 : Index := 88#32
  let c0_460 : Index := 0#32
  ![v1066.toNat, 88, 0]
def k0_off105 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1080 : Index := Scalar.indexCast v14
  let c152 : Index := 152#32
  let c0_463 : Index := 0#32
  ![v1080.toNat, 152, 0]
def k0_off106 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1094 : Index := Scalar.indexCast v14
  let c216 : Index := 216#32
  let c0_466 : Index := 0#32
  ![v1094.toNat, 216, 0]
def k0_off107 (k0_t3 : Fin k0_t3_loop.trips) : Fin 4 → Nat :=
  let c2_469 : Index := 2#32
  let c0_i32_396 : BitVec 32 := 0#32
  let c0_i32_17 : BitVec 32 := 0#32
  let c1_i32_19 : BitVec 32 := 1#32
  let arg14 : BitVec 32 := Scf.iv c0_i32_17 c1_i32_19 k0_t3
  let c1_i32_395 : BitVec 32 := 1#32
  let v841 : BitVec 32 := Scalar.muli arg14 c1_i32_395
  let v842 : BitVec 32 := Scalar.addi c0_i32_396 v841
  let v1108 : Index := Scalar.indexCast v842
  let c32 : Index := 32#32
  let c0_470 : Index := 0#32
  ![2, v1108.toNat, 32, 0]
def k0_off108 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1113 : Index := Scalar.indexCast v14
  let c32_471 : Index := 32#32
  let c0_472 : Index := 0#32
  ![v1113.toNat, 32, 0]
def k0_off109 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1127 : Index := Scalar.indexCast v14
  let c96 : Index := 96#32
  let c0_475 : Index := 0#32
  ![v1127.toNat, 96, 0]
def k0_off110 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1141 : Index := Scalar.indexCast v14
  let c160 : Index := 160#32
  let c0_478 : Index := 0#32
  ![v1141.toNat, 160, 0]
def k0_off111 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1155 : Index := Scalar.indexCast v14
  let c224 : Index := 224#32
  let c0_481 : Index := 0#32
  ![v1155.toNat, 224, 0]
def k0_off112 (k0_t3 : Fin k0_t3_loop.trips) : Fin 4 → Nat :=
  let c2_484 : Index := 2#32
  let c0_i32_396 : BitVec 32 := 0#32
  let c0_i32_17 : BitVec 32 := 0#32
  let c1_i32_19 : BitVec 32 := 1#32
  let arg14 : BitVec 32 := Scf.iv c0_i32_17 c1_i32_19 k0_t3
  let c1_i32_395 : BitVec 32 := 1#32
  let v841 : BitVec 32 := Scalar.muli arg14 c1_i32_395
  let v842 : BitVec 32 := Scalar.addi c0_i32_396 v841
  let v1169 : Index := Scalar.indexCast v842
  let c40 : Index := 40#32
  let c0_485 : Index := 0#32
  ![2, v1169.toNat, 40, 0]
def k0_off113 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1174 : Index := Scalar.indexCast v14
  let c40_486 : Index := 40#32
  let c0_487 : Index := 0#32
  ![v1174.toNat, 40, 0]
def k0_off114 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1188 : Index := Scalar.indexCast v14
  let c104 : Index := 104#32
  let c0_490 : Index := 0#32
  ![v1188.toNat, 104, 0]
def k0_off115 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1202 : Index := Scalar.indexCast v14
  let c168 : Index := 168#32
  let c0_493 : Index := 0#32
  ![v1202.toNat, 168, 0]
def k0_off116 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1216 : Index := Scalar.indexCast v14
  let c232 : Index := 232#32
  let c0_496 : Index := 0#32
  ![v1216.toNat, 232, 0]
def k0_off117 (k0_t3 : Fin k0_t3_loop.trips) : Fin 4 → Nat :=
  let c2_499 : Index := 2#32
  let c0_i32_396 : BitVec 32 := 0#32
  let c0_i32_17 : BitVec 32 := 0#32
  let c1_i32_19 : BitVec 32 := 1#32
  let arg14 : BitVec 32 := Scf.iv c0_i32_17 c1_i32_19 k0_t3
  let c1_i32_395 : BitVec 32 := 1#32
  let v841 : BitVec 32 := Scalar.muli arg14 c1_i32_395
  let v842 : BitVec 32 := Scalar.addi c0_i32_396 v841
  let v1230 : Index := Scalar.indexCast v842
  let c48 : Index := 48#32
  let c0_500 : Index := 0#32
  ![2, v1230.toNat, 48, 0]
def k0_off118 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1235 : Index := Scalar.indexCast v14
  let c48_501 : Index := 48#32
  let c0_502 : Index := 0#32
  ![v1235.toNat, 48, 0]
def k0_off119 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1249 : Index := Scalar.indexCast v14
  let c112 : Index := 112#32
  let c0_505 : Index := 0#32
  ![v1249.toNat, 112, 0]
def k0_off120 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1263 : Index := Scalar.indexCast v14
  let c176 : Index := 176#32
  let c0_508 : Index := 0#32
  ![v1263.toNat, 176, 0]
def k0_off121 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1277 : Index := Scalar.indexCast v14
  let c240 : Index := 240#32
  let c0_511 : Index := 0#32
  ![v1277.toNat, 240, 0]
def k0_off122 (k0_t3 : Fin k0_t3_loop.trips) : Fin 4 → Nat :=
  let c2_514 : Index := 2#32
  let c0_i32_396 : BitVec 32 := 0#32
  let c0_i32_17 : BitVec 32 := 0#32
  let c1_i32_19 : BitVec 32 := 1#32
  let arg14 : BitVec 32 := Scf.iv c0_i32_17 c1_i32_19 k0_t3
  let c1_i32_395 : BitVec 32 := 1#32
  let v841 : BitVec 32 := Scalar.muli arg14 c1_i32_395
  let v842 : BitVec 32 := Scalar.addi c0_i32_396 v841
  let v1291 : Index := Scalar.indexCast v842
  let c56 : Index := 56#32
  let c0_515 : Index := 0#32
  ![2, v1291.toNat, 56, 0]
def k0_off123 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1296 : Index := Scalar.indexCast v14
  let c56_516 : Index := 56#32
  let c0_517 : Index := 0#32
  ![v1296.toNat, 56, 0]
def k0_off124 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1310 : Index := Scalar.indexCast v14
  let c120 : Index := 120#32
  let c0_520 : Index := 0#32
  ![v1310.toNat, 120, 0]
def k0_off125 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1324 : Index := Scalar.indexCast v14
  let c184 : Index := 184#32
  let c0_523 : Index := 0#32
  ![v1324.toNat, 184, 0]
def k0_off126 (i : grid0.Coords) : Fin 3 → Nat :=
  let arg0 : BitVec 32 := BitVec.ofNat 32 (i 0).val
  let c8_i32_13 : BitVec 32 := 8#32
  let v12 : BitVec 32 := Scalar.muli arg0 c8_i32_13
  let c2_i32 : BitVec 32 := 2#32
  let v13 : BitVec 32 := Scalar.addi v12 c2_i32
  let c4_i32_14 : BitVec 32 := 4#32
  let v14 : BitVec 32 := Scalar.shrui v13 c4_i32_14
  let v1338 : Index := Scalar.indexCast v14
  let c248 : Index := 248#32
  let c0_526 : Index := 0#32
  ![v1338.toNat, 248, 0]
@[reducible] def k0_t4_loop : Scf.Loop 32 :=
  let c0_i32_25 : BitVec 32 := 0#32
  let c8_i32_26 : BitVec 32 := 8#32
  let v23 : BitVec 32 := Scalar.addi c0_i32_25 c8_i32_26
  let c1_i32_27 : BitVec 32 := 1#32
  ⟨c0_i32_25, v23, c1_i32_27⟩
def k0_off127 (i : grid0.Coords) : Fin 1 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let v846 : Index := Scalar.indexCast v19
  ![v846.toNat]
def k0_mult4 (k0_t4 : Fin k0_t4_loop.trips) : BitVec 32 :=
  let c0_i32_396 : BitVec 32 := 0#32
  let c0_i32_25 : BitVec 32 := 0#32
  let c1_i32_27 : BitVec 32 := 1#32
  let arg14 : BitVec 32 := Scf.iv c0_i32_25 c1_i32_27 k0_t4
  let c1_i32_395 : BitVec 32 := 1#32
  let v841 : BitVec 32 := Scalar.muli arg14 c1_i32_395
  let v842 : BitVec 32 := Scalar.addi c0_i32_396 v841
  let c128_i32_400 : BitVec 32 := 128#32
  let v851 : BitVec 32 := Scalar.muli v842 c128_i32_400
  v851
def k0_off128 (k0_t4 : Fin k0_t4_loop.trips) : Fin 2 → Nat :=
  let c3_401 : Index := 3#32
  let c0_i32_396 : BitVec 32 := 0#32
  let c0_i32_25 : BitVec 32 := 0#32
  let c1_i32_27 : BitVec 32 := 1#32
  let arg14 : BitVec 32 := Scf.iv c0_i32_25 c1_i32_27 k0_t4
  let c1_i32_395 : BitVec 32 := 1#32
  let v841 : BitVec 32 := Scalar.muli arg14 c1_i32_395
  let v842 : BitVec 32 := Scalar.addi c0_i32_396 v841
  let c128_i32_400 : BitVec 32 := 128#32
  let v851 : BitVec 32 := Scalar.muli v842 c128_i32_400
  let v852 : BitVec 32 := v851
  let v853 : Index := Scalar.indexCast v852
  ![3, v853.toNat]
def k0_off129 (k0_t4 : Fin k0_t4_loop.trips) : Fin 4 → Nat :=
  let c3_407 : Index := 3#32
  let c0_i32_396 : BitVec 32 := 0#32
  let c0_i32_25 : BitVec 32 := 0#32
  let c1_i32_27 : BitVec 32 := 1#32
  let arg14 : BitVec 32 := Scf.iv c0_i32_25 c1_i32_27 k0_t4
  let c1_i32_395 : BitVec 32 := 1#32
  let v841 : BitVec 32 := Scalar.muli arg14 c1_i32_395
  let v842 : BitVec 32 := Scalar.addi c0_i32_396 v841
  let v864 : Index := Scalar.indexCast v842
  let c0_408 : Index := 0#32
  let c0_409 : Index := 0#32
  ![3, v864.toNat, 0, 0]
def k0_off130 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v869 : Index := Scalar.indexCast v20
  let c0_410 : Index := 0#32
  let c0_411 : Index := 0#32
  ![v869.toNat, 0, 0]
def k0_off131 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v883 : Index := Scalar.indexCast v20
  let c64 : Index := 64#32
  let c0_414 : Index := 0#32
  ![v883.toNat, 64, 0]
def k0_off132 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v897 : Index := Scalar.indexCast v20
  let c128_417 : Index := 128#32
  let c0_418 : Index := 0#32
  ![v897.toNat, 128, 0]
def k0_off133 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v911 : Index := Scalar.indexCast v20
  let c192 : Index := 192#32
  let c0_421 : Index := 0#32
  ![v911.toNat, 192, 0]
def k0_off134 (k0_t4 : Fin k0_t4_loop.trips) : Fin 4 → Nat :=
  let c3_424 : Index := 3#32
  let c0_i32_396 : BitVec 32 := 0#32
  let c0_i32_25 : BitVec 32 := 0#32
  let c1_i32_27 : BitVec 32 := 1#32
  let arg14 : BitVec 32 := Scf.iv c0_i32_25 c1_i32_27 k0_t4
  let c1_i32_395 : BitVec 32 := 1#32
  let v841 : BitVec 32 := Scalar.muli arg14 c1_i32_395
  let v842 : BitVec 32 := Scalar.addi c0_i32_396 v841
  let v925 : Index := Scalar.indexCast v842
  let c8 : Index := 8#32
  let c0_425 : Index := 0#32
  ![3, v925.toNat, 8, 0]
def k0_off135 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v930 : Index := Scalar.indexCast v20
  let c8_426 : Index := 8#32
  let c0_427 : Index := 0#32
  ![v930.toNat, 8, 0]
def k0_off136 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v944 : Index := Scalar.indexCast v20
  let c72 : Index := 72#32
  let c0_430 : Index := 0#32
  ![v944.toNat, 72, 0]
def k0_off137 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v958 : Index := Scalar.indexCast v20
  let c136 : Index := 136#32
  let c0_433 : Index := 0#32
  ![v958.toNat, 136, 0]
def k0_off138 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v972 : Index := Scalar.indexCast v20
  let c200 : Index := 200#32
  let c0_436 : Index := 0#32
  ![v972.toNat, 200, 0]
def k0_off139 (k0_t4 : Fin k0_t4_loop.trips) : Fin 4 → Nat :=
  let c3_439 : Index := 3#32
  let c0_i32_396 : BitVec 32 := 0#32
  let c0_i32_25 : BitVec 32 := 0#32
  let c1_i32_27 : BitVec 32 := 1#32
  let arg14 : BitVec 32 := Scf.iv c0_i32_25 c1_i32_27 k0_t4
  let c1_i32_395 : BitVec 32 := 1#32
  let v841 : BitVec 32 := Scalar.muli arg14 c1_i32_395
  let v842 : BitVec 32 := Scalar.addi c0_i32_396 v841
  let v986 : Index := Scalar.indexCast v842
  let c16 : Index := 16#32
  let c0_440 : Index := 0#32
  ![3, v986.toNat, 16, 0]
def k0_off140 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v991 : Index := Scalar.indexCast v20
  let c16_441 : Index := 16#32
  let c0_442 : Index := 0#32
  ![v991.toNat, 16, 0]
def k0_off141 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1005 : Index := Scalar.indexCast v20
  let c80 : Index := 80#32
  let c0_445 : Index := 0#32
  ![v1005.toNat, 80, 0]
def k0_off142 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1019 : Index := Scalar.indexCast v20
  let c144 : Index := 144#32
  let c0_448 : Index := 0#32
  ![v1019.toNat, 144, 0]
def k0_off143 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1033 : Index := Scalar.indexCast v20
  let c208 : Index := 208#32
  let c0_451 : Index := 0#32
  ![v1033.toNat, 208, 0]
def k0_off144 (k0_t4 : Fin k0_t4_loop.trips) : Fin 4 → Nat :=
  let c3_454 : Index := 3#32
  let c0_i32_396 : BitVec 32 := 0#32
  let c0_i32_25 : BitVec 32 := 0#32
  let c1_i32_27 : BitVec 32 := 1#32
  let arg14 : BitVec 32 := Scf.iv c0_i32_25 c1_i32_27 k0_t4
  let c1_i32_395 : BitVec 32 := 1#32
  let v841 : BitVec 32 := Scalar.muli arg14 c1_i32_395
  let v842 : BitVec 32 := Scalar.addi c0_i32_396 v841
  let v1047 : Index := Scalar.indexCast v842
  let c24 : Index := 24#32
  let c0_455 : Index := 0#32
  ![3, v1047.toNat, 24, 0]
def k0_off145 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1052 : Index := Scalar.indexCast v20
  let c24_456 : Index := 24#32
  let c0_457 : Index := 0#32
  ![v1052.toNat, 24, 0]
def k0_off146 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1066 : Index := Scalar.indexCast v20
  let c88 : Index := 88#32
  let c0_460 : Index := 0#32
  ![v1066.toNat, 88, 0]
def k0_off147 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1080 : Index := Scalar.indexCast v20
  let c152 : Index := 152#32
  let c0_463 : Index := 0#32
  ![v1080.toNat, 152, 0]
def k0_off148 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1094 : Index := Scalar.indexCast v20
  let c216 : Index := 216#32
  let c0_466 : Index := 0#32
  ![v1094.toNat, 216, 0]
def k0_off149 (k0_t4 : Fin k0_t4_loop.trips) : Fin 4 → Nat :=
  let c3_469 : Index := 3#32
  let c0_i32_396 : BitVec 32 := 0#32
  let c0_i32_25 : BitVec 32 := 0#32
  let c1_i32_27 : BitVec 32 := 1#32
  let arg14 : BitVec 32 := Scf.iv c0_i32_25 c1_i32_27 k0_t4
  let c1_i32_395 : BitVec 32 := 1#32
  let v841 : BitVec 32 := Scalar.muli arg14 c1_i32_395
  let v842 : BitVec 32 := Scalar.addi c0_i32_396 v841
  let v1108 : Index := Scalar.indexCast v842
  let c32 : Index := 32#32
  let c0_470 : Index := 0#32
  ![3, v1108.toNat, 32, 0]
def k0_off150 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1113 : Index := Scalar.indexCast v20
  let c32_471 : Index := 32#32
  let c0_472 : Index := 0#32
  ![v1113.toNat, 32, 0]
def k0_off151 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1127 : Index := Scalar.indexCast v20
  let c96 : Index := 96#32
  let c0_475 : Index := 0#32
  ![v1127.toNat, 96, 0]
def k0_off152 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1141 : Index := Scalar.indexCast v20
  let c160 : Index := 160#32
  let c0_478 : Index := 0#32
  ![v1141.toNat, 160, 0]
def k0_off153 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1155 : Index := Scalar.indexCast v20
  let c224 : Index := 224#32
  let c0_481 : Index := 0#32
  ![v1155.toNat, 224, 0]
def k0_off154 (k0_t4 : Fin k0_t4_loop.trips) : Fin 4 → Nat :=
  let c3_484 : Index := 3#32
  let c0_i32_396 : BitVec 32 := 0#32
  let c0_i32_25 : BitVec 32 := 0#32
  let c1_i32_27 : BitVec 32 := 1#32
  let arg14 : BitVec 32 := Scf.iv c0_i32_25 c1_i32_27 k0_t4
  let c1_i32_395 : BitVec 32 := 1#32
  let v841 : BitVec 32 := Scalar.muli arg14 c1_i32_395
  let v842 : BitVec 32 := Scalar.addi c0_i32_396 v841
  let v1169 : Index := Scalar.indexCast v842
  let c40 : Index := 40#32
  let c0_485 : Index := 0#32
  ![3, v1169.toNat, 40, 0]
def k0_off155 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1174 : Index := Scalar.indexCast v20
  let c40_486 : Index := 40#32
  let c0_487 : Index := 0#32
  ![v1174.toNat, 40, 0]
def k0_off156 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1188 : Index := Scalar.indexCast v20
  let c104 : Index := 104#32
  let c0_490 : Index := 0#32
  ![v1188.toNat, 104, 0]
def k0_off157 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1202 : Index := Scalar.indexCast v20
  let c168 : Index := 168#32
  let c0_493 : Index := 0#32
  ![v1202.toNat, 168, 0]
def k0_off158 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1216 : Index := Scalar.indexCast v20
  let c232 : Index := 232#32
  let c0_496 : Index := 0#32
  ![v1216.toNat, 232, 0]
def k0_off159 (k0_t4 : Fin k0_t4_loop.trips) : Fin 4 → Nat :=
  let c3_499 : Index := 3#32
  let c0_i32_396 : BitVec 32 := 0#32
  let c0_i32_25 : BitVec 32 := 0#32
  let c1_i32_27 : BitVec 32 := 1#32
  let arg14 : BitVec 32 := Scf.iv c0_i32_25 c1_i32_27 k0_t4
  let c1_i32_395 : BitVec 32 := 1#32
  let v841 : BitVec 32 := Scalar.muli arg14 c1_i32_395
  let v842 : BitVec 32 := Scalar.addi c0_i32_396 v841
  let v1230 : Index := Scalar.indexCast v842
  let c48 : Index := 48#32
  let c0_500 : Index := 0#32
  ![3, v1230.toNat, 48, 0]
def k0_off160 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1235 : Index := Scalar.indexCast v20
  let c48_501 : Index := 48#32
  let c0_502 : Index := 0#32
  ![v1235.toNat, 48, 0]
def k0_off161 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1249 : Index := Scalar.indexCast v20
  let c112 : Index := 112#32
  let c0_505 : Index := 0#32
  ![v1249.toNat, 112, 0]
def k0_off162 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1263 : Index := Scalar.indexCast v20
  let c176 : Index := 176#32
  let c0_508 : Index := 0#32
  ![v1263.toNat, 176, 0]
def k0_off163 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1277 : Index := Scalar.indexCast v20
  let c240 : Index := 240#32
  let c0_511 : Index := 0#32
  ![v1277.toNat, 240, 0]
def k0_off164 (k0_t4 : Fin k0_t4_loop.trips) : Fin 4 → Nat :=
  let c3_514 : Index := 3#32
  let c0_i32_396 : BitVec 32 := 0#32
  let c0_i32_25 : BitVec 32 := 0#32
  let c1_i32_27 : BitVec 32 := 1#32
  let arg14 : BitVec 32 := Scf.iv c0_i32_25 c1_i32_27 k0_t4
  let c1_i32_395 : BitVec 32 := 1#32
  let v841 : BitVec 32 := Scalar.muli arg14 c1_i32_395
  let v842 : BitVec 32 := Scalar.addi c0_i32_396 v841
  let v1291 : Index := Scalar.indexCast v842
  let c56 : Index := 56#32
  let c0_515 : Index := 0#32
  ![3, v1291.toNat, 56, 0]
def k0_off165 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1296 : Index := Scalar.indexCast v20
  let c56_516 : Index := 56#32
  let c0_517 : Index := 0#32
  ![v1296.toNat, 56, 0]
def k0_off166 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1310 : Index := Scalar.indexCast v20
  let c120 : Index := 120#32
  let c0_520 : Index := 0#32
  ![v1310.toNat, 120, 0]
def k0_off167 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1324 : Index := Scalar.indexCast v20
  let c184 : Index := 184#32
  let c0_523 : Index := 0#32
  ![v1324.toNat, 184, 0]
def k0_off168 (i : grid0.Coords) : Fin 3 → Nat :=
  let arg0 : BitVec 32 := BitVec.ofNat 32 (i 0).val
  let c8_i32_21 : BitVec 32 := 8#32
  let v18 : BitVec 32 := Scalar.muli arg0 c8_i32_21
  let c3_i32 : BitVec 32 := 3#32
  let v19 : BitVec 32 := Scalar.addi v18 c3_i32
  let c4_i32_22 : BitVec 32 := 4#32
  let v20 : BitVec 32 := Scalar.shrui v19 c4_i32_22
  let v1338 : Index := Scalar.indexCast v20
  let c248 : Index := 248#32
  let c0_526 : Index := 0#32
  ![v1338.toNat, 248, 0]
@[reducible] def k0_t5_loop : Scf.Loop 32 :=
  let c0_i32_34 : BitVec 32 := 0#32
  let c8_i32_35 : BitVec 32 := 8#32
  let v29 : BitVec 32 := Scalar.addi c0_i32_34 c8_i32_35
  let c1_i32_36 : BitVec 32 := 1#32
  ⟨c0_i32_34, v29, c1_i32_36⟩
def k0_off169 (i : grid0.Coords) : Fin 1 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let v846 : Index := Scalar.indexCast v25
  ![v846.toNat]
def k0_mult5 (k0_t5 : Fin k0_t5_loop.trips) : BitVec 32 :=
  let c0_i32_396 : BitVec 32 := 0#32
  let c0_i32_34 : BitVec 32 := 0#32
  let c1_i32_36 : BitVec 32 := 1#32
  let arg14 : BitVec 32 := Scf.iv c0_i32_34 c1_i32_36 k0_t5
  let c1_i32_395 : BitVec 32 := 1#32
  let v841 : BitVec 32 := Scalar.muli arg14 c1_i32_395
  let v842 : BitVec 32 := Scalar.addi c0_i32_396 v841
  let c128_i32_400 : BitVec 32 := 128#32
  let v851 : BitVec 32 := Scalar.muli v842 c128_i32_400
  v851
def k0_off170 (k0_t5 : Fin k0_t5_loop.trips) : Fin 2 → Nat :=
  let c4 : Index := 4#32
  let c0_i32_396 : BitVec 32 := 0#32
  let c0_i32_34 : BitVec 32 := 0#32
  let c1_i32_36 : BitVec 32 := 1#32
  let arg14 : BitVec 32 := Scf.iv c0_i32_34 c1_i32_36 k0_t5
  let c1_i32_395 : BitVec 32 := 1#32
  let v841 : BitVec 32 := Scalar.muli arg14 c1_i32_395
  let v842 : BitVec 32 := Scalar.addi c0_i32_396 v841
  let c128_i32_400 : BitVec 32 := 128#32
  let v851 : BitVec 32 := Scalar.muli v842 c128_i32_400
  let v852 : BitVec 32 := v851
  let v853 : Index := Scalar.indexCast v852
  ![4, v853.toNat]
def k0_off171 (k0_t5 : Fin k0_t5_loop.trips) : Fin 4 → Nat :=
  let c4_406 : Index := 4#32
  let c0_i32_396 : BitVec 32 := 0#32
  let c0_i32_34 : BitVec 32 := 0#32
  let c1_i32_36 : BitVec 32 := 1#32
  let arg14 : BitVec 32 := Scf.iv c0_i32_34 c1_i32_36 k0_t5
  let c1_i32_395 : BitVec 32 := 1#32
  let v841 : BitVec 32 := Scalar.muli arg14 c1_i32_395
  let v842 : BitVec 32 := Scalar.addi c0_i32_396 v841
  let v864 : Index := Scalar.indexCast v842
  let c0_407 : Index := 0#32
  let c0_408 : Index := 0#32
  ![4, v864.toNat, 0, 0]
def k0_off172 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v869 : Index := Scalar.indexCast v26
  let c0_409 : Index := 0#32
  let c0_410 : Index := 0#32
  ![v869.toNat, 0, 0]
def k0_off173 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v883 : Index := Scalar.indexCast v26
  let c64 : Index := 64#32
  let c0_413 : Index := 0#32
  ![v883.toNat, 64, 0]
def k0_off174 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v897 : Index := Scalar.indexCast v26
  let c128_416 : Index := 128#32
  let c0_417 : Index := 0#32
  ![v897.toNat, 128, 0]
def k0_off175 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v911 : Index := Scalar.indexCast v26
  let c192 : Index := 192#32
  let c0_420 : Index := 0#32
  ![v911.toNat, 192, 0]
def k0_off176 (k0_t5 : Fin k0_t5_loop.trips) : Fin 4 → Nat :=
  let c4_423 : Index := 4#32
  let c0_i32_396 : BitVec 32 := 0#32
  let c0_i32_34 : BitVec 32 := 0#32
  let c1_i32_36 : BitVec 32 := 1#32
  let arg14 : BitVec 32 := Scf.iv c0_i32_34 c1_i32_36 k0_t5
  let c1_i32_395 : BitVec 32 := 1#32
  let v841 : BitVec 32 := Scalar.muli arg14 c1_i32_395
  let v842 : BitVec 32 := Scalar.addi c0_i32_396 v841
  let v925 : Index := Scalar.indexCast v842
  let c8 : Index := 8#32
  let c0_424 : Index := 0#32
  ![4, v925.toNat, 8, 0]
def k0_off177 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v930 : Index := Scalar.indexCast v26
  let c8_425 : Index := 8#32
  let c0_426 : Index := 0#32
  ![v930.toNat, 8, 0]
def k0_off178 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v944 : Index := Scalar.indexCast v26
  let c72 : Index := 72#32
  let c0_429 : Index := 0#32
  ![v944.toNat, 72, 0]
def k0_off179 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v958 : Index := Scalar.indexCast v26
  let c136 : Index := 136#32
  let c0_432 : Index := 0#32
  ![v958.toNat, 136, 0]
def k0_off180 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v972 : Index := Scalar.indexCast v26
  let c200 : Index := 200#32
  let c0_435 : Index := 0#32
  ![v972.toNat, 200, 0]
def k0_off181 (k0_t5 : Fin k0_t5_loop.trips) : Fin 4 → Nat :=
  let c4_438 : Index := 4#32
  let c0_i32_396 : BitVec 32 := 0#32
  let c0_i32_34 : BitVec 32 := 0#32
  let c1_i32_36 : BitVec 32 := 1#32
  let arg14 : BitVec 32 := Scf.iv c0_i32_34 c1_i32_36 k0_t5
  let c1_i32_395 : BitVec 32 := 1#32
  let v841 : BitVec 32 := Scalar.muli arg14 c1_i32_395
  let v842 : BitVec 32 := Scalar.addi c0_i32_396 v841
  let v986 : Index := Scalar.indexCast v842
  let c16 : Index := 16#32
  let c0_439 : Index := 0#32
  ![4, v986.toNat, 16, 0]
def k0_off182 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v991 : Index := Scalar.indexCast v26
  let c16_440 : Index := 16#32
  let c0_441 : Index := 0#32
  ![v991.toNat, 16, 0]
def k0_off183 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1005 : Index := Scalar.indexCast v26
  let c80 : Index := 80#32
  let c0_444 : Index := 0#32
  ![v1005.toNat, 80, 0]
def k0_off184 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1019 : Index := Scalar.indexCast v26
  let c144 : Index := 144#32
  let c0_447 : Index := 0#32
  ![v1019.toNat, 144, 0]
def k0_off185 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1033 : Index := Scalar.indexCast v26
  let c208 : Index := 208#32
  let c0_450 : Index := 0#32
  ![v1033.toNat, 208, 0]
def k0_off186 (k0_t5 : Fin k0_t5_loop.trips) : Fin 4 → Nat :=
  let c4_453 : Index := 4#32
  let c0_i32_396 : BitVec 32 := 0#32
  let c0_i32_34 : BitVec 32 := 0#32
  let c1_i32_36 : BitVec 32 := 1#32
  let arg14 : BitVec 32 := Scf.iv c0_i32_34 c1_i32_36 k0_t5
  let c1_i32_395 : BitVec 32 := 1#32
  let v841 : BitVec 32 := Scalar.muli arg14 c1_i32_395
  let v842 : BitVec 32 := Scalar.addi c0_i32_396 v841
  let v1047 : Index := Scalar.indexCast v842
  let c24 : Index := 24#32
  let c0_454 : Index := 0#32
  ![4, v1047.toNat, 24, 0]
def k0_off187 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1052 : Index := Scalar.indexCast v26
  let c24_455 : Index := 24#32
  let c0_456 : Index := 0#32
  ![v1052.toNat, 24, 0]
def k0_off188 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1066 : Index := Scalar.indexCast v26
  let c88 : Index := 88#32
  let c0_459 : Index := 0#32
  ![v1066.toNat, 88, 0]
def k0_off189 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1080 : Index := Scalar.indexCast v26
  let c152 : Index := 152#32
  let c0_462 : Index := 0#32
  ![v1080.toNat, 152, 0]
def k0_off190 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1094 : Index := Scalar.indexCast v26
  let c216 : Index := 216#32
  let c0_465 : Index := 0#32
  ![v1094.toNat, 216, 0]
def k0_off191 (k0_t5 : Fin k0_t5_loop.trips) : Fin 4 → Nat :=
  let c4_468 : Index := 4#32
  let c0_i32_396 : BitVec 32 := 0#32
  let c0_i32_34 : BitVec 32 := 0#32
  let c1_i32_36 : BitVec 32 := 1#32
  let arg14 : BitVec 32 := Scf.iv c0_i32_34 c1_i32_36 k0_t5
  let c1_i32_395 : BitVec 32 := 1#32
  let v841 : BitVec 32 := Scalar.muli arg14 c1_i32_395
  let v842 : BitVec 32 := Scalar.addi c0_i32_396 v841
  let v1108 : Index := Scalar.indexCast v842
  let c32 : Index := 32#32
  let c0_469 : Index := 0#32
  ![4, v1108.toNat, 32, 0]
def k0_off192 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1113 : Index := Scalar.indexCast v26
  let c32_470 : Index := 32#32
  let c0_471 : Index := 0#32
  ![v1113.toNat, 32, 0]
def k0_off193 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1127 : Index := Scalar.indexCast v26
  let c96 : Index := 96#32
  let c0_474 : Index := 0#32
  ![v1127.toNat, 96, 0]
def k0_off194 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1141 : Index := Scalar.indexCast v26
  let c160 : Index := 160#32
  let c0_477 : Index := 0#32
  ![v1141.toNat, 160, 0]
def k0_off195 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1155 : Index := Scalar.indexCast v26
  let c224 : Index := 224#32
  let c0_480 : Index := 0#32
  ![v1155.toNat, 224, 0]
def k0_off196 (k0_t5 : Fin k0_t5_loop.trips) : Fin 4 → Nat :=
  let c4_483 : Index := 4#32
  let c0_i32_396 : BitVec 32 := 0#32
  let c0_i32_34 : BitVec 32 := 0#32
  let c1_i32_36 : BitVec 32 := 1#32
  let arg14 : BitVec 32 := Scf.iv c0_i32_34 c1_i32_36 k0_t5
  let c1_i32_395 : BitVec 32 := 1#32
  let v841 : BitVec 32 := Scalar.muli arg14 c1_i32_395
  let v842 : BitVec 32 := Scalar.addi c0_i32_396 v841
  let v1169 : Index := Scalar.indexCast v842
  let c40 : Index := 40#32
  let c0_484 : Index := 0#32
  ![4, v1169.toNat, 40, 0]
def k0_off197 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1174 : Index := Scalar.indexCast v26
  let c40_485 : Index := 40#32
  let c0_486 : Index := 0#32
  ![v1174.toNat, 40, 0]
def k0_off198 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1188 : Index := Scalar.indexCast v26
  let c104 : Index := 104#32
  let c0_489 : Index := 0#32
  ![v1188.toNat, 104, 0]
def k0_off199 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1202 : Index := Scalar.indexCast v26
  let c168 : Index := 168#32
  let c0_492 : Index := 0#32
  ![v1202.toNat, 168, 0]
def k0_off200 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1216 : Index := Scalar.indexCast v26
  let c232 : Index := 232#32
  let c0_495 : Index := 0#32
  ![v1216.toNat, 232, 0]
def k0_off201 (k0_t5 : Fin k0_t5_loop.trips) : Fin 4 → Nat :=
  let c4_498 : Index := 4#32
  let c0_i32_396 : BitVec 32 := 0#32
  let c0_i32_34 : BitVec 32 := 0#32
  let c1_i32_36 : BitVec 32 := 1#32
  let arg14 : BitVec 32 := Scf.iv c0_i32_34 c1_i32_36 k0_t5
  let c1_i32_395 : BitVec 32 := 1#32
  let v841 : BitVec 32 := Scalar.muli arg14 c1_i32_395
  let v842 : BitVec 32 := Scalar.addi c0_i32_396 v841
  let v1230 : Index := Scalar.indexCast v842
  let c48 : Index := 48#32
  let c0_499 : Index := 0#32
  ![4, v1230.toNat, 48, 0]
def k0_off202 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1235 : Index := Scalar.indexCast v26
  let c48_500 : Index := 48#32
  let c0_501 : Index := 0#32
  ![v1235.toNat, 48, 0]
def k0_off203 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1249 : Index := Scalar.indexCast v26
  let c112 : Index := 112#32
  let c0_504 : Index := 0#32
  ![v1249.toNat, 112, 0]
def k0_off204 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1263 : Index := Scalar.indexCast v26
  let c176 : Index := 176#32
  let c0_507 : Index := 0#32
  ![v1263.toNat, 176, 0]
def k0_off205 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1277 : Index := Scalar.indexCast v26
  let c240 : Index := 240#32
  let c0_510 : Index := 0#32
  ![v1277.toNat, 240, 0]
def k0_off206 (k0_t5 : Fin k0_t5_loop.trips) : Fin 4 → Nat :=
  let c4_513 : Index := 4#32
  let c0_i32_396 : BitVec 32 := 0#32
  let c0_i32_34 : BitVec 32 := 0#32
  let c1_i32_36 : BitVec 32 := 1#32
  let arg14 : BitVec 32 := Scf.iv c0_i32_34 c1_i32_36 k0_t5
  let c1_i32_395 : BitVec 32 := 1#32
  let v841 : BitVec 32 := Scalar.muli arg14 c1_i32_395
  let v842 : BitVec 32 := Scalar.addi c0_i32_396 v841
  let v1291 : Index := Scalar.indexCast v842
  let c56 : Index := 56#32
  let c0_514 : Index := 0#32
  ![4, v1291.toNat, 56, 0]
def k0_off207 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1296 : Index := Scalar.indexCast v26
  let c56_515 : Index := 56#32
  let c0_516 : Index := 0#32
  ![v1296.toNat, 56, 0]
def k0_off208 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1310 : Index := Scalar.indexCast v26
  let c120 : Index := 120#32
  let c0_519 : Index := 0#32
  ![v1310.toNat, 120, 0]
def k0_off209 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1324 : Index := Scalar.indexCast v26
  let c184 : Index := 184#32
  let c0_522 : Index := 0#32
  ![v1324.toNat, 184, 0]
def k0_off210 (i : grid0.Coords) : Fin 3 → Nat :=
  let arg0 : BitVec 32 := BitVec.ofNat 32 (i 0).val
  let c8_i32_29 : BitVec 32 := 8#32
  let v24 : BitVec 32 := Scalar.muli arg0 c8_i32_29
  let c4_i32_30 : BitVec 32 := 4#32
  let v25 : BitVec 32 := Scalar.addi v24 c4_i32_30
  let c4_i32_31 : BitVec 32 := 4#32
  let v26 : BitVec 32 := Scalar.shrui v25 c4_i32_31
  let v1338 : Index := Scalar.indexCast v26
  let c248 : Index := 248#32
  let c0_525 : Index := 0#32
  ![v1338.toNat, 248, 0]
@[reducible] def k0_t6_loop : Scf.Loop 32 :=
  let c0_i32_42 : BitVec 32 := 0#32
  let c8_i32_43 : BitVec 32 := 8#32
  let v35 : BitVec 32 := Scalar.addi c0_i32_42 c8_i32_43
  let c1_i32_44 : BitVec 32 := 1#32
  ⟨c0_i32_42, v35, c1_i32_44⟩
def k0_off211 (i : grid0.Coords) : Fin 1 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let v846 : Index := Scalar.indexCast v31
  ![v846.toNat]
def k0_mult6 (k0_t6 : Fin k0_t6_loop.trips) : BitVec 32 :=
  let c0_i32_396 : BitVec 32 := 0#32
  let c0_i32_42 : BitVec 32 := 0#32
  let c1_i32_44 : BitVec 32 := 1#32
  let arg14 : BitVec 32 := Scf.iv c0_i32_42 c1_i32_44 k0_t6
  let c1_i32_395 : BitVec 32 := 1#32
  let v841 : BitVec 32 := Scalar.muli arg14 c1_i32_395
  let v842 : BitVec 32 := Scalar.addi c0_i32_396 v841
  let c128_i32_400 : BitVec 32 := 128#32
  let v851 : BitVec 32 := Scalar.muli v842 c128_i32_400
  v851
def k0_off212 (k0_t6 : Fin k0_t6_loop.trips) : Fin 2 → Nat :=
  let c5 : Index := 5#32
  let c0_i32_396 : BitVec 32 := 0#32
  let c0_i32_42 : BitVec 32 := 0#32
  let c1_i32_44 : BitVec 32 := 1#32
  let arg14 : BitVec 32 := Scf.iv c0_i32_42 c1_i32_44 k0_t6
  let c1_i32_395 : BitVec 32 := 1#32
  let v841 : BitVec 32 := Scalar.muli arg14 c1_i32_395
  let v842 : BitVec 32 := Scalar.addi c0_i32_396 v841
  let c128_i32_400 : BitVec 32 := 128#32
  let v851 : BitVec 32 := Scalar.muli v842 c128_i32_400
  let v852 : BitVec 32 := v851
  let v853 : Index := Scalar.indexCast v852
  ![5, v853.toNat]
def k0_off213 (k0_t6 : Fin k0_t6_loop.trips) : Fin 4 → Nat :=
  let c5_406 : Index := 5#32
  let c0_i32_396 : BitVec 32 := 0#32
  let c0_i32_42 : BitVec 32 := 0#32
  let c1_i32_44 : BitVec 32 := 1#32
  let arg14 : BitVec 32 := Scf.iv c0_i32_42 c1_i32_44 k0_t6
  let c1_i32_395 : BitVec 32 := 1#32
  let v841 : BitVec 32 := Scalar.muli arg14 c1_i32_395
  let v842 : BitVec 32 := Scalar.addi c0_i32_396 v841
  let v864 : Index := Scalar.indexCast v842
  let c0_407 : Index := 0#32
  let c0_408 : Index := 0#32
  ![5, v864.toNat, 0, 0]
def k0_off214 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v869 : Index := Scalar.indexCast v32
  let c0_409 : Index := 0#32
  let c0_410 : Index := 0#32
  ![v869.toNat, 0, 0]
def k0_off215 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v883 : Index := Scalar.indexCast v32
  let c64 : Index := 64#32
  let c0_413 : Index := 0#32
  ![v883.toNat, 64, 0]
def k0_off216 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v897 : Index := Scalar.indexCast v32
  let c128_416 : Index := 128#32
  let c0_417 : Index := 0#32
  ![v897.toNat, 128, 0]
def k0_off217 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v911 : Index := Scalar.indexCast v32
  let c192 : Index := 192#32
  let c0_420 : Index := 0#32
  ![v911.toNat, 192, 0]
def k0_off218 (k0_t6 : Fin k0_t6_loop.trips) : Fin 4 → Nat :=
  let c5_423 : Index := 5#32
  let c0_i32_396 : BitVec 32 := 0#32
  let c0_i32_42 : BitVec 32 := 0#32
  let c1_i32_44 : BitVec 32 := 1#32
  let arg14 : BitVec 32 := Scf.iv c0_i32_42 c1_i32_44 k0_t6
  let c1_i32_395 : BitVec 32 := 1#32
  let v841 : BitVec 32 := Scalar.muli arg14 c1_i32_395
  let v842 : BitVec 32 := Scalar.addi c0_i32_396 v841
  let v925 : Index := Scalar.indexCast v842
  let c8 : Index := 8#32
  let c0_424 : Index := 0#32
  ![5, v925.toNat, 8, 0]
def k0_off219 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v930 : Index := Scalar.indexCast v32
  let c8_425 : Index := 8#32
  let c0_426 : Index := 0#32
  ![v930.toNat, 8, 0]
def k0_off220 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v944 : Index := Scalar.indexCast v32
  let c72 : Index := 72#32
  let c0_429 : Index := 0#32
  ![v944.toNat, 72, 0]
def k0_off221 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v958 : Index := Scalar.indexCast v32
  let c136 : Index := 136#32
  let c0_432 : Index := 0#32
  ![v958.toNat, 136, 0]
def k0_off222 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v972 : Index := Scalar.indexCast v32
  let c200 : Index := 200#32
  let c0_435 : Index := 0#32
  ![v972.toNat, 200, 0]
def k0_off223 (k0_t6 : Fin k0_t6_loop.trips) : Fin 4 → Nat :=
  let c5_438 : Index := 5#32
  let c0_i32_396 : BitVec 32 := 0#32
  let c0_i32_42 : BitVec 32 := 0#32
  let c1_i32_44 : BitVec 32 := 1#32
  let arg14 : BitVec 32 := Scf.iv c0_i32_42 c1_i32_44 k0_t6
  let c1_i32_395 : BitVec 32 := 1#32
  let v841 : BitVec 32 := Scalar.muli arg14 c1_i32_395
  let v842 : BitVec 32 := Scalar.addi c0_i32_396 v841
  let v986 : Index := Scalar.indexCast v842
  let c16 : Index := 16#32
  let c0_439 : Index := 0#32
  ![5, v986.toNat, 16, 0]
def k0_off224 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v991 : Index := Scalar.indexCast v32
  let c16_440 : Index := 16#32
  let c0_441 : Index := 0#32
  ![v991.toNat, 16, 0]
def k0_off225 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1005 : Index := Scalar.indexCast v32
  let c80 : Index := 80#32
  let c0_444 : Index := 0#32
  ![v1005.toNat, 80, 0]
def k0_off226 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1019 : Index := Scalar.indexCast v32
  let c144 : Index := 144#32
  let c0_447 : Index := 0#32
  ![v1019.toNat, 144, 0]
def k0_off227 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1033 : Index := Scalar.indexCast v32
  let c208 : Index := 208#32
  let c0_450 : Index := 0#32
  ![v1033.toNat, 208, 0]
def k0_off228 (k0_t6 : Fin k0_t6_loop.trips) : Fin 4 → Nat :=
  let c5_453 : Index := 5#32
  let c0_i32_396 : BitVec 32 := 0#32
  let c0_i32_42 : BitVec 32 := 0#32
  let c1_i32_44 : BitVec 32 := 1#32
  let arg14 : BitVec 32 := Scf.iv c0_i32_42 c1_i32_44 k0_t6
  let c1_i32_395 : BitVec 32 := 1#32
  let v841 : BitVec 32 := Scalar.muli arg14 c1_i32_395
  let v842 : BitVec 32 := Scalar.addi c0_i32_396 v841
  let v1047 : Index := Scalar.indexCast v842
  let c24 : Index := 24#32
  let c0_454 : Index := 0#32
  ![5, v1047.toNat, 24, 0]
def k0_off229 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1052 : Index := Scalar.indexCast v32
  let c24_455 : Index := 24#32
  let c0_456 : Index := 0#32
  ![v1052.toNat, 24, 0]
def k0_off230 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1066 : Index := Scalar.indexCast v32
  let c88 : Index := 88#32
  let c0_459 : Index := 0#32
  ![v1066.toNat, 88, 0]
def k0_off231 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1080 : Index := Scalar.indexCast v32
  let c152 : Index := 152#32
  let c0_462 : Index := 0#32
  ![v1080.toNat, 152, 0]
def k0_off232 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1094 : Index := Scalar.indexCast v32
  let c216 : Index := 216#32
  let c0_465 : Index := 0#32
  ![v1094.toNat, 216, 0]
def k0_off233 (k0_t6 : Fin k0_t6_loop.trips) : Fin 4 → Nat :=
  let c5_468 : Index := 5#32
  let c0_i32_396 : BitVec 32 := 0#32
  let c0_i32_42 : BitVec 32 := 0#32
  let c1_i32_44 : BitVec 32 := 1#32
  let arg14 : BitVec 32 := Scf.iv c0_i32_42 c1_i32_44 k0_t6
  let c1_i32_395 : BitVec 32 := 1#32
  let v841 : BitVec 32 := Scalar.muli arg14 c1_i32_395
  let v842 : BitVec 32 := Scalar.addi c0_i32_396 v841
  let v1108 : Index := Scalar.indexCast v842
  let c32 : Index := 32#32
  let c0_469 : Index := 0#32
  ![5, v1108.toNat, 32, 0]
def k0_off234 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1113 : Index := Scalar.indexCast v32
  let c32_470 : Index := 32#32
  let c0_471 : Index := 0#32
  ![v1113.toNat, 32, 0]
def k0_off235 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1127 : Index := Scalar.indexCast v32
  let c96 : Index := 96#32
  let c0_474 : Index := 0#32
  ![v1127.toNat, 96, 0]
def k0_off236 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1141 : Index := Scalar.indexCast v32
  let c160 : Index := 160#32
  let c0_477 : Index := 0#32
  ![v1141.toNat, 160, 0]
def k0_off237 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1155 : Index := Scalar.indexCast v32
  let c224 : Index := 224#32
  let c0_480 : Index := 0#32
  ![v1155.toNat, 224, 0]
def k0_off238 (k0_t6 : Fin k0_t6_loop.trips) : Fin 4 → Nat :=
  let c5_483 : Index := 5#32
  let c0_i32_396 : BitVec 32 := 0#32
  let c0_i32_42 : BitVec 32 := 0#32
  let c1_i32_44 : BitVec 32 := 1#32
  let arg14 : BitVec 32 := Scf.iv c0_i32_42 c1_i32_44 k0_t6
  let c1_i32_395 : BitVec 32 := 1#32
  let v841 : BitVec 32 := Scalar.muli arg14 c1_i32_395
  let v842 : BitVec 32 := Scalar.addi c0_i32_396 v841
  let v1169 : Index := Scalar.indexCast v842
  let c40 : Index := 40#32
  let c0_484 : Index := 0#32
  ![5, v1169.toNat, 40, 0]
def k0_off239 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1174 : Index := Scalar.indexCast v32
  let c40_485 : Index := 40#32
  let c0_486 : Index := 0#32
  ![v1174.toNat, 40, 0]
def k0_off240 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1188 : Index := Scalar.indexCast v32
  let c104 : Index := 104#32
  let c0_489 : Index := 0#32
  ![v1188.toNat, 104, 0]
def k0_off241 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1202 : Index := Scalar.indexCast v32
  let c168 : Index := 168#32
  let c0_492 : Index := 0#32
  ![v1202.toNat, 168, 0]
def k0_off242 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1216 : Index := Scalar.indexCast v32
  let c232 : Index := 232#32
  let c0_495 : Index := 0#32
  ![v1216.toNat, 232, 0]
def k0_off243 (k0_t6 : Fin k0_t6_loop.trips) : Fin 4 → Nat :=
  let c5_498 : Index := 5#32
  let c0_i32_396 : BitVec 32 := 0#32
  let c0_i32_42 : BitVec 32 := 0#32
  let c1_i32_44 : BitVec 32 := 1#32
  let arg14 : BitVec 32 := Scf.iv c0_i32_42 c1_i32_44 k0_t6
  let c1_i32_395 : BitVec 32 := 1#32
  let v841 : BitVec 32 := Scalar.muli arg14 c1_i32_395
  let v842 : BitVec 32 := Scalar.addi c0_i32_396 v841
  let v1230 : Index := Scalar.indexCast v842
  let c48 : Index := 48#32
  let c0_499 : Index := 0#32
  ![5, v1230.toNat, 48, 0]
def k0_off244 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1235 : Index := Scalar.indexCast v32
  let c48_500 : Index := 48#32
  let c0_501 : Index := 0#32
  ![v1235.toNat, 48, 0]
def k0_off245 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1249 : Index := Scalar.indexCast v32
  let c112 : Index := 112#32
  let c0_504 : Index := 0#32
  ![v1249.toNat, 112, 0]
def k0_off246 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1263 : Index := Scalar.indexCast v32
  let c176 : Index := 176#32
  let c0_507 : Index := 0#32
  ![v1263.toNat, 176, 0]
def k0_off247 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1277 : Index := Scalar.indexCast v32
  let c240 : Index := 240#32
  let c0_510 : Index := 0#32
  ![v1277.toNat, 240, 0]
def k0_off248 (k0_t6 : Fin k0_t6_loop.trips) : Fin 4 → Nat :=
  let c5_513 : Index := 5#32
  let c0_i32_396 : BitVec 32 := 0#32
  let c0_i32_42 : BitVec 32 := 0#32
  let c1_i32_44 : BitVec 32 := 1#32
  let arg14 : BitVec 32 := Scf.iv c0_i32_42 c1_i32_44 k0_t6
  let c1_i32_395 : BitVec 32 := 1#32
  let v841 : BitVec 32 := Scalar.muli arg14 c1_i32_395
  let v842 : BitVec 32 := Scalar.addi c0_i32_396 v841
  let v1291 : Index := Scalar.indexCast v842
  let c56 : Index := 56#32
  let c0_514 : Index := 0#32
  ![5, v1291.toNat, 56, 0]
def k0_off249 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1296 : Index := Scalar.indexCast v32
  let c56_515 : Index := 56#32
  let c0_516 : Index := 0#32
  ![v1296.toNat, 56, 0]
def k0_off250 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1310 : Index := Scalar.indexCast v32
  let c120 : Index := 120#32
  let c0_519 : Index := 0#32
  ![v1310.toNat, 120, 0]
def k0_off251 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1324 : Index := Scalar.indexCast v32
  let c184 : Index := 184#32
  let c0_522 : Index := 0#32
  ![v1324.toNat, 184, 0]
def k0_off252 (i : grid0.Coords) : Fin 3 → Nat :=
  let arg0 : BitVec 32 := BitVec.ofNat 32 (i 0).val
  let c8_i32_38 : BitVec 32 := 8#32
  let v30 : BitVec 32 := Scalar.muli arg0 c8_i32_38
  let c5_i32 : BitVec 32 := 5#32
  let v31 : BitVec 32 := Scalar.addi v30 c5_i32
  let c4_i32_39 : BitVec 32 := 4#32
  let v32 : BitVec 32 := Scalar.shrui v31 c4_i32_39
  let v1338 : Index := Scalar.indexCast v32
  let c248 : Index := 248#32
  let c0_525 : Index := 0#32
  ![v1338.toNat, 248, 0]
@[reducible] def k0_t7_loop : Scf.Loop 32 :=
  let c0_i32_50 : BitVec 32 := 0#32
  let c8_i32_51 : BitVec 32 := 8#32
  let v41 : BitVec 32 := Scalar.addi c0_i32_50 c8_i32_51
  let c1_i32_52 : BitVec 32 := 1#32
  ⟨c0_i32_50, v41, c1_i32_52⟩
def k0_off253 (i : grid0.Coords) : Fin 1 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let v846 : Index := Scalar.indexCast v37
  ![v846.toNat]
def k0_mult7 (k0_t7 : Fin k0_t7_loop.trips) : BitVec 32 :=
  let c0_i32_396 : BitVec 32 := 0#32
  let c0_i32_50 : BitVec 32 := 0#32
  let c1_i32_52 : BitVec 32 := 1#32
  let arg14 : BitVec 32 := Scf.iv c0_i32_50 c1_i32_52 k0_t7
  let c1_i32_395 : BitVec 32 := 1#32
  let v841 : BitVec 32 := Scalar.muli arg14 c1_i32_395
  let v842 : BitVec 32 := Scalar.addi c0_i32_396 v841
  let c128_i32_400 : BitVec 32 := 128#32
  let v851 : BitVec 32 := Scalar.muli v842 c128_i32_400
  v851
def k0_off254 (k0_t7 : Fin k0_t7_loop.trips) : Fin 2 → Nat :=
  let c6 : Index := 6#32
  let c0_i32_396 : BitVec 32 := 0#32
  let c0_i32_50 : BitVec 32 := 0#32
  let c1_i32_52 : BitVec 32 := 1#32
  let arg14 : BitVec 32 := Scf.iv c0_i32_50 c1_i32_52 k0_t7
  let c1_i32_395 : BitVec 32 := 1#32
  let v841 : BitVec 32 := Scalar.muli arg14 c1_i32_395
  let v842 : BitVec 32 := Scalar.addi c0_i32_396 v841
  let c128_i32_400 : BitVec 32 := 128#32
  let v851 : BitVec 32 := Scalar.muli v842 c128_i32_400
  let v852 : BitVec 32 := v851
  let v853 : Index := Scalar.indexCast v852
  ![6, v853.toNat]
def k0_off255 (k0_t7 : Fin k0_t7_loop.trips) : Fin 4 → Nat :=
  let c6_406 : Index := 6#32
  let c0_i32_396 : BitVec 32 := 0#32
  let c0_i32_50 : BitVec 32 := 0#32
  let c1_i32_52 : BitVec 32 := 1#32
  let arg14 : BitVec 32 := Scf.iv c0_i32_50 c1_i32_52 k0_t7
  let c1_i32_395 : BitVec 32 := 1#32
  let v841 : BitVec 32 := Scalar.muli arg14 c1_i32_395
  let v842 : BitVec 32 := Scalar.addi c0_i32_396 v841
  let v864 : Index := Scalar.indexCast v842
  let c0_407 : Index := 0#32
  let c0_408 : Index := 0#32
  ![6, v864.toNat, 0, 0]
def k0_off256 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v869 : Index := Scalar.indexCast v38
  let c0_409 : Index := 0#32
  let c0_410 : Index := 0#32
  ![v869.toNat, 0, 0]
def k0_off257 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v883 : Index := Scalar.indexCast v38
  let c64 : Index := 64#32
  let c0_413 : Index := 0#32
  ![v883.toNat, 64, 0]
def k0_off258 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v897 : Index := Scalar.indexCast v38
  let c128_416 : Index := 128#32
  let c0_417 : Index := 0#32
  ![v897.toNat, 128, 0]
def k0_off259 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v911 : Index := Scalar.indexCast v38
  let c192 : Index := 192#32
  let c0_420 : Index := 0#32
  ![v911.toNat, 192, 0]
def k0_off260 (k0_t7 : Fin k0_t7_loop.trips) : Fin 4 → Nat :=
  let c6_423 : Index := 6#32
  let c0_i32_396 : BitVec 32 := 0#32
  let c0_i32_50 : BitVec 32 := 0#32
  let c1_i32_52 : BitVec 32 := 1#32
  let arg14 : BitVec 32 := Scf.iv c0_i32_50 c1_i32_52 k0_t7
  let c1_i32_395 : BitVec 32 := 1#32
  let v841 : BitVec 32 := Scalar.muli arg14 c1_i32_395
  let v842 : BitVec 32 := Scalar.addi c0_i32_396 v841
  let v925 : Index := Scalar.indexCast v842
  let c8 : Index := 8#32
  let c0_424 : Index := 0#32
  ![6, v925.toNat, 8, 0]
def k0_off261 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v930 : Index := Scalar.indexCast v38
  let c8_425 : Index := 8#32
  let c0_426 : Index := 0#32
  ![v930.toNat, 8, 0]
def k0_off262 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v944 : Index := Scalar.indexCast v38
  let c72 : Index := 72#32
  let c0_429 : Index := 0#32
  ![v944.toNat, 72, 0]
def k0_off263 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v958 : Index := Scalar.indexCast v38
  let c136 : Index := 136#32
  let c0_432 : Index := 0#32
  ![v958.toNat, 136, 0]
def k0_off264 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v972 : Index := Scalar.indexCast v38
  let c200 : Index := 200#32
  let c0_435 : Index := 0#32
  ![v972.toNat, 200, 0]
def k0_off265 (k0_t7 : Fin k0_t7_loop.trips) : Fin 4 → Nat :=
  let c6_438 : Index := 6#32
  let c0_i32_396 : BitVec 32 := 0#32
  let c0_i32_50 : BitVec 32 := 0#32
  let c1_i32_52 : BitVec 32 := 1#32
  let arg14 : BitVec 32 := Scf.iv c0_i32_50 c1_i32_52 k0_t7
  let c1_i32_395 : BitVec 32 := 1#32
  let v841 : BitVec 32 := Scalar.muli arg14 c1_i32_395
  let v842 : BitVec 32 := Scalar.addi c0_i32_396 v841
  let v986 : Index := Scalar.indexCast v842
  let c16 : Index := 16#32
  let c0_439 : Index := 0#32
  ![6, v986.toNat, 16, 0]
def k0_off266 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v991 : Index := Scalar.indexCast v38
  let c16_440 : Index := 16#32
  let c0_441 : Index := 0#32
  ![v991.toNat, 16, 0]
def k0_off267 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1005 : Index := Scalar.indexCast v38
  let c80 : Index := 80#32
  let c0_444 : Index := 0#32
  ![v1005.toNat, 80, 0]
def k0_off268 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1019 : Index := Scalar.indexCast v38
  let c144 : Index := 144#32
  let c0_447 : Index := 0#32
  ![v1019.toNat, 144, 0]
def k0_off269 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1033 : Index := Scalar.indexCast v38
  let c208 : Index := 208#32
  let c0_450 : Index := 0#32
  ![v1033.toNat, 208, 0]
def k0_off270 (k0_t7 : Fin k0_t7_loop.trips) : Fin 4 → Nat :=
  let c6_453 : Index := 6#32
  let c0_i32_396 : BitVec 32 := 0#32
  let c0_i32_50 : BitVec 32 := 0#32
  let c1_i32_52 : BitVec 32 := 1#32
  let arg14 : BitVec 32 := Scf.iv c0_i32_50 c1_i32_52 k0_t7
  let c1_i32_395 : BitVec 32 := 1#32
  let v841 : BitVec 32 := Scalar.muli arg14 c1_i32_395
  let v842 : BitVec 32 := Scalar.addi c0_i32_396 v841
  let v1047 : Index := Scalar.indexCast v842
  let c24 : Index := 24#32
  let c0_454 : Index := 0#32
  ![6, v1047.toNat, 24, 0]
def k0_off271 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1052 : Index := Scalar.indexCast v38
  let c24_455 : Index := 24#32
  let c0_456 : Index := 0#32
  ![v1052.toNat, 24, 0]
def k0_off272 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1066 : Index := Scalar.indexCast v38
  let c88 : Index := 88#32
  let c0_459 : Index := 0#32
  ![v1066.toNat, 88, 0]
def k0_off273 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1080 : Index := Scalar.indexCast v38
  let c152 : Index := 152#32
  let c0_462 : Index := 0#32
  ![v1080.toNat, 152, 0]
def k0_off274 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1094 : Index := Scalar.indexCast v38
  let c216 : Index := 216#32
  let c0_465 : Index := 0#32
  ![v1094.toNat, 216, 0]
def k0_off275 (k0_t7 : Fin k0_t7_loop.trips) : Fin 4 → Nat :=
  let c6_468 : Index := 6#32
  let c0_i32_396 : BitVec 32 := 0#32
  let c0_i32_50 : BitVec 32 := 0#32
  let c1_i32_52 : BitVec 32 := 1#32
  let arg14 : BitVec 32 := Scf.iv c0_i32_50 c1_i32_52 k0_t7
  let c1_i32_395 : BitVec 32 := 1#32
  let v841 : BitVec 32 := Scalar.muli arg14 c1_i32_395
  let v842 : BitVec 32 := Scalar.addi c0_i32_396 v841
  let v1108 : Index := Scalar.indexCast v842
  let c32 : Index := 32#32
  let c0_469 : Index := 0#32
  ![6, v1108.toNat, 32, 0]
def k0_off276 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1113 : Index := Scalar.indexCast v38
  let c32_470 : Index := 32#32
  let c0_471 : Index := 0#32
  ![v1113.toNat, 32, 0]
def k0_off277 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1127 : Index := Scalar.indexCast v38
  let c96 : Index := 96#32
  let c0_474 : Index := 0#32
  ![v1127.toNat, 96, 0]
def k0_off278 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1141 : Index := Scalar.indexCast v38
  let c160 : Index := 160#32
  let c0_477 : Index := 0#32
  ![v1141.toNat, 160, 0]
def k0_off279 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1155 : Index := Scalar.indexCast v38
  let c224 : Index := 224#32
  let c0_480 : Index := 0#32
  ![v1155.toNat, 224, 0]
def k0_off280 (k0_t7 : Fin k0_t7_loop.trips) : Fin 4 → Nat :=
  let c6_483 : Index := 6#32
  let c0_i32_396 : BitVec 32 := 0#32
  let c0_i32_50 : BitVec 32 := 0#32
  let c1_i32_52 : BitVec 32 := 1#32
  let arg14 : BitVec 32 := Scf.iv c0_i32_50 c1_i32_52 k0_t7
  let c1_i32_395 : BitVec 32 := 1#32
  let v841 : BitVec 32 := Scalar.muli arg14 c1_i32_395
  let v842 : BitVec 32 := Scalar.addi c0_i32_396 v841
  let v1169 : Index := Scalar.indexCast v842
  let c40 : Index := 40#32
  let c0_484 : Index := 0#32
  ![6, v1169.toNat, 40, 0]
def k0_off281 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1174 : Index := Scalar.indexCast v38
  let c40_485 : Index := 40#32
  let c0_486 : Index := 0#32
  ![v1174.toNat, 40, 0]
def k0_off282 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1188 : Index := Scalar.indexCast v38
  let c104 : Index := 104#32
  let c0_489 : Index := 0#32
  ![v1188.toNat, 104, 0]
def k0_off283 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1202 : Index := Scalar.indexCast v38
  let c168 : Index := 168#32
  let c0_492 : Index := 0#32
  ![v1202.toNat, 168, 0]
def k0_off284 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1216 : Index := Scalar.indexCast v38
  let c232 : Index := 232#32
  let c0_495 : Index := 0#32
  ![v1216.toNat, 232, 0]
def k0_off285 (k0_t7 : Fin k0_t7_loop.trips) : Fin 4 → Nat :=
  let c6_498 : Index := 6#32
  let c0_i32_396 : BitVec 32 := 0#32
  let c0_i32_50 : BitVec 32 := 0#32
  let c1_i32_52 : BitVec 32 := 1#32
  let arg14 : BitVec 32 := Scf.iv c0_i32_50 c1_i32_52 k0_t7
  let c1_i32_395 : BitVec 32 := 1#32
  let v841 : BitVec 32 := Scalar.muli arg14 c1_i32_395
  let v842 : BitVec 32 := Scalar.addi c0_i32_396 v841
  let v1230 : Index := Scalar.indexCast v842
  let c48 : Index := 48#32
  let c0_499 : Index := 0#32
  ![6, v1230.toNat, 48, 0]
def k0_off286 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1235 : Index := Scalar.indexCast v38
  let c48_500 : Index := 48#32
  let c0_501 : Index := 0#32
  ![v1235.toNat, 48, 0]
def k0_off287 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1249 : Index := Scalar.indexCast v38
  let c112 : Index := 112#32
  let c0_504 : Index := 0#32
  ![v1249.toNat, 112, 0]
def k0_off288 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1263 : Index := Scalar.indexCast v38
  let c176 : Index := 176#32
  let c0_507 : Index := 0#32
  ![v1263.toNat, 176, 0]
def k0_off289 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1277 : Index := Scalar.indexCast v38
  let c240 : Index := 240#32
  let c0_510 : Index := 0#32
  ![v1277.toNat, 240, 0]
def k0_off290 (k0_t7 : Fin k0_t7_loop.trips) : Fin 4 → Nat :=
  let c6_513 : Index := 6#32
  let c0_i32_396 : BitVec 32 := 0#32
  let c0_i32_50 : BitVec 32 := 0#32
  let c1_i32_52 : BitVec 32 := 1#32
  let arg14 : BitVec 32 := Scf.iv c0_i32_50 c1_i32_52 k0_t7
  let c1_i32_395 : BitVec 32 := 1#32
  let v841 : BitVec 32 := Scalar.muli arg14 c1_i32_395
  let v842 : BitVec 32 := Scalar.addi c0_i32_396 v841
  let v1291 : Index := Scalar.indexCast v842
  let c56 : Index := 56#32
  let c0_514 : Index := 0#32
  ![6, v1291.toNat, 56, 0]
def k0_off291 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1296 : Index := Scalar.indexCast v38
  let c56_515 : Index := 56#32
  let c0_516 : Index := 0#32
  ![v1296.toNat, 56, 0]
def k0_off292 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1310 : Index := Scalar.indexCast v38
  let c120 : Index := 120#32
  let c0_519 : Index := 0#32
  ![v1310.toNat, 120, 0]
def k0_off293 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1324 : Index := Scalar.indexCast v38
  let c184 : Index := 184#32
  let c0_522 : Index := 0#32
  ![v1324.toNat, 184, 0]
def k0_off294 (i : grid0.Coords) : Fin 3 → Nat :=
  let arg0 : BitVec 32 := BitVec.ofNat 32 (i 0).val
  let c8_i32_46 : BitVec 32 := 8#32
  let v36 : BitVec 32 := Scalar.muli arg0 c8_i32_46
  let c6_i32 : BitVec 32 := 6#32
  let v37 : BitVec 32 := Scalar.addi v36 c6_i32
  let c4_i32_47 : BitVec 32 := 4#32
  let v38 : BitVec 32 := Scalar.shrui v37 c4_i32_47
  let v1338 : Index := Scalar.indexCast v38
  let c248 : Index := 248#32
  let c0_525 : Index := 0#32
  ![v1338.toNat, 248, 0]
@[reducible] def k0_t8_loop : Scf.Loop 32 :=
  let c0_i32_58 : BitVec 32 := 0#32
  let c8_i32_59 : BitVec 32 := 8#32
  let v47 : BitVec 32 := Scalar.addi c0_i32_58 c8_i32_59
  let c1_i32_60 : BitVec 32 := 1#32
  ⟨c0_i32_58, v47, c1_i32_60⟩
def k0_off295 (i : grid0.Coords) : Fin 1 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let v846 : Index := Scalar.indexCast v43
  ![v846.toNat]
def k0_mult8 (k0_t8 : Fin k0_t8_loop.trips) : BitVec 32 :=
  let c0_i32_396 : BitVec 32 := 0#32
  let c0_i32_58 : BitVec 32 := 0#32
  let c1_i32_60 : BitVec 32 := 1#32
  let arg14 : BitVec 32 := Scf.iv c0_i32_58 c1_i32_60 k0_t8
  let c1_i32_395 : BitVec 32 := 1#32
  let v841 : BitVec 32 := Scalar.muli arg14 c1_i32_395
  let v842 : BitVec 32 := Scalar.addi c0_i32_396 v841
  let c128_i32_400 : BitVec 32 := 128#32
  let v851 : BitVec 32 := Scalar.muli v842 c128_i32_400
  v851
def k0_off296 (k0_t8 : Fin k0_t8_loop.trips) : Fin 2 → Nat :=
  let c7 : Index := 7#32
  let c0_i32_396 : BitVec 32 := 0#32
  let c0_i32_58 : BitVec 32 := 0#32
  let c1_i32_60 : BitVec 32 := 1#32
  let arg14 : BitVec 32 := Scf.iv c0_i32_58 c1_i32_60 k0_t8
  let c1_i32_395 : BitVec 32 := 1#32
  let v841 : BitVec 32 := Scalar.muli arg14 c1_i32_395
  let v842 : BitVec 32 := Scalar.addi c0_i32_396 v841
  let c128_i32_400 : BitVec 32 := 128#32
  let v851 : BitVec 32 := Scalar.muli v842 c128_i32_400
  let v852 : BitVec 32 := v851
  let v853 : Index := Scalar.indexCast v852
  ![7, v853.toNat]
def k0_off297 (k0_t8 : Fin k0_t8_loop.trips) : Fin 4 → Nat :=
  let c7_406 : Index := 7#32
  let c0_i32_396 : BitVec 32 := 0#32
  let c0_i32_58 : BitVec 32 := 0#32
  let c1_i32_60 : BitVec 32 := 1#32
  let arg14 : BitVec 32 := Scf.iv c0_i32_58 c1_i32_60 k0_t8
  let c1_i32_395 : BitVec 32 := 1#32
  let v841 : BitVec 32 := Scalar.muli arg14 c1_i32_395
  let v842 : BitVec 32 := Scalar.addi c0_i32_396 v841
  let v864 : Index := Scalar.indexCast v842
  let c0_407 : Index := 0#32
  let c0_408 : Index := 0#32
  ![7, v864.toNat, 0, 0]
def k0_off298 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v869 : Index := Scalar.indexCast v44
  let c0_409 : Index := 0#32
  let c0_410 : Index := 0#32
  ![v869.toNat, 0, 0]
def k0_off299 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v883 : Index := Scalar.indexCast v44
  let c64 : Index := 64#32
  let c0_413 : Index := 0#32
  ![v883.toNat, 64, 0]
def k0_off300 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v897 : Index := Scalar.indexCast v44
  let c128_416 : Index := 128#32
  let c0_417 : Index := 0#32
  ![v897.toNat, 128, 0]
def k0_off301 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v911 : Index := Scalar.indexCast v44
  let c192 : Index := 192#32
  let c0_420 : Index := 0#32
  ![v911.toNat, 192, 0]
def k0_off302 (k0_t8 : Fin k0_t8_loop.trips) : Fin 4 → Nat :=
  let c7_423 : Index := 7#32
  let c0_i32_396 : BitVec 32 := 0#32
  let c0_i32_58 : BitVec 32 := 0#32
  let c1_i32_60 : BitVec 32 := 1#32
  let arg14 : BitVec 32 := Scf.iv c0_i32_58 c1_i32_60 k0_t8
  let c1_i32_395 : BitVec 32 := 1#32
  let v841 : BitVec 32 := Scalar.muli arg14 c1_i32_395
  let v842 : BitVec 32 := Scalar.addi c0_i32_396 v841
  let v925 : Index := Scalar.indexCast v842
  let c8 : Index := 8#32
  let c0_424 : Index := 0#32
  ![7, v925.toNat, 8, 0]
def k0_off303 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v930 : Index := Scalar.indexCast v44
  let c8_425 : Index := 8#32
  let c0_426 : Index := 0#32
  ![v930.toNat, 8, 0]
def k0_off304 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v944 : Index := Scalar.indexCast v44
  let c72 : Index := 72#32
  let c0_429 : Index := 0#32
  ![v944.toNat, 72, 0]
def k0_off305 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v958 : Index := Scalar.indexCast v44
  let c136 : Index := 136#32
  let c0_432 : Index := 0#32
  ![v958.toNat, 136, 0]
def k0_off306 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v972 : Index := Scalar.indexCast v44
  let c200 : Index := 200#32
  let c0_435 : Index := 0#32
  ![v972.toNat, 200, 0]
def k0_off307 (k0_t8 : Fin k0_t8_loop.trips) : Fin 4 → Nat :=
  let c7_438 : Index := 7#32
  let c0_i32_396 : BitVec 32 := 0#32
  let c0_i32_58 : BitVec 32 := 0#32
  let c1_i32_60 : BitVec 32 := 1#32
  let arg14 : BitVec 32 := Scf.iv c0_i32_58 c1_i32_60 k0_t8
  let c1_i32_395 : BitVec 32 := 1#32
  let v841 : BitVec 32 := Scalar.muli arg14 c1_i32_395
  let v842 : BitVec 32 := Scalar.addi c0_i32_396 v841
  let v986 : Index := Scalar.indexCast v842
  let c16 : Index := 16#32
  let c0_439 : Index := 0#32
  ![7, v986.toNat, 16, 0]
def k0_off308 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v991 : Index := Scalar.indexCast v44
  let c16_440 : Index := 16#32
  let c0_441 : Index := 0#32
  ![v991.toNat, 16, 0]
def k0_off309 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1005 : Index := Scalar.indexCast v44
  let c80 : Index := 80#32
  let c0_444 : Index := 0#32
  ![v1005.toNat, 80, 0]
def k0_off310 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1019 : Index := Scalar.indexCast v44
  let c144 : Index := 144#32
  let c0_447 : Index := 0#32
  ![v1019.toNat, 144, 0]
def k0_off311 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1033 : Index := Scalar.indexCast v44
  let c208 : Index := 208#32
  let c0_450 : Index := 0#32
  ![v1033.toNat, 208, 0]
def k0_off312 (k0_t8 : Fin k0_t8_loop.trips) : Fin 4 → Nat :=
  let c7_453 : Index := 7#32
  let c0_i32_396 : BitVec 32 := 0#32
  let c0_i32_58 : BitVec 32 := 0#32
  let c1_i32_60 : BitVec 32 := 1#32
  let arg14 : BitVec 32 := Scf.iv c0_i32_58 c1_i32_60 k0_t8
  let c1_i32_395 : BitVec 32 := 1#32
  let v841 : BitVec 32 := Scalar.muli arg14 c1_i32_395
  let v842 : BitVec 32 := Scalar.addi c0_i32_396 v841
  let v1047 : Index := Scalar.indexCast v842
  let c24 : Index := 24#32
  let c0_454 : Index := 0#32
  ![7, v1047.toNat, 24, 0]
def k0_off313 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1052 : Index := Scalar.indexCast v44
  let c24_455 : Index := 24#32
  let c0_456 : Index := 0#32
  ![v1052.toNat, 24, 0]
def k0_off314 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1066 : Index := Scalar.indexCast v44
  let c88 : Index := 88#32
  let c0_459 : Index := 0#32
  ![v1066.toNat, 88, 0]
def k0_off315 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1080 : Index := Scalar.indexCast v44
  let c152 : Index := 152#32
  let c0_462 : Index := 0#32
  ![v1080.toNat, 152, 0]
def k0_off316 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1094 : Index := Scalar.indexCast v44
  let c216 : Index := 216#32
  let c0_465 : Index := 0#32
  ![v1094.toNat, 216, 0]
def k0_off317 (k0_t8 : Fin k0_t8_loop.trips) : Fin 4 → Nat :=
  let c7_468 : Index := 7#32
  let c0_i32_396 : BitVec 32 := 0#32
  let c0_i32_58 : BitVec 32 := 0#32
  let c1_i32_60 : BitVec 32 := 1#32
  let arg14 : BitVec 32 := Scf.iv c0_i32_58 c1_i32_60 k0_t8
  let c1_i32_395 : BitVec 32 := 1#32
  let v841 : BitVec 32 := Scalar.muli arg14 c1_i32_395
  let v842 : BitVec 32 := Scalar.addi c0_i32_396 v841
  let v1108 : Index := Scalar.indexCast v842
  let c32 : Index := 32#32
  let c0_469 : Index := 0#32
  ![7, v1108.toNat, 32, 0]
def k0_off318 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1113 : Index := Scalar.indexCast v44
  let c32_470 : Index := 32#32
  let c0_471 : Index := 0#32
  ![v1113.toNat, 32, 0]
def k0_off319 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1127 : Index := Scalar.indexCast v44
  let c96 : Index := 96#32
  let c0_474 : Index := 0#32
  ![v1127.toNat, 96, 0]
def k0_off320 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1141 : Index := Scalar.indexCast v44
  let c160 : Index := 160#32
  let c0_477 : Index := 0#32
  ![v1141.toNat, 160, 0]
def k0_off321 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1155 : Index := Scalar.indexCast v44
  let c224 : Index := 224#32
  let c0_480 : Index := 0#32
  ![v1155.toNat, 224, 0]
def k0_off322 (k0_t8 : Fin k0_t8_loop.trips) : Fin 4 → Nat :=
  let c7_483 : Index := 7#32
  let c0_i32_396 : BitVec 32 := 0#32
  let c0_i32_58 : BitVec 32 := 0#32
  let c1_i32_60 : BitVec 32 := 1#32
  let arg14 : BitVec 32 := Scf.iv c0_i32_58 c1_i32_60 k0_t8
  let c1_i32_395 : BitVec 32 := 1#32
  let v841 : BitVec 32 := Scalar.muli arg14 c1_i32_395
  let v842 : BitVec 32 := Scalar.addi c0_i32_396 v841
  let v1169 : Index := Scalar.indexCast v842
  let c40 : Index := 40#32
  let c0_484 : Index := 0#32
  ![7, v1169.toNat, 40, 0]
def k0_off323 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1174 : Index := Scalar.indexCast v44
  let c40_485 : Index := 40#32
  let c0_486 : Index := 0#32
  ![v1174.toNat, 40, 0]
def k0_off324 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1188 : Index := Scalar.indexCast v44
  let c104 : Index := 104#32
  let c0_489 : Index := 0#32
  ![v1188.toNat, 104, 0]
def k0_off325 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1202 : Index := Scalar.indexCast v44
  let c168 : Index := 168#32
  let c0_492 : Index := 0#32
  ![v1202.toNat, 168, 0]
def k0_off326 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1216 : Index := Scalar.indexCast v44
  let c232 : Index := 232#32
  let c0_495 : Index := 0#32
  ![v1216.toNat, 232, 0]
def k0_off327 (k0_t8 : Fin k0_t8_loop.trips) : Fin 4 → Nat :=
  let c7_498 : Index := 7#32
  let c0_i32_396 : BitVec 32 := 0#32
  let c0_i32_58 : BitVec 32 := 0#32
  let c1_i32_60 : BitVec 32 := 1#32
  let arg14 : BitVec 32 := Scf.iv c0_i32_58 c1_i32_60 k0_t8
  let c1_i32_395 : BitVec 32 := 1#32
  let v841 : BitVec 32 := Scalar.muli arg14 c1_i32_395
  let v842 : BitVec 32 := Scalar.addi c0_i32_396 v841
  let v1230 : Index := Scalar.indexCast v842
  let c48 : Index := 48#32
  let c0_499 : Index := 0#32
  ![7, v1230.toNat, 48, 0]
def k0_off328 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1235 : Index := Scalar.indexCast v44
  let c48_500 : Index := 48#32
  let c0_501 : Index := 0#32
  ![v1235.toNat, 48, 0]
def k0_off329 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1249 : Index := Scalar.indexCast v44
  let c112 : Index := 112#32
  let c0_504 : Index := 0#32
  ![v1249.toNat, 112, 0]
def k0_off330 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1263 : Index := Scalar.indexCast v44
  let c176 : Index := 176#32
  let c0_507 : Index := 0#32
  ![v1263.toNat, 176, 0]
def k0_off331 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1277 : Index := Scalar.indexCast v44
  let c240 : Index := 240#32
  let c0_510 : Index := 0#32
  ![v1277.toNat, 240, 0]
def k0_off332 (k0_t8 : Fin k0_t8_loop.trips) : Fin 4 → Nat :=
  let c7_513 : Index := 7#32
  let c0_i32_396 : BitVec 32 := 0#32
  let c0_i32_58 : BitVec 32 := 0#32
  let c1_i32_60 : BitVec 32 := 1#32
  let arg14 : BitVec 32 := Scf.iv c0_i32_58 c1_i32_60 k0_t8
  let c1_i32_395 : BitVec 32 := 1#32
  let v841 : BitVec 32 := Scalar.muli arg14 c1_i32_395
  let v842 : BitVec 32 := Scalar.addi c0_i32_396 v841
  let v1291 : Index := Scalar.indexCast v842
  let c56 : Index := 56#32
  let c0_514 : Index := 0#32
  ![7, v1291.toNat, 56, 0]
def k0_off333 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1296 : Index := Scalar.indexCast v44
  let c56_515 : Index := 56#32
  let c0_516 : Index := 0#32
  ![v1296.toNat, 56, 0]
def k0_off334 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1310 : Index := Scalar.indexCast v44
  let c120 : Index := 120#32
  let c0_519 : Index := 0#32
  ![v1310.toNat, 120, 0]
def k0_off335 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1324 : Index := Scalar.indexCast v44
  let c184 : Index := 184#32
  let c0_522 : Index := 0#32
  ![v1324.toNat, 184, 0]
def k0_off336 (i : grid0.Coords) : Fin 3 → Nat :=
  let arg0 : BitVec 32 := BitVec.ofNat 32 (i 0).val
  let c8_i32_54 : BitVec 32 := 8#32
  let v42 : BitVec 32 := Scalar.muli arg0 c8_i32_54
  let c7_i32 : BitVec 32 := 7#32
  let v43 : BitVec 32 := Scalar.addi v42 c7_i32
  let c4_i32_55 : BitVec 32 := 4#32
  let v44 : BitVec 32 := Scalar.shrui v43 c4_i32_55
  let v1338 : Index := Scalar.indexCast v44
  let c248 : Index := 248#32
  let c0_525 : Index := 0#32
  ![v1338.toNat, 248, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x8x64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x256x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S24 : Shape := ⟨1, ![24]⟩
abbrev S24x48x64x128 : Shape := ⟨4, ![24, 48, 64, 128]⟩
abbrev S2x256x128 : Shape := ⟨3, ![2, 256, 128]⟩
abbrev S4x24x128 : Shape := ⟨3, ![4, 24, 128]⟩
abbrev S24x6144 : Shape := ⟨2, ![24, 6144]⟩
abbrev S24x48x128x64 : Shape := ⟨4, ![24, 48, 128, 64]⟩
abbrev S24x6144x64 : Shape := ⟨3, ![24, 6144, 64]⟩
abbrev S2x4x64x128 : Shape := ⟨4, ![2, 4, 64, 128]⟩
abbrev S2x128x4x64 : Shape := ⟨4, ![2, 128, 4, 64]⟩
abbrev S256x4x64 : Shape := ⟨3, ![256, 4, 64]⟩
abbrev S192x4x64 : Shape := ⟨3, ![192, 4, 64]⟩
abbrev S24x8x4x64 : Shape := ⟨4, ![24, 8, 4, 64]⟩
abbrev S4x24x8 : Shape := ⟨3, ![4, 24, 8]⟩
abbrev S24x8x4 : Shape := ⟨3, ![24, 8, 4]⟩
abbrev S24x6144x1 : Shape := ⟨3, ![24, 6144, 1]⟩
abbrev S_ : Shape := ⟨0, ![]⟩
abbrev S1 : Shape := ⟨1, ![1]⟩
abbrev S1x1x1 : Shape := ⟨3, ![1, 1, 1]⟩
abbrev S24x6144x4 : Shape := ⟨3, ![24, 6144, 4]⟩
abbrev S4 : Shape := ⟨1, ![4]⟩
abbrev S24x6144x1x1x64 : Shape := ⟨5, ![24, 6144, 1, 1, 64]⟩
abbrev S24x1x8x4x64 : Shape := ⟨5, ![24, 1, 8, 4, 64]⟩
abbrev S24x6144x8x4x64 : Shape := ⟨5, ![24, 6144, 8, 4, 64]⟩
abbrev S4x1 : Shape := ⟨2, ![4, 1]⟩
abbrev S1x1x1x4x1 : Shape := ⟨5, ![1, 1, 1, 4, 1]⟩
abbrev S24x6144x8 : Shape := ⟨3, ![24, 6144, 8]⟩
abbrev S24x6144x1x1 : Shape := ⟨4, ![24, 6144, 1, 1]⟩
abbrev S1x1x1x1 : Shape := ⟨4, ![1, 1, 1, 1]⟩
abbrev S6144 : Shape := ⟨1, ![6144]⟩
abbrev S1x6144 : Shape := ⟨2, ![1, 6144]⟩
abbrev S24x1 : Shape := ⟨2, ![24, 1]⟩

abbrev nBuf : Space → Nat
  | .hbm => 163
  | .vmem => 0
  | .smem => 0
  | _ => 0

abbrev hbmTy0_0 (i : Nat) : BufTy := match i % 128 with
  | 0 => ⟨S24, .i32⟩
  | 1 => ⟨S24x48x64x128, .i32⟩
  | 2 => ⟨S2x256x128, .i32⟩
  | 3 => ⟨S4x24x128, .f32⟩
  | 4 => ⟨S24x6144, .i32⟩
  | 5 => ⟨S24x6144, .f32⟩
  | 6 => ⟨S24x6144, .f32⟩
  | 7 => ⟨S24x48x128x64, .i32⟩
  | 8 => ⟨S24x6144x64, .i32⟩
  | 9 => ⟨S2x4x64x128, .i32⟩
  | 10 => ⟨S2x128x4x64, .i32⟩
  | 11 => ⟨S256x4x64, .i32⟩
  | 12 => ⟨S192x4x64, .i32⟩
  | 13 => ⟨S24x8x4x64, .i32⟩
  | 14 => ⟨S24x8x4x64, .i32⟩
  | 15 => ⟨S4x24x8, .f32⟩
  | 16 => ⟨S24x8x4, .f32⟩
  | 17 => ⟨S24x6144x1, .i32⟩
  | 18 => ⟨S_, .i32⟩
  | 19 => ⟨S24x6144x1, .i32⟩
  | 20 => ⟨S24x6144x1, .i1⟩
  | 21 => ⟨S_, .i32⟩
  | 22 => ⟨S24x6144x1, .i32⟩
  | 23 => ⟨S24x6144x1, .i32⟩
  | 24 => ⟨S24x6144x1, .i32⟩
  | 25 => ⟨S1, .i32⟩
  | 26 => ⟨S_, .i32⟩
  | 27 => ⟨S24x6144x1, .i32⟩
  | 28 => ⟨S24x6144x1, .i1⟩
  | 29 => ⟨S1x1x1, .i32⟩
  | 30 => ⟨S24x6144x1, .i32⟩
  | 31 => ⟨S24x6144x1, .i1⟩
  | 32 => ⟨S24x6144x1, .i1⟩
  | 33 => ⟨S_, .i1⟩
  | 34 => ⟨S24x6144, .i1⟩
  | 35 => ⟨S24x6144x4, .f32⟩
  | 36 => ⟨S24x6144x4, .i1⟩
  | 37 => ⟨S_, .f32⟩
  | 38 => ⟨S24x6144x4, .f32⟩
  | 39 => ⟨S24x6144x4, .f32⟩
  | 40 => ⟨S24x6144x1, .f32⟩
  | 41 => ⟨S24x6144, .f32⟩
  | 42 => ⟨S24x6144x1, .f32⟩
  | 43 => ⟨S24x6144, .f32⟩
  | 44 => ⟨S24x6144x1, .f32⟩
  | 45 => ⟨S24x6144, .f32⟩
  | 46 => ⟨S24x6144x1, .f32⟩
  | 47 => ⟨S24x6144, .f32⟩
  | 48 => ⟨S4, .i32⟩
  | 49 => ⟨S_, .i32⟩
  | 50 => ⟨S4, .i32⟩
  | 51 => ⟨S4, .i32⟩
  | 52 => ⟨S24x6144x1x1x64, .i32⟩
  | 53 => ⟨S24x1x8x4x64, .i32⟩
  | 54 => ⟨S24x6144x8x4x64, .i32⟩
  | 55 => ⟨S24x6144x8x4x64, .i32⟩
  | 56 => ⟨S24x6144x8x4x64, .i32⟩
  | 57 => ⟨S24x6144x8x4x64, .i32⟩
  | 58 => ⟨S24x6144x8x4x64, .i32⟩
  | 59 => ⟨S4x1, .i32⟩
  | 60 => ⟨S1x1x1x4x1, .i32⟩
  | 61 => ⟨S24x6144x8x4x64, .i32⟩
  | 62 => ⟨S24x6144x8x4x64, .i32⟩
  | 63 => ⟨S_, .i32⟩
  | 64 => ⟨S24x6144x8, .i32⟩
  | 65 => ⟨S24x6144x1, .i32⟩
  | 66 => ⟨S_, .i32⟩
  | 67 => ⟨S24x6144x1, .i32⟩
  | 68 => ⟨S24x6144x1, .i1⟩
  | 69 => ⟨S_, .i32⟩
  | 70 => ⟨S24x6144x1, .i32⟩
  | 71 => ⟨S24x6144x1, .i32⟩
  | 72 => ⟨S24x6144x1, .i32⟩
  | 73 => ⟨S24x6144x1x1, .i32⟩
  | 74 => ⟨S1, .i32⟩
  | 75 => ⟨S_, .i32⟩
  | 76 => ⟨S24x6144x1x1, .i32⟩
  | 77 => ⟨S24x6144x1x1, .i1⟩
  | 78 => ⟨S1x1x1x1, .i32⟩
  | 79 => ⟨S24x6144x1x1, .i32⟩
  | 80 => ⟨S24x6144x1x1, .i1⟩
  | 81 => ⟨S24x6144x1x1, .i1⟩
  | 82 => ⟨S_, .i1⟩
  | 83 => ⟨S24x6144x1, .i1⟩
  | 84 => ⟨S24x6144x1, .i32⟩
  | 85 => ⟨S_, .i32⟩
  | 86 => ⟨S24x6144x1, .i32⟩
  | 87 => ⟨S24x6144x1, .i32⟩
  | 88 => ⟨S24x6144, .i32⟩
  | 89 => ⟨S24x6144x64, .i32⟩
  | 90 => ⟨S24x6144x64, .i32⟩
  | 91 => ⟨S_, .i32⟩
  | 92 => ⟨S24x6144, .i32⟩
  | 93 => ⟨S_, .f32⟩
  | 94 => ⟨S24x6144, .f32⟩
  | 95 => ⟨S24x6144, .f32⟩
  | 96 => ⟨S24x6144, .f32⟩
  | 97 => ⟨S24x6144, .f32⟩
  | 98 => ⟨S_, .f32⟩
  | 99 => ⟨S24x6144, .f32⟩
  | 100 => ⟨S24x6144, .f32⟩
  | 101 => ⟨S24x6144, .f32⟩
  | 102 => ⟨S24x6144, .f32⟩
  | 103 => ⟨S24x6144, .f32⟩
  | 104 => ⟨S24x6144, .f32⟩
  | 105 => ⟨S24x6144, .f32⟩
  | 106 => ⟨S_, .f32⟩
  | 107 => ⟨S24x6144, .f32⟩
  | 108 => ⟨S24x6144, .f32⟩
  | 109 => ⟨S_, .f32⟩
  | 110 => ⟨S24x6144, .f32⟩
  | 111 => ⟨S24x6144, .f32⟩
  | 112 => ⟨S24x6144, .f32⟩
  | 113 => ⟨S_, .f32⟩
  | 114 => ⟨S24x6144, .f32⟩
  | 115 => ⟨S24x6144, .i1⟩
  | 116 => ⟨S_, .f32⟩
  | 117 => ⟨S_, .f32⟩
  | 118 => ⟨S24x6144, .f32⟩
  | 119 => ⟨S24x6144, .f32⟩
  | 120 => ⟨S24x6144, .f32⟩
  | 121 => ⟨S24x6144, .f32⟩
  | 122 => ⟨S24x6144, .f32⟩
  | 123 => ⟨S24x6144, .f32⟩
  | 124 => ⟨S24x6144, .f32⟩
  | 125 => ⟨S_, .f32⟩
  | 126 => ⟨S24x6144, .f32⟩
  | 127 => ⟨S24x6144, .f32⟩
  | _ => ⟨S24, .i32⟩

abbrev hbmTy0_1 (i : Nat) : BufTy := match i % 128 with
  | 0 => ⟨S24x6144, .f32⟩
  | 1 => ⟨S24x6144, .f32⟩
  | 2 => ⟨S24x6144, .f32⟩
  | 3 => ⟨S_, .f32⟩
  | 4 => ⟨S24x6144, .f32⟩
  | 5 => ⟨S24x6144, .f32⟩
  | 6 => ⟨S24x6144, .f32⟩
  | 7 => ⟨S24x6144, .f32⟩
  | 8 => ⟨S_, .f32⟩
  | 9 => ⟨S24x6144, .f32⟩
  | 10 => ⟨S24x6144, .f32⟩
  | 11 => ⟨S24x6144, .f32⟩
  | 12 => ⟨S24x6144, .f32⟩
  | 13 => ⟨S24x6144, .f32⟩
  | 14 => ⟨S_, .f32⟩
  | 15 => ⟨S24x6144, .f32⟩
  | 16 => ⟨S24x6144, .f32⟩
  | 17 => ⟨S6144, .i32⟩
  | 18 => ⟨S1x6144, .i32⟩
  | 19 => ⟨S24x1, .i32⟩
  | 20 => ⟨S24x6144, .i32⟩
  | 21 => ⟨S24x6144, .i32⟩
  | 22 => ⟨S24x6144, .i1⟩
  | 23 => ⟨S_, .f32⟩
  | 24 => ⟨S_, .f32⟩
  | 25 => ⟨S24x6144, .f32⟩
  | 26 => ⟨S24x6144, .f32⟩
  | 27 => ⟨S_, .f32⟩
  | 28 => ⟨S_, .f32⟩
  | 29 => ⟨S24x6144, .f32⟩
  | 30 => ⟨S24x6144, .f32⟩
  | 31 => ⟨S_, .f32⟩
  | 32 => ⟨S_, .f32⟩
  | 33 => ⟨S24x6144, .f32⟩
  | 34 => ⟨S24x6144, .f32⟩
  | _ => ⟨S24, .i32⟩

abbrev hbmTy (i : Nat) : BufTy := match i / 128 with
  | 0 => hbmTy0_0 i
  | 1 => hbmTy0_1 i
  | _ => ⟨S24, .i32⟩

abbrev bufTy : (tb : Table) → Fin (tcTables nBuf tb) → BufTy
  | .hbm, ⟨i, _⟩ => hbmTy i
  | _, _ => ⟨S24, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_c_2 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_c_3 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_0 : Ref sig .tc := ⟨.hbm, 63, rfl⟩
abbrev main_v34 : Ref sig .tc := ⟨.hbm, 64, rfl⟩
abbrev main_v35 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_c_4 : Ref sig .tc := ⟨.hbm, 85, rfl⟩
abbrev main_call1_v14 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_c_1 : Ref sig .tc := ⟨.hbm, 91, rfl⟩
abbrev main_v40 : Ref sig .tc := ⟨.hbm, 92, rfl⟩
abbrev main_cst : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_cst_2 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_3 : Ref sig .tc := ⟨.hbm, 106, rfl⟩
abbrev main_v52 : Ref sig .tc := ⟨.hbm, 107, rfl⟩
abbrev main_v53 : Ref sig .tc := ⟨.hbm, 108, rfl⟩
abbrev main_cst_4 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_cst_5 : Ref sig .tc := ⟨.hbm, 113, rfl⟩
abbrev main_v57 : Ref sig .tc := ⟨.hbm, 114, rfl⟩
abbrev main_v58 : Ref sig .tc := ⟨.hbm, 115, rfl⟩
abbrev main_cst_6 : Ref sig .tc := ⟨.hbm, 116, rfl⟩
abbrev main_call2_v0 : Ref sig .tc := ⟨.hbm, 117, rfl⟩
abbrev main_call2_v1 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_cst_7 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_cst_8 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_cst_9 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_cst_10 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_cst_11 : Ref sig .tc := ⟨.hbm, 151, rfl⟩
abbrev main_call3_v0 : Ref sig .tc := ⟨.hbm, 152, rfl⟩
abbrev main_call3_v1 : Ref sig .tc := ⟨.hbm, 153, rfl⟩
abbrev main_v87 : Ref sig .tc := ⟨.hbm, 154, rfl⟩
abbrev main_cst_12 : Ref sig .tc := ⟨.hbm, 155, rfl⟩
abbrev main_call4_v0 : Ref sig .tc := ⟨.hbm, 156, rfl⟩
abbrev main_call4_v1 : Ref sig .tc := ⟨.hbm, 157, rfl⟩
abbrev main_v88 : Ref sig .tc := ⟨.hbm, 158, rfl⟩
abbrev main_cst_13 : Ref sig .tc := ⟨.hbm, 159, rfl⟩
abbrev main_call5_v0 : Ref sig .tc := ⟨.hbm, 160, rfl⟩
abbrev main_call5_v1 : Ref sig .tc := ⟨.hbm, 161, rfl⟩
abbrev main_v89 : Ref sig .tc := ⟨.hbm, 162, rfl⟩

abbrev nD : Nat := 1
abbrev τ : Topo := Topo.v7x

variable {F : FTy → Type} [FloatOps F]
-- ==== Quantise.lean ====
abbrev S24x2048 : Shape := ⟨2, ![24, 2048]⟩
abbrev S400x2048 : Shape := ⟨2, ![400, 2048]⟩
abbrev S24x8 : Shape := ⟨2, ![24, 8]⟩
abbrev S24x8x2048 : Shape := ⟨3, ![24, 8, 2048]⟩
abbrev S192x128 : Shape := ⟨2, ![192, 128]⟩
abbrev S2x256x128 : Shape := ⟨3, ![2, 256, 128]⟩
abbrev S192x2048 : Shape := ⟨2, ![192, 2048]⟩
abbrev S256x2048 : Shape := ⟨2, ![256, 2048]⟩
abbrev S1x2048 : Shape := ⟨2, ![1, 2048]⟩
abbrev S1x1 : Shape := ⟨2, ![1, 1]⟩
abbrev S8x128 : Shape := ⟨2, ![8, 128]⟩
abbrev S8x2048 : Shape := ⟨2, ![8, 2048]⟩
abbrev S8 : Shape := ⟨1, ![8]⟩
abbrev S8x1 : Shape := ⟨2, ![8, 1]⟩
abbrev S1x8x2048 : Shape := ⟨3, ![1, 8, 2048]⟩
abbrev S64x2048 : Shape := ⟨2, ![64, 2048]⟩
abbrev S32x128 : Shape := ⟨2, ![32, 128]⟩
abbrev S128x128 : Shape := ⟨2, ![128, 128]⟩
abbrev S128 : Shape := ⟨1, ![128]⟩
abbrev S1x128 : Shape := ⟨2, ![1, 128]⟩
abbrev S1x1x128 : Shape := ⟨3, ![1, 1, 128]⟩

abbrev nBuf : Space → Nat
  | .hbm => 7
  | .vmem => 8
  | .smem => 1
  | _ => 0

abbrev bufTy : (tb : Table) → Fin (tcTables nBuf tb) → BufTy
  | .hbm, ⟨0, _⟩ => ⟨S24x2048, .f32⟩
  | .hbm, ⟨1, _⟩ => ⟨S400x2048, .f32⟩
  | .hbm, ⟨2, _⟩ => ⟨S24x8, .i32⟩
  | .hbm, ⟨3, _⟩ => ⟨S24x8x2048, .f32⟩
  | .hbm, ⟨4, _⟩ => ⟨S24x8x2048, .i8⟩
  | .hbm, ⟨5, _⟩ => ⟨S192x128, .f32⟩
  | .hbm, ⟨6, _⟩ => ⟨S2x256x128, .i32⟩
  | .local _ .vmem, ⟨0, _⟩ => ⟨S24x2048, .f32⟩
  | .local _ .vmem, ⟨1, _⟩ => ⟨S400x2048, .f32⟩
  | .local _ .vmem, ⟨2, _⟩ => ⟨S24x8x2048, .f32⟩
  | .local _ .vmem, ⟨3, _⟩ => ⟨S24x8x2048, .i8⟩
  | .local _ .vmem, ⟨4, _⟩ => ⟨S192x128, .f32⟩
  | .local _ .vmem, ⟨5, _⟩ => ⟨S2x256x128, .i32⟩
  | .local _ .vmem, ⟨6, _⟩ => ⟨S192x2048, .f32⟩
  | .local _ .vmem, ⟨7, _⟩ => ⟨S256x2048, .i32⟩
  | .local _ .smem, ⟨0, _⟩ => ⟨S24x8, .i32⟩
  | _, _ => ⟨S24x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_off1 (v1 : BitVec 32) : Fin 2 → Nat :=
  let v2 : Index := Scalar.indexCast v1
  let c0_3 : Index := 0#32
  ![v2.toNat, 0]

def k0_chk1 (v1 : BitVec 32) : Prop :=
  (∀ a, (k0_off1 v1) a + S1x2048.size a ≤ S400x2048.size a)
theorem k0_off1_inb : ∀ (v1 : BitVec 32) (k0_hw1 : k0_chk1 v1), ∀ a, (k0_off1 v1) a + S1x2048.size a ≤ S400x2048.size a := fun v1 k0_hw1 => k0_hw1

def k0_off2 (v8 : BitVec 32) : Fin 2 → Nat :=
  let v9 : Index := Scalar.indexCast v8
  let c0_7 : Index := 0#32
  ![v9.toNat, 0]

def k0_chk2 (v8 : BitVec 32) : Prop :=
  (∀ a, (k0_off2 v8) a + S1x2048.size a ≤ S400x2048.size a)
theorem k0_off2_inb : ∀ (v8 : BitVec 32) (k0_hw2 : k0_chk2 v8), ∀ a, (k0_off2 v8) a + S1x2048.size a ≤ S400x2048.size a := fun v8 k0_hw2 => k0_hw2

def k0_off3 (v15 : BitVec 32) : Fin 2 → Nat :=
  let v16 : Index := Scalar.indexCast v15
  let c0_11 : Index := 0#32
  ![v16.toNat, 0]

def k0_chk3 (v15 : BitVec 32) : Prop :=
  (∀ a, (k0_off3 v15) a + S1x2048.size a ≤ S400x2048.size a)
theorem k0_off3_inb : ∀ (v15 : BitVec 32) (k0_hw3 : k0_chk3 v15), ∀ a, (k0_off3 v15) a + S1x2048.size a ≤ S400x2048.size a := fun v15 k0_hw3 => k0_hw3

def k0_off4 (v22 : BitVec 32) : Fin 2 → Nat :=
  let v23 : Index := Scalar.indexCast v22
  let c0_15 : Index := 0#32
  ![v23.toNat, 0]

def k0_chk4 (v22 : BitVec 32) : Prop :=
  (∀ a, (k0_off4 v22) a + S1x2048.size a ≤ S400x2048.size a)
theorem k0_off4_inb : ∀ (v22 : BitVec 32) (k0_hw4 : k0_chk4 v22), ∀ a, (k0_off4 v22) a + S1x2048.size a ≤ S400x2048.size a := fun v22 k0_hw4 => k0_hw4

def k0_off5 (v29 : BitVec 32) : Fin 2 → Nat :=
  let v30 : Index := Scalar.indexCast v29
  let c0_19 : Index := 0#32
  ![v30.toNat, 0]

def k0_chk5 (v29 : BitVec 32) : Prop :=
  (∀ a, (k0_off5 v29) a + S1x2048.size a ≤ S400x2048.size a)
theorem k0_off5_inb : ∀ (v29 : BitVec 32) (k0_hw5 : k0_chk5 v29), ∀ a, (k0_off5 v29) a + S1x2048.size a ≤ S400x2048.size a := fun v29 k0_hw5 => k0_hw5

def k0_off6 (v36 : BitVec 32) : Fin 2 → Nat :=
  let v37 : Index := Scalar.indexCast v36
  let c0_23 : Index := 0#32
  ![v37.toNat, 0]

def k0_chk6 (v36 : BitVec 32) : Prop :=
  (∀ a, (k0_off6 v36) a + S1x2048.size a ≤ S400x2048.size a)
theorem k0_off6_inb : ∀ (v36 : BitVec 32) (k0_hw6 : k0_chk6 v36), ∀ a, (k0_off6 v36) a + S1x2048.size a ≤ S400x2048.size a := fun v36 k0_hw6 => k0_hw6

def k0_off7 (v43 : BitVec 32) : Fin 2 → Nat :=
  let v44 : Index := Scalar.indexCast v43
  let c0_27 : Index := 0#32
  ![v44.toNat, 0]

def k0_chk7 (v43 : BitVec 32) : Prop :=
  (∀ a, (k0_off7 v43) a + S1x2048.size a ≤ S400x2048.size a)
theorem k0_off7_inb : ∀ (v43 : BitVec 32) (k0_hw7 : k0_chk7 v43), ∀ a, (k0_off7 v43) a + S1x2048.size a ≤ S400x2048.size a := fun v43 k0_hw7 => k0_hw7

def k0_off8 (v50 : BitVec 32) : Fin 2 → Nat :=
  let v51 : Index := Scalar.indexCast v50
  let c0_31 : Index := 0#32
  ![v51.toNat, 0]

def k0_chk8 (v50 : BitVec 32) : Prop :=
  (∀ a, (k0_off8 v50) a + S1x2048.size a ≤ S400x2048.size a)
theorem k0_off8_inb : ∀ (v50 : BitVec 32) (k0_hw8 : k0_chk8 v50), ∀ a, (k0_off8 v50) a + S1x2048.size a ≤ S400x2048.size a := fun v50 k0_hw8 => k0_hw8

def k0_off9 (v58 : BitVec 32) : Fin 2 → Nat :=
  let v59 : Index := Scalar.indexCast v58
  let c0_38 : Index := 0#32
  ![v59.toNat, 0]

def k0_chk9 (v58 : BitVec 32) : Prop :=
  (∀ a, (k0_off9 v58) a + S1x2048.size a ≤ S400x2048.size a)
theorem k0_off9_inb : ∀ (v58 : BitVec 32) (k0_hw9 : k0_chk9 v58), ∀ a, (k0_off9 v58) a + S1x2048.size a ≤ S400x2048.size a := fun v58 k0_hw9 => k0_hw9

def k0_off10 (v65 : BitVec 32) : Fin 2 → Nat :=
  let v66 : Index := Scalar.indexCast v65
  let c0_42 : Index := 0#32
  ![v66.toNat, 0]

def k0_chk10 (v65 : BitVec 32) : Prop :=
  (∀ a, (k0_off10 v65) a + S1x2048.size a ≤ S400x2048.size a)
theorem k0_off10_inb : ∀ (v65 : BitVec 32) (k0_hw10 : k0_chk10 v65), ∀ a, (k0_off10 v65) a + S1x2048.size a ≤ S400x2048.size a := fun v65 k0_hw10 => k0_hw10

def k0_off11 (v72 : BitVec 32) : Fin 2 → Nat :=
  let v73 : Index := Scalar.indexCast v72
  let c0_46 : Index := 0#32
  ![v73.toNat, 0]

def k0_chk11 (v72 : BitVec 32) : Prop :=
  (∀ a, (k0_off11 v72) a + S1x2048.size a ≤ S400x2048.size a)
theorem k0_off11_inb : ∀ (v72 : BitVec 32) (k0_hw11 : k0_chk11 v72), ∀ a, (k0_off11 v72) a + S1x2048.size a ≤ S400x2048.size a := fun v72 k0_hw11 => k0_hw11

def k0_off12 (v79 : BitVec 32) : Fin 2 → Nat :=
  let v80 : Index := Scalar.indexCast v79
  let c0_50 : Index := 0#32
  ![v80.toNat, 0]

def k0_chk12 (v79 : BitVec 32) : Prop :=
  (∀ a, (k0_off12 v79) a + S1x2048.size a ≤ S400x2048.size a)
theorem k0_off12_inb : ∀ (v79 : BitVec 32) (k0_hw12 : k0_chk12 v79), ∀ a, (k0_off12 v79) a + S1x2048.size a ≤ S400x2048.size a := fun v79 k0_hw12 => k0_hw12

def k0_off13 (v86 : BitVec 32) : Fin 2 → Nat :=
  let v87 : Index := Scalar.indexCast v86
  let c0_54 : Index := 0#32
  ![v87.toNat, 0]

def k0_chk13 (v86 : BitVec 32) : Prop :=
  (∀ a, (k0_off13 v86) a + S1x2048.size a ≤ S400x2048.size a)
theorem k0_off13_inb : ∀ (v86 : BitVec 32) (k0_hw13 : k0_chk13 v86), ∀ a, (k0_off13 v86) a + S1x2048.size a ≤ S400x2048.size a := fun v86 k0_hw13 => k0_hw13

def k0_off14 (v93 : BitVec 32) : Fin 2 → Nat :=
  let v94 : Index := Scalar.indexCast v93
  let c0_58 : Index := 0#32
  ![v94.toNat, 0]

def k0_chk14 (v93 : BitVec 32) : Prop :=
  (∀ a, (k0_off14 v93) a + S1x2048.size a ≤ S400x2048.size a)
theorem k0_off14_inb : ∀ (v93 : BitVec 32) (k0_hw14 : k0_chk14 v93), ∀ a, (k0_off14 v93) a + S1x2048.size a ≤ S400x2048.size a := fun v93 k0_hw14 => k0_hw14

def k0_off15 (v100 : BitVec 32) : Fin 2 → Nat :=
  let v101 : Index := Scalar.indexCast v100
  let c0_62 : Index := 0#32
  ![v101.toNat, 0]

def k0_chk15 (v100 : BitVec 32) : Prop :=
  (∀ a, (k0_off15 v100) a + S1x2048.size a ≤ S400x2048.size a)
theorem k0_off15_inb : ∀ (v100 : BitVec 32) (k0_hw15 : k0_chk15 v100), ∀ a, (k0_off15 v100) a + S1x2048.size a ≤ S400x2048.size a := fun v100 k0_hw15 => k0_hw15

def k0_off16 (v107 : BitVec 32) : Fin 2 → Nat :=
  let v108 : Index := Scalar.indexCast v107
  let c0_66 : Index := 0#32
  ![v108.toNat, 0]

def k0_chk16 (v107 : BitVec 32) : Prop :=
  (∀ a, (k0_off16 v107) a + S1x2048.size a ≤ S400x2048.size a)
theorem k0_off16_inb : ∀ (v107 : BitVec 32) (k0_hw16 : k0_chk16 v107), ∀ a, (k0_off16 v107) a + S1x2048.size a ≤ S400x2048.size a := fun v107 k0_hw16 => k0_hw16

def k0_off17 (v115 : BitVec 32) : Fin 2 → Nat :=
  let v116 : Index := Scalar.indexCast v115
  let c0_72 : Index := 0#32
  ![v116.toNat, 0]

def k0_chk17 (v115 : BitVec 32) : Prop :=
  (∀ a, (k0_off17 v115) a + S1x2048.size a ≤ S400x2048.size a)
theorem k0_off17_inb : ∀ (v115 : BitVec 32) (k0_hw17 : k0_chk17 v115), ∀ a, (k0_off17 v115) a + S1x2048.size a ≤ S400x2048.size a := fun v115 k0_hw17 => k0_hw17

def k0_off18 (v122 : BitVec 32) : Fin 2 → Nat :=
  let v123 : Index := Scalar.indexCast v122
  let c0_76 : Index := 0#32
  ![v123.toNat, 0]

def k0_chk18 (v122 : BitVec 32) : Prop :=
  (∀ a, (k0_off18 v122) a + S1x2048.size a ≤ S400x2048.size a)
theorem k0_off18_inb : ∀ (v122 : BitVec 32) (k0_hw18 : k0_chk18 v122), ∀ a, (k0_off18 v122) a + S1x2048.size a ≤ S400x2048.size a := fun v122 k0_hw18 => k0_hw18

def k0_off19 (v129 : BitVec 32) : Fin 2 → Nat :=
  let v130 : Index := Scalar.indexCast v129
  let c0_80 : Index := 0#32
  ![v130.toNat, 0]

def k0_chk19 (v129 : BitVec 32) : Prop :=
  (∀ a, (k0_off19 v129) a + S1x2048.size a ≤ S400x2048.size a)
theorem k0_off19_inb : ∀ (v129 : BitVec 32) (k0_hw19 : k0_chk19 v129), ∀ a, (k0_off19 v129) a + S1x2048.size a ≤ S400x2048.size a := fun v129 k0_hw19 => k0_hw19

def k0_off20 (v136 : BitVec 32) : Fin 2 → Nat :=
  let v137 : Index := Scalar.indexCast v136
  let c0_84 : Index := 0#32
  ![v137.toNat, 0]

def k0_chk20 (v136 : BitVec 32) : Prop :=
  (∀ a, (k0_off20 v136) a + S1x2048.size a ≤ S400x2048.size a)
theorem k0_off20_inb : ∀ (v136 : BitVec 32) (k0_hw20 : k0_chk20 v136), ∀ a, (k0_off20 v136) a + S1x2048.size a ≤ S400x2048.size a := fun v136 k0_hw20 => k0_hw20

def k0_off21 (v143 : BitVec 32) : Fin 2 → Nat :=
  let v144 : Index := Scalar.indexCast v143
  let c0_88 : Index := 0#32
  ![v144.toNat, 0]

def k0_chk21 (v143 : BitVec 32) : Prop :=
  (∀ a, (k0_off21 v143) a + S1x2048.size a ≤ S400x2048.size a)
theorem k0_off21_inb : ∀ (v143 : BitVec 32) (k0_hw21 : k0_chk21 v143), ∀ a, (k0_off21 v143) a + S1x2048.size a ≤ S400x2048.size a := fun v143 k0_hw21 => k0_hw21

def k0_off22 (v150 : BitVec 32) : Fin 2 → Nat :=
  let v151 : Index := Scalar.indexCast v150
  let c0_92 : Index := 0#32
  ![v151.toNat, 0]

def k0_chk22 (v150 : BitVec 32) : Prop :=
  (∀ a, (k0_off22 v150) a + S1x2048.size a ≤ S400x2048.size a)
theorem k0_off22_inb : ∀ (v150 : BitVec 32) (k0_hw22 : k0_chk22 v150), ∀ a, (k0_off22 v150) a + S1x2048.size a ≤ S400x2048.size a := fun v150 k0_hw22 => k0_hw22

def k0_off23 (v157 : BitVec 32) : Fin 2 → Nat :=
  let v158 : Index := Scalar.indexCast v157
  let c0_96 : Index := 0#32
  ![v158.toNat, 0]

def k0_chk23 (v157 : BitVec 32) : Prop :=
  (∀ a, (k0_off23 v157) a + S1x2048.size a ≤ S400x2048.size a)
theorem k0_off23_inb : ∀ (v157 : BitVec 32) (k0_hw23 : k0_chk23 v157), ∀ a, (k0_off23 v157) a + S1x2048.size a ≤ S400x2048.size a := fun v157 k0_hw23 => k0_hw23

def k0_off24 (v164 : BitVec 32) : Fin 2 → Nat :=
  let v165 : Index := Scalar.indexCast v164
  let c0_100 : Index := 0#32
  ![v165.toNat, 0]

def k0_chk24 (v164 : BitVec 32) : Prop :=
  (∀ a, (k0_off24 v164) a + S1x2048.size a ≤ S400x2048.size a)
theorem k0_off24_inb : ∀ (v164 : BitVec 32) (k0_hw24 : k0_chk24 v164), ∀ a, (k0_off24 v164) a + S1x2048.size a ≤ S400x2048.size a := fun v164 k0_hw24 => k0_hw24

def k0_off25 (v172 : BitVec 32) : Fin 2 → Nat :=
  let v173 : Index := Scalar.indexCast v172
  let c0_106 : Index := 0#32
  ![v173.toNat, 0]

def k0_chk25 (v172 : BitVec 32) : Prop :=
  (∀ a, (k0_off25 v172) a + S1x2048.size a ≤ S400x2048.size a)
theorem k0_off25_inb : ∀ (v172 : BitVec 32) (k0_hw25 : k0_chk25 v172), ∀ a, (k0_off25 v172) a + S1x2048.size a ≤ S400x2048.size a := fun v172 k0_hw25 => k0_hw25

def k0_off26 (v179 : BitVec 32) : Fin 2 → Nat :=
  let v180 : Index := Scalar.indexCast v179
  let c0_110 : Index := 0#32
  ![v180.toNat, 0]

def k0_chk26 (v179 : BitVec 32) : Prop :=
  (∀ a, (k0_off26 v179) a + S1x2048.size a ≤ S400x2048.size a)
theorem k0_off26_inb : ∀ (v179 : BitVec 32) (k0_hw26 : k0_chk26 v179), ∀ a, (k0_off26 v179) a + S1x2048.size a ≤ S400x2048.size a := fun v179 k0_hw26 => k0_hw26

def k0_off27 (v186 : BitVec 32) : Fin 2 → Nat :=
  let v187 : Index := Scalar.indexCast v186
  let c0_114 : Index := 0#32
  ![v187.toNat, 0]

def k0_chk27 (v186 : BitVec 32) : Prop :=
  (∀ a, (k0_off27 v186) a + S1x2048.size a ≤ S400x2048.size a)
theorem k0_off27_inb : ∀ (v186 : BitVec 32) (k0_hw27 : k0_chk27 v186), ∀ a, (k0_off27 v186) a + S1x2048.size a ≤ S400x2048.size a := fun v186 k0_hw27 => k0_hw27

def k0_off28 (v193 : BitVec 32) : Fin 2 → Nat :=
  let v194 : Index := Scalar.indexCast v193
  let c0_118 : Index := 0#32
  ![v194.toNat, 0]

def k0_chk28 (v193 : BitVec 32) : Prop :=
  (∀ a, (k0_off28 v193) a + S1x2048.size a ≤ S400x2048.size a)
theorem k0_off28_inb : ∀ (v193 : BitVec 32) (k0_hw28 : k0_chk28 v193), ∀ a, (k0_off28 v193) a + S1x2048.size a ≤ S400x2048.size a := fun v193 k0_hw28 => k0_hw28

def k0_off29 (v200 : BitVec 32) : Fin 2 → Nat :=
  let v201 : Index := Scalar.indexCast v200
  let c0_122 : Index := 0#32
  ![v201.toNat, 0]

def k0_chk29 (v200 : BitVec 32) : Prop :=
  (∀ a, (k0_off29 v200) a + S1x2048.size a ≤ S400x2048.size a)
theorem k0_off29_inb : ∀ (v200 : BitVec 32) (k0_hw29 : k0_chk29 v200), ∀ a, (k0_off29 v200) a + S1x2048.size a ≤ S400x2048.size a := fun v200 k0_hw29 => k0_hw29

def k0_off30 (v207 : BitVec 32) : Fin 2 → Nat :=
  let v208 : Index := Scalar.indexCast v207
  let c0_126 : Index := 0#32
  ![v208.toNat, 0]

def k0_chk30 (v207 : BitVec 32) : Prop :=
  (∀ a, (k0_off30 v207) a + S1x2048.size a ≤ S400x2048.size a)
theorem k0_off30_inb : ∀ (v207 : BitVec 32) (k0_hw30 : k0_chk30 v207), ∀ a, (k0_off30 v207) a + S1x2048.size a ≤ S400x2048.size a := fun v207 k0_hw30 => k0_hw30

def k0_off31 (v214 : BitVec 32) : Fin 2 → Nat :=
  let v215 : Index := Scalar.indexCast v214
  let c0_130 : Index := 0#32
  ![v215.toNat, 0]

def k0_chk31 (v214 : BitVec 32) : Prop :=
  (∀ a, (k0_off31 v214) a + S1x2048.size a ≤ S400x2048.size a)
theorem k0_off31_inb : ∀ (v214 : BitVec 32) (k0_hw31 : k0_chk31 v214), ∀ a, (k0_off31 v214) a + S1x2048.size a ≤ S400x2048.size a := fun v214 k0_hw31 => k0_hw31

def k0_off32 (v221 : BitVec 32) : Fin 2 → Nat :=
  let v222 : Index := Scalar.indexCast v221
  let c0_134 : Index := 0#32
  ![v222.toNat, 0]

def k0_chk32 (v221 : BitVec 32) : Prop :=
  (∀ a, (k0_off32 v221) a + S1x2048.size a ≤ S400x2048.size a)
theorem k0_off32_inb : ∀ (v221 : BitVec 32) (k0_hw32 : k0_chk32 v221), ∀ a, (k0_off32 v221) a + S1x2048.size a ≤ S400x2048.size a := fun v221 k0_hw32 => k0_hw32

def k0_off33 (v229 : BitVec 32) : Fin 2 → Nat :=
  let v230 : Index := Scalar.indexCast v229
  let c0_140 : Index := 0#32
  ![v230.toNat, 0]

def k0_chk33 (v229 : BitVec 32) : Prop :=
  (∀ a, (k0_off33 v229) a + S1x2048.size a ≤ S400x2048.size a)
theorem k0_off33_inb : ∀ (v229 : BitVec 32) (k0_hw33 : k0_chk33 v229), ∀ a, (k0_off33 v229) a + S1x2048.size a ≤ S400x2048.size a := fun v229 k0_hw33 => k0_hw33

def k0_off34 (v236 : BitVec 32) : Fin 2 → Nat :=
  let v237 : Index := Scalar.indexCast v236
  let c0_144 : Index := 0#32
  ![v237.toNat, 0]

def k0_chk34 (v236 : BitVec 32) : Prop :=
  (∀ a, (k0_off34 v236) a + S1x2048.size a ≤ S400x2048.size a)
theorem k0_off34_inb : ∀ (v236 : BitVec 32) (k0_hw34 : k0_chk34 v236), ∀ a, (k0_off34 v236) a + S1x2048.size a ≤ S400x2048.size a := fun v236 k0_hw34 => k0_hw34

def k0_off35 (v243 : BitVec 32) : Fin 2 → Nat :=
  let v244 : Index := Scalar.indexCast v243
  let c0_148 : Index := 0#32
  ![v244.toNat, 0]

def k0_chk35 (v243 : BitVec 32) : Prop :=
  (∀ a, (k0_off35 v243) a + S1x2048.size a ≤ S400x2048.size a)
theorem k0_off35_inb : ∀ (v243 : BitVec 32) (k0_hw35 : k0_chk35 v243), ∀ a, (k0_off35 v243) a + S1x2048.size a ≤ S400x2048.size a := fun v243 k0_hw35 => k0_hw35

def k0_off36 (v250 : BitVec 32) : Fin 2 → Nat :=
  let v251 : Index := Scalar.indexCast v250
  let c0_152 : Index := 0#32
  ![v251.toNat, 0]

def k0_chk36 (v250 : BitVec 32) : Prop :=
  (∀ a, (k0_off36 v250) a + S1x2048.size a ≤ S400x2048.size a)
theorem k0_off36_inb : ∀ (v250 : BitVec 32) (k0_hw36 : k0_chk36 v250), ∀ a, (k0_off36 v250) a + S1x2048.size a ≤ S400x2048.size a := fun v250 k0_hw36 => k0_hw36

def k0_off37 (v257 : BitVec 32) : Fin 2 → Nat :=
  let v258 : Index := Scalar.indexCast v257
  let c0_156 : Index := 0#32
  ![v258.toNat, 0]

def k0_chk37 (v257 : BitVec 32) : Prop :=
  (∀ a, (k0_off37 v257) a + S1x2048.size a ≤ S400x2048.size a)
theorem k0_off37_inb : ∀ (v257 : BitVec 32) (k0_hw37 : k0_chk37 v257), ∀ a, (k0_off37 v257) a + S1x2048.size a ≤ S400x2048.size a := fun v257 k0_hw37 => k0_hw37

def k0_off38 (v264 : BitVec 32) : Fin 2 → Nat :=
  let v265 : Index := Scalar.indexCast v264
  let c0_160 : Index := 0#32
  ![v265.toNat, 0]

def k0_chk38 (v264 : BitVec 32) : Prop :=
  (∀ a, (k0_off38 v264) a + S1x2048.size a ≤ S400x2048.size a)
theorem k0_off38_inb : ∀ (v264 : BitVec 32) (k0_hw38 : k0_chk38 v264), ∀ a, (k0_off38 v264) a + S1x2048.size a ≤ S400x2048.size a := fun v264 k0_hw38 => k0_hw38

def k0_off39 (v271 : BitVec 32) : Fin 2 → Nat :=
  let v272 : Index := Scalar.indexCast v271
  let c0_164 : Index := 0#32
  ![v272.toNat, 0]

def k0_chk39 (v271 : BitVec 32) : Prop :=
  (∀ a, (k0_off39 v271) a + S1x2048.size a ≤ S400x2048.size a)
theorem k0_off39_inb : ∀ (v271 : BitVec 32) (k0_hw39 : k0_chk39 v271), ∀ a, (k0_off39 v271) a + S1x2048.size a ≤ S400x2048.size a := fun v271 k0_hw39 => k0_hw39

def k0_off40 (v278 : BitVec 32) : Fin 2 → Nat :=
  let v279 : Index := Scalar.indexCast v278
  let c0_168 : Index := 0#32
  ![v279.toNat, 0]

def k0_chk40 (v278 : BitVec 32) : Prop :=
  (∀ a, (k0_off40 v278) a + S1x2048.size a ≤ S400x2048.size a)
theorem k0_off40_inb : ∀ (v278 : BitVec 32) (k0_hw40 : k0_chk40 v278), ∀ a, (k0_off40 v278) a + S1x2048.size a ≤ S400x2048.size a := fun v278 k0_hw40 => k0_hw40

def k0_off41 (v286 : BitVec 32) : Fin 2 → Nat :=
  let v287 : Index := Scalar.indexCast v286
  let c0_174 : Index := 0#32
  ![v287.toNat, 0]

def k0_chk41 (v286 : BitVec 32) : Prop :=
  (∀ a, (k0_off41 v286) a + S1x2048.size a ≤ S400x2048.size a)
theorem k0_off41_inb : ∀ (v286 : BitVec 32) (k0_hw41 : k0_chk41 v286), ∀ a, (k0_off41 v286) a + S1x2048.size a ≤ S400x2048.size a := fun v286 k0_hw41 => k0_hw41

def k0_off42 (v293 : BitVec 32) : Fin 2 → Nat :=
  let v294 : Index := Scalar.indexCast v293
  let c0_178 : Index := 0#32
  ![v294.toNat, 0]

def k0_chk42 (v293 : BitVec 32) : Prop :=
  (∀ a, (k0_off42 v293) a + S1x2048.size a ≤ S400x2048.size a)
theorem k0_off42_inb : ∀ (v293 : BitVec 32) (k0_hw42 : k0_chk42 v293), ∀ a, (k0_off42 v293) a + S1x2048.size a ≤ S400x2048.size a := fun v293 k0_hw42 => k0_hw42

def k0_off43 (v300 : BitVec 32) : Fin 2 → Nat :=
  let v301 : Index := Scalar.indexCast v300
  let c0_182 : Index := 0#32
  ![v301.toNat, 0]

def k0_chk43 (v300 : BitVec 32) : Prop :=
  (∀ a, (k0_off43 v300) a + S1x2048.size a ≤ S400x2048.size a)
theorem k0_off43_inb : ∀ (v300 : BitVec 32) (k0_hw43 : k0_chk43 v300), ∀ a, (k0_off43 v300) a + S1x2048.size a ≤ S400x2048.size a := fun v300 k0_hw43 => k0_hw43

def k0_off44 (v307 : BitVec 32) : Fin 2 → Nat :=
  let v308 : Index := Scalar.indexCast v307
  let c0_186 : Index := 0#32
  ![v308.toNat, 0]

def k0_chk44 (v307 : BitVec 32) : Prop :=
  (∀ a, (k0_off44 v307) a + S1x2048.size a ≤ S400x2048.size a)
theorem k0_off44_inb : ∀ (v307 : BitVec 32) (k0_hw44 : k0_chk44 v307), ∀ a, (k0_off44 v307) a + S1x2048.size a ≤ S400x2048.size a := fun v307 k0_hw44 => k0_hw44

def k0_off45 (v314 : BitVec 32) : Fin 2 → Nat :=
  let v315 : Index := Scalar.indexCast v314
  let c0_190 : Index := 0#32
  ![v315.toNat, 0]

def k0_chk45 (v314 : BitVec 32) : Prop :=
  (∀ a, (k0_off45 v314) a + S1x2048.size a ≤ S400x2048.size a)
theorem k0_off45_inb : ∀ (v314 : BitVec 32) (k0_hw45 : k0_chk45 v314), ∀ a, (k0_off45 v314) a + S1x2048.size a ≤ S400x2048.size a := fun v314 k0_hw45 => k0_hw45

def k0_off46 (v321 : BitVec 32) : Fin 2 → Nat :=
  let v322 : Index := Scalar.indexCast v321
  let c0_194 : Index := 0#32
  ![v322.toNat, 0]

def k0_chk46 (v321 : BitVec 32) : Prop :=
  (∀ a, (k0_off46 v321) a + S1x2048.size a ≤ S400x2048.size a)
theorem k0_off46_inb : ∀ (v321 : BitVec 32) (k0_hw46 : k0_chk46 v321), ∀ a, (k0_off46 v321) a + S1x2048.size a ≤ S400x2048.size a := fun v321 k0_hw46 => k0_hw46

def k0_off47 (v328 : BitVec 32) : Fin 2 → Nat :=
  let v329 : Index := Scalar.indexCast v328
  let c0_198 : Index := 0#32
  ![v329.toNat, 0]

def k0_chk47 (v328 : BitVec 32) : Prop :=
  (∀ a, (k0_off47 v328) a + S1x2048.size a ≤ S400x2048.size a)
theorem k0_off47_inb : ∀ (v328 : BitVec 32) (k0_hw47 : k0_chk47 v328), ∀ a, (k0_off47 v328) a + S1x2048.size a ≤ S400x2048.size a := fun v328 k0_hw47 => k0_hw47

def k0_off48 (v335 : BitVec 32) : Fin 2 → Nat :=
  let v336 : Index := Scalar.indexCast v335
  let c0_202 : Index := 0#32
  ![v336.toNat, 0]

def k0_chk48 (v335 : BitVec 32) : Prop :=
  (∀ a, (k0_off48 v335) a + S1x2048.size a ≤ S400x2048.size a)
theorem k0_off48_inb : ∀ (v335 : BitVec 32) (k0_hw48 : k0_chk48 v335), ∀ a, (k0_off48 v335) a + S1x2048.size a ≤ S400x2048.size a := fun v335 k0_hw48 => k0_hw48

def k0_off49 (v343 : BitVec 32) : Fin 2 → Nat :=
  let v344 : Index := Scalar.indexCast v343
  let c0_208 : Index := 0#32
  ![v344.toNat, 0]

def k0_chk49 (v343 : BitVec 32) : Prop :=
  (∀ a, (k0_off49 v343) a + S1x2048.size a ≤ S400x2048.size a)
theorem k0_off49_inb : ∀ (v343 : BitVec 32) (k0_hw49 : k0_chk49 v343), ∀ a, (k0_off49 v343) a + S1x2048.size a ≤ S400x2048.size a := fun v343 k0_hw49 => k0_hw49

def k0_off50 (v350 : BitVec 32) : Fin 2 → Nat :=
  let v351 : Index := Scalar.indexCast v350
  let c0_212 : Index := 0#32
  ![v351.toNat, 0]

def k0_chk50 (v350 : BitVec 32) : Prop :=
  (∀ a, (k0_off50 v350) a + S1x2048.size a ≤ S400x2048.size a)
theorem k0_off50_inb : ∀ (v350 : BitVec 32) (k0_hw50 : k0_chk50 v350), ∀ a, (k0_off50 v350) a + S1x2048.size a ≤ S400x2048.size a := fun v350 k0_hw50 => k0_hw50

def k0_off51 (v357 : BitVec 32) : Fin 2 → Nat :=
  let v358 : Index := Scalar.indexCast v357
  let c0_216 : Index := 0#32
  ![v358.toNat, 0]

def k0_chk51 (v357 : BitVec 32) : Prop :=
  (∀ a, (k0_off51 v357) a + S1x2048.size a ≤ S400x2048.size a)
theorem k0_off51_inb : ∀ (v357 : BitVec 32) (k0_hw51 : k0_chk51 v357), ∀ a, (k0_off51 v357) a + S1x2048.size a ≤ S400x2048.size a := fun v357 k0_hw51 => k0_hw51

def k0_off52 (v364 : BitVec 32) : Fin 2 → Nat :=
  let v365 : Index := Scalar.indexCast v364
  let c0_220 : Index := 0#32
  ![v365.toNat, 0]

def k0_chk52 (v364 : BitVec 32) : Prop :=
  (∀ a, (k0_off52 v364) a + S1x2048.size a ≤ S400x2048.size a)
theorem k0_off52_inb : ∀ (v364 : BitVec 32) (k0_hw52 : k0_chk52 v364), ∀ a, (k0_off52 v364) a + S1x2048.size a ≤ S400x2048.size a := fun v364 k0_hw52 => k0_hw52

def k0_off53 (v371 : BitVec 32) : Fin 2 → Nat :=
  let v372 : Index := Scalar.indexCast v371
  let c0_224 : Index := 0#32
  ![v372.toNat, 0]

def k0_chk53 (v371 : BitVec 32) : Prop :=
  (∀ a, (k0_off53 v371) a + S1x2048.size a ≤ S400x2048.size a)
theorem k0_off53_inb : ∀ (v371 : BitVec 32) (k0_hw53 : k0_chk53 v371), ∀ a, (k0_off53 v371) a + S1x2048.size a ≤ S400x2048.size a := fun v371 k0_hw53 => k0_hw53

def k0_off54 (v378 : BitVec 32) : Fin 2 → Nat :=
  let v379 : Index := Scalar.indexCast v378
  let c0_228 : Index := 0#32
  ![v379.toNat, 0]

def k0_chk54 (v378 : BitVec 32) : Prop :=
  (∀ a, (k0_off54 v378) a + S1x2048.size a ≤ S400x2048.size a)
theorem k0_off54_inb : ∀ (v378 : BitVec 32) (k0_hw54 : k0_chk54 v378), ∀ a, (k0_off54 v378) a + S1x2048.size a ≤ S400x2048.size a := fun v378 k0_hw54 => k0_hw54

def k0_off55 (v385 : BitVec 32) : Fin 2 → Nat :=
  let v386 : Index := Scalar.indexCast v385
  let c0_232 : Index := 0#32
  ![v386.toNat, 0]

def k0_chk55 (v385 : BitVec 32) : Prop :=
  (∀ a, (k0_off55 v385) a + S1x2048.size a ≤ S400x2048.size a)
theorem k0_off55_inb : ∀ (v385 : BitVec 32) (k0_hw55 : k0_chk55 v385), ∀ a, (k0_off55 v385) a + S1x2048.size a ≤ S400x2048.size a := fun v385 k0_hw55 => k0_hw55

def k0_off56 (v392 : BitVec 32) : Fin 2 → Nat :=
  let v393 : Index := Scalar.indexCast v392
  let c0_236 : Index := 0#32
  ![v393.toNat, 0]

def k0_chk56 (v392 : BitVec 32) : Prop :=
  (∀ a, (k0_off56 v392) a + S1x2048.size a ≤ S400x2048.size a)
theorem k0_off56_inb : ∀ (v392 : BitVec 32) (k0_hw56 : k0_chk56 v392), ∀ a, (k0_off56 v392) a + S1x2048.size a ≤ S400x2048.size a := fun v392 k0_hw56 => k0_hw56

def k0_off57 (v400 : BitVec 32) : Fin 2 → Nat :=
  let v401 : Index := Scalar.indexCast v400
  let c0_242 : Index := 0#32
  ![v401.toNat, 0]

def k0_chk57 (v400 : BitVec 32) : Prop :=
  (∀ a, (k0_off57 v400) a + S1x2048.size a ≤ S400x2048.size a)
theorem k0_off57_inb : ∀ (v400 : BitVec 32) (k0_hw57 : k0_chk57 v400), ∀ a, (k0_off57 v400) a + S1x2048.size a ≤ S400x2048.size a := fun v400 k0_hw57 => k0_hw57

def k0_off58 (v407 : BitVec 32) : Fin 2 → Nat :=
  let v408 : Index := Scalar.indexCast v407
  let c0_246 : Index := 0#32
  ![v408.toNat, 0]

def k0_chk58 (v407 : BitVec 32) : Prop :=
  (∀ a, (k0_off58 v407) a + S1x2048.size a ≤ S400x2048.size a)
theorem k0_off58_inb : ∀ (v407 : BitVec 32) (k0_hw58 : k0_chk58 v407), ∀ a, (k0_off58 v407) a + S1x2048.size a ≤ S400x2048.size a := fun v407 k0_hw58 => k0_hw58

def k0_off59 (v414 : BitVec 32) : Fin 2 → Nat :=
  let v415 : Index := Scalar.indexCast v414
  let c0_250 : Index := 0#32
  ![v415.toNat, 0]

def k0_chk59 (v414 : BitVec 32) : Prop :=
  (∀ a, (k0_off59 v414) a + S1x2048.size a ≤ S400x2048.size a)
theorem k0_off59_inb : ∀ (v414 : BitVec 32) (k0_hw59 : k0_chk59 v414), ∀ a, (k0_off59 v414) a + S1x2048.size a ≤ S400x2048.size a := fun v414 k0_hw59 => k0_hw59

def k0_off60 (v421 : BitVec 32) : Fin 2 → Nat :=
  let v422 : Index := Scalar.indexCast v421
  let c0_254 : Index := 0#32
  ![v422.toNat, 0]

def k0_chk60 (v421 : BitVec 32) : Prop :=
  (∀ a, (k0_off60 v421) a + S1x2048.size a ≤ S400x2048.size a)
theorem k0_off60_inb : ∀ (v421 : BitVec 32) (k0_hw60 : k0_chk60 v421), ∀ a, (k0_off60 v421) a + S1x2048.size a ≤ S400x2048.size a := fun v421 k0_hw60 => k0_hw60

def k0_off61 (v428 : BitVec 32) : Fin 2 → Nat :=
  let v429 : Index := Scalar.indexCast v428
  let c0_258 : Index := 0#32
  ![v429.toNat, 0]

def k0_chk61 (v428 : BitVec 32) : Prop :=
  (∀ a, (k0_off61 v428) a + S1x2048.size a ≤ S400x2048.size a)
theorem k0_off61_inb : ∀ (v428 : BitVec 32) (k0_hw61 : k0_chk61 v428), ∀ a, (k0_off61 v428) a + S1x2048.size a ≤ S400x2048.size a := fun v428 k0_hw61 => k0_hw61

def k0_off62 (v435 : BitVec 32) : Fin 2 → Nat :=
  let v436 : Index := Scalar.indexCast v435
  let c0_262 : Index := 0#32
  ![v436.toNat, 0]

def k0_chk62 (v435 : BitVec 32) : Prop :=
  (∀ a, (k0_off62 v435) a + S1x2048.size a ≤ S400x2048.size a)
theorem k0_off62_inb : ∀ (v435 : BitVec 32) (k0_hw62 : k0_chk62 v435), ∀ a, (k0_off62 v435) a + S1x2048.size a ≤ S400x2048.size a := fun v435 k0_hw62 => k0_hw62

def k0_off63 (v442 : BitVec 32) : Fin 2 → Nat :=
  let v443 : Index := Scalar.indexCast v442
  let c0_266 : Index := 0#32
  ![v443.toNat, 0]

def k0_chk63 (v442 : BitVec 32) : Prop :=
  (∀ a, (k0_off63 v442) a + S1x2048.size a ≤ S400x2048.size a)
theorem k0_off63_inb : ∀ (v442 : BitVec 32) (k0_hw63 : k0_chk63 v442), ∀ a, (k0_off63 v442) a + S1x2048.size a ≤ S400x2048.size a := fun v442 k0_hw63 => k0_hw63

def k0_off64 (v449 : BitVec 32) : Fin 2 → Nat :=
  let v450 : Index := Scalar.indexCast v449
  let c0_270 : Index := 0#32
  ![v450.toNat, 0]

def k0_chk64 (v449 : BitVec 32) : Prop :=
  (∀ a, (k0_off64 v449) a + S1x2048.size a ≤ S400x2048.size a)
theorem k0_off64_inb : ∀ (v449 : BitVec 32) (k0_hw64 : k0_chk64 v449), ∀ a, (k0_off64 v449) a + S1x2048.size a ≤ S400x2048.size a := fun v449 k0_hw64 => k0_hw64

def k0_off65 (v457 : BitVec 32) : Fin 2 → Nat :=
  let v458 : Index := Scalar.indexCast v457
  let c0_276 : Index := 0#32
  ![v458.toNat, 0]

def k0_chk65 (v457 : BitVec 32) : Prop :=
  (∀ a, (k0_off65 v457) a + S1x2048.size a ≤ S400x2048.size a)
theorem k0_off65_inb : ∀ (v457 : BitVec 32) (k0_hw65 : k0_chk65 v457), ∀ a, (k0_off65 v457) a + S1x2048.size a ≤ S400x2048.size a := fun v457 k0_hw65 => k0_hw65

def k0_off66 (v464 : BitVec 32) : Fin 2 → Nat :=
  let v465 : Index := Scalar.indexCast v464
  let c0_280 : Index := 0#32
  ![v465.toNat, 0]

def k0_chk66 (v464 : BitVec 32) : Prop :=
  (∀ a, (k0_off66 v464) a + S1x2048.size a ≤ S400x2048.size a)
theorem k0_off66_inb : ∀ (v464 : BitVec 32) (k0_hw66 : k0_chk66 v464), ∀ a, (k0_off66 v464) a + S1x2048.size a ≤ S400x2048.size a := fun v464 k0_hw66 => k0_hw66

def k0_off67 (v471 : BitVec 32) : Fin 2 → Nat :=
  let v472 : Index := Scalar.indexCast v471
  let c0_284 : Index := 0#32
  ![v472.toNat, 0]

def k0_chk67 (v471 : BitVec 32) : Prop :=
  (∀ a, (k0_off67 v471) a + S1x2048.size a ≤ S400x2048.size a)
theorem k0_off67_inb : ∀ (v471 : BitVec 32) (k0_hw67 : k0_chk67 v471), ∀ a, (k0_off67 v471) a + S1x2048.size a ≤ S400x2048.size a := fun v471 k0_hw67 => k0_hw67

def k0_off68 (v478 : BitVec 32) : Fin 2 → Nat :=
  let v479 : Index := Scalar.indexCast v478
  let c0_288 : Index := 0#32
  ![v479.toNat, 0]

def k0_chk68 (v478 : BitVec 32) : Prop :=
  (∀ a, (k0_off68 v478) a + S1x2048.size a ≤ S400x2048.size a)
theorem k0_off68_inb : ∀ (v478 : BitVec 32) (k0_hw68 : k0_chk68 v478), ∀ a, (k0_off68 v478) a + S1x2048.size a ≤ S400x2048.size a := fun v478 k0_hw68 => k0_hw68

def k0_off69 (v485 : BitVec 32) : Fin 2 → Nat :=
  let v486 : Index := Scalar.indexCast v485
  let c0_292 : Index := 0#32
  ![v486.toNat, 0]

def k0_chk69 (v485 : BitVec 32) : Prop :=
  (∀ a, (k0_off69 v485) a + S1x2048.size a ≤ S400x2048.size a)
theorem k0_off69_inb : ∀ (v485 : BitVec 32) (k0_hw69 : k0_chk69 v485), ∀ a, (k0_off69 v485) a + S1x2048.size a ≤ S400x2048.size a := fun v485 k0_hw69 => k0_hw69

def k0_off70 (v492 : BitVec 32) : Fin 2 → Nat :=
  let v493 : Index := Scalar.indexCast v492
  let c0_296 : Index := 0#32
  ![v493.toNat, 0]

def k0_chk70 (v492 : BitVec 32) : Prop :=
  (∀ a, (k0_off70 v492) a + S1x2048.size a ≤ S400x2048.size a)
theorem k0_off70_inb : ∀ (v492 : BitVec 32) (k0_hw70 : k0_chk70 v492), ∀ a, (k0_off70 v492) a + S1x2048.size a ≤ S400x2048.size a := fun v492 k0_hw70 => k0_hw70

def k0_off71 (v499 : BitVec 32) : Fin 2 → Nat :=
  let v500 : Index := Scalar.indexCast v499
  let c0_300 : Index := 0#32
  ![v500.toNat, 0]

def k0_chk71 (v499 : BitVec 32) : Prop :=
  (∀ a, (k0_off71 v499) a + S1x2048.size a ≤ S400x2048.size a)
theorem k0_off71_inb : ∀ (v499 : BitVec 32) (k0_hw71 : k0_chk71 v499), ∀ a, (k0_off71 v499) a + S1x2048.size a ≤ S400x2048.size a := fun v499 k0_hw71 => k0_hw71

def k0_off72 (v506 : BitVec 32) : Fin 2 → Nat :=
  let v507 : Index := Scalar.indexCast v506
  let c0_304 : Index := 0#32
  ![v507.toNat, 0]

def k0_chk72 (v506 : BitVec 32) : Prop :=
  (∀ a, (k0_off72 v506) a + S1x2048.size a ≤ S400x2048.size a)
theorem k0_off72_inb : ∀ (v506 : BitVec 32) (k0_hw72 : k0_chk72 v506), ∀ a, (k0_off72 v506) a + S1x2048.size a ≤ S400x2048.size a := fun v506 k0_hw72 => k0_hw72

def k0_off73 (v514 : BitVec 32) : Fin 2 → Nat :=
  let v515 : Index := Scalar.indexCast v514
  let c0_310 : Index := 0#32
  ![v515.toNat, 0]

def k0_chk73 (v514 : BitVec 32) : Prop :=
  (∀ a, (k0_off73 v514) a + S1x2048.size a ≤ S400x2048.size a)
theorem k0_off73_inb : ∀ (v514 : BitVec 32) (k0_hw73 : k0_chk73 v514), ∀ a, (k0_off73 v514) a + S1x2048.size a ≤ S400x2048.size a := fun v514 k0_hw73 => k0_hw73

def k0_off74 (v521 : BitVec 32) : Fin 2 → Nat :=
  let v522 : Index := Scalar.indexCast v521
  let c0_314 : Index := 0#32
  ![v522.toNat, 0]

def k0_chk74 (v521 : BitVec 32) : Prop :=
  (∀ a, (k0_off74 v521) a + S1x2048.size a ≤ S400x2048.size a)
theorem k0_off74_inb : ∀ (v521 : BitVec 32) (k0_hw74 : k0_chk74 v521), ∀ a, (k0_off74 v521) a + S1x2048.size a ≤ S400x2048.size a := fun v521 k0_hw74 => k0_hw74

def k0_off75 (v528 : BitVec 32) : Fin 2 → Nat :=
  let v529 : Index := Scalar.indexCast v528
  let c0_318 : Index := 0#32
  ![v529.toNat, 0]

def k0_chk75 (v528 : BitVec 32) : Prop :=
  (∀ a, (k0_off75 v528) a + S1x2048.size a ≤ S400x2048.size a)
theorem k0_off75_inb : ∀ (v528 : BitVec 32) (k0_hw75 : k0_chk75 v528), ∀ a, (k0_off75 v528) a + S1x2048.size a ≤ S400x2048.size a := fun v528 k0_hw75 => k0_hw75

def k0_off76 (v535 : BitVec 32) : Fin 2 → Nat :=
  let v536 : Index := Scalar.indexCast v535
  let c0_322 : Index := 0#32
  ![v536.toNat, 0]

def k0_chk76 (v535 : BitVec 32) : Prop :=
  (∀ a, (k0_off76 v535) a + S1x2048.size a ≤ S400x2048.size a)
theorem k0_off76_inb : ∀ (v535 : BitVec 32) (k0_hw76 : k0_chk76 v535), ∀ a, (k0_off76 v535) a + S1x2048.size a ≤ S400x2048.size a := fun v535 k0_hw76 => k0_hw76

def k0_off77 (v542 : BitVec 32) : Fin 2 → Nat :=
  let v543 : Index := Scalar.indexCast v542
  let c0_326 : Index := 0#32
  ![v543.toNat, 0]

def k0_chk77 (v542 : BitVec 32) : Prop :=
  (∀ a, (k0_off77 v542) a + S1x2048.size a ≤ S400x2048.size a)
theorem k0_off77_inb : ∀ (v542 : BitVec 32) (k0_hw77 : k0_chk77 v542), ∀ a, (k0_off77 v542) a + S1x2048.size a ≤ S400x2048.size a := fun v542 k0_hw77 => k0_hw77

def k0_off78 (v549 : BitVec 32) : Fin 2 → Nat :=
  let v550 : Index := Scalar.indexCast v549
  let c0_330 : Index := 0#32
  ![v550.toNat, 0]

def k0_chk78 (v549 : BitVec 32) : Prop :=
  (∀ a, (k0_off78 v549) a + S1x2048.size a ≤ S400x2048.size a)
theorem k0_off78_inb : ∀ (v549 : BitVec 32) (k0_hw78 : k0_chk78 v549), ∀ a, (k0_off78 v549) a + S1x2048.size a ≤ S400x2048.size a := fun v549 k0_hw78 => k0_hw78

def k0_off79 (v556 : BitVec 32) : Fin 2 → Nat :=
  let v557 : Index := Scalar.indexCast v556
  let c0_334 : Index := 0#32
  ![v557.toNat, 0]

def k0_chk79 (v556 : BitVec 32) : Prop :=
  (∀ a, (k0_off79 v556) a + S1x2048.size a ≤ S400x2048.size a)
theorem k0_off79_inb : ∀ (v556 : BitVec 32) (k0_hw79 : k0_chk79 v556), ∀ a, (k0_off79 v556) a + S1x2048.size a ≤ S400x2048.size a := fun v556 k0_hw79 => k0_hw79

def k0_off80 (v563 : BitVec 32) : Fin 2 → Nat :=
  let v564 : Index := Scalar.indexCast v563
  let c0_338 : Index := 0#32
  ![v564.toNat, 0]

def k0_chk80 (v563 : BitVec 32) : Prop :=
  (∀ a, (k0_off80 v563) a + S1x2048.size a ≤ S400x2048.size a)
theorem k0_off80_inb : ∀ (v563 : BitVec 32) (k0_hw80 : k0_chk80 v563), ∀ a, (k0_off80 v563) a + S1x2048.size a ≤ S400x2048.size a := fun v563 k0_hw80 => k0_hw80

def k0_off81 (v571 : BitVec 32) : Fin 2 → Nat :=
  let v572 : Index := Scalar.indexCast v571
  let c0_344 : Index := 0#32
  ![v572.toNat, 0]

def k0_chk81 (v571 : BitVec 32) : Prop :=
  (∀ a, (k0_off81 v571) a + S1x2048.size a ≤ S400x2048.size a)
theorem k0_off81_inb : ∀ (v571 : BitVec 32) (k0_hw81 : k0_chk81 v571), ∀ a, (k0_off81 v571) a + S1x2048.size a ≤ S400x2048.size a := fun v571 k0_hw81 => k0_hw81

def k0_off82 (v578 : BitVec 32) : Fin 2 → Nat :=
  let v579 : Index := Scalar.indexCast v578
  let c0_348 : Index := 0#32
  ![v579.toNat, 0]

def k0_chk82 (v578 : BitVec 32) : Prop :=
  (∀ a, (k0_off82 v578) a + S1x2048.size a ≤ S400x2048.size a)
theorem k0_off82_inb : ∀ (v578 : BitVec 32) (k0_hw82 : k0_chk82 v578), ∀ a, (k0_off82 v578) a + S1x2048.size a ≤ S400x2048.size a := fun v578 k0_hw82 => k0_hw82

def k0_off83 (v585 : BitVec 32) : Fin 2 → Nat :=
  let v586 : Index := Scalar.indexCast v585
  let c0_352 : Index := 0#32
  ![v586.toNat, 0]

def k0_chk83 (v585 : BitVec 32) : Prop :=
  (∀ a, (k0_off83 v585) a + S1x2048.size a ≤ S400x2048.size a)
theorem k0_off83_inb : ∀ (v585 : BitVec 32) (k0_hw83 : k0_chk83 v585), ∀ a, (k0_off83 v585) a + S1x2048.size a ≤ S400x2048.size a := fun v585 k0_hw83 => k0_hw83

def k0_off84 (v592 : BitVec 32) : Fin 2 → Nat :=
  let v593 : Index := Scalar.indexCast v592
  let c0_356 : Index := 0#32
  ![v593.toNat, 0]

def k0_chk84 (v592 : BitVec 32) : Prop :=
  (∀ a, (k0_off84 v592) a + S1x2048.size a ≤ S400x2048.size a)
theorem k0_off84_inb : ∀ (v592 : BitVec 32) (k0_hw84 : k0_chk84 v592), ∀ a, (k0_off84 v592) a + S1x2048.size a ≤ S400x2048.size a := fun v592 k0_hw84 => k0_hw84

def k0_off85 (v599 : BitVec 32) : Fin 2 → Nat :=
  let v600 : Index := Scalar.indexCast v599
  let c0_360 : Index := 0#32
  ![v600.toNat, 0]

def k0_chk85 (v599 : BitVec 32) : Prop :=
  (∀ a, (k0_off85 v599) a + S1x2048.size a ≤ S400x2048.size a)
theorem k0_off85_inb : ∀ (v599 : BitVec 32) (k0_hw85 : k0_chk85 v599), ∀ a, (k0_off85 v599) a + S1x2048.size a ≤ S400x2048.size a := fun v599 k0_hw85 => k0_hw85

def k0_off86 (v606 : BitVec 32) : Fin 2 → Nat :=
  let v607 : Index := Scalar.indexCast v606
  let c0_364 : Index := 0#32
  ![v607.toNat, 0]

def k0_chk86 (v606 : BitVec 32) : Prop :=
  (∀ a, (k0_off86 v606) a + S1x2048.size a ≤ S400x2048.size a)
theorem k0_off86_inb : ∀ (v606 : BitVec 32) (k0_hw86 : k0_chk86 v606), ∀ a, (k0_off86 v606) a + S1x2048.size a ≤ S400x2048.size a := fun v606 k0_hw86 => k0_hw86

def k0_off87 (v613 : BitVec 32) : Fin 2 → Nat :=
  let v614 : Index := Scalar.indexCast v613
  let c0_368 : Index := 0#32
  ![v614.toNat, 0]

def k0_chk87 (v613 : BitVec 32) : Prop :=
  (∀ a, (k0_off87 v613) a + S1x2048.size a ≤ S400x2048.size a)
theorem k0_off87_inb : ∀ (v613 : BitVec 32) (k0_hw87 : k0_chk87 v613), ∀ a, (k0_off87 v613) a + S1x2048.size a ≤ S400x2048.size a := fun v613 k0_hw87 => k0_hw87

def k0_off88 (v620 : BitVec 32) : Fin 2 → Nat :=
  let v621 : Index := Scalar.indexCast v620
  let c0_372 : Index := 0#32
  ![v621.toNat, 0]

def k0_chk88 (v620 : BitVec 32) : Prop :=
  (∀ a, (k0_off88 v620) a + S1x2048.size a ≤ S400x2048.size a)
theorem k0_off88_inb : ∀ (v620 : BitVec 32) (k0_hw88 : k0_chk88 v620), ∀ a, (k0_off88 v620) a + S1x2048.size a ≤ S400x2048.size a := fun v620 k0_hw88 => k0_hw88

def k0_off89 (v628 : BitVec 32) : Fin 2 → Nat :=
  let v629 : Index := Scalar.indexCast v628
  let c0_378 : Index := 0#32
  ![v629.toNat, 0]

def k0_chk89 (v628 : BitVec 32) : Prop :=
  (∀ a, (k0_off89 v628) a + S1x2048.size a ≤ S400x2048.size a)
theorem k0_off89_inb : ∀ (v628 : BitVec 32) (k0_hw89 : k0_chk89 v628), ∀ a, (k0_off89 v628) a + S1x2048.size a ≤ S400x2048.size a := fun v628 k0_hw89 => k0_hw89

def k0_off90 (v635 : BitVec 32) : Fin 2 → Nat :=
  let v636 : Index := Scalar.indexCast v635
  let c0_382 : Index := 0#32
  ![v636.toNat, 0]

def k0_chk90 (v635 : BitVec 32) : Prop :=
  (∀ a, (k0_off90 v635) a + S1x2048.size a ≤ S400x2048.size a)
theorem k0_off90_inb : ∀ (v635 : BitVec 32) (k0_hw90 : k0_chk90 v635), ∀ a, (k0_off90 v635) a + S1x2048.size a ≤ S400x2048.size a := fun v635 k0_hw90 => k0_hw90

def k0_off91 (v642 : BitVec 32) : Fin 2 → Nat :=
  let v643 : Index := Scalar.indexCast v642
  let c0_386 : Index := 0#32
  ![v643.toNat, 0]

def k0_chk91 (v642 : BitVec 32) : Prop :=
  (∀ a, (k0_off91 v642) a + S1x2048.size a ≤ S400x2048.size a)
theorem k0_off91_inb : ∀ (v642 : BitVec 32) (k0_hw91 : k0_chk91 v642), ∀ a, (k0_off91 v642) a + S1x2048.size a ≤ S400x2048.size a := fun v642 k0_hw91 => k0_hw91

def k0_off92 (v649 : BitVec 32) : Fin 2 → Nat :=
  let v650 : Index := Scalar.indexCast v649
  let c0_390 : Index := 0#32
  ![v650.toNat, 0]

def k0_chk92 (v649 : BitVec 32) : Prop :=
  (∀ a, (k0_off92 v649) a + S1x2048.size a ≤ S400x2048.size a)
theorem k0_off92_inb : ∀ (v649 : BitVec 32) (k0_hw92 : k0_chk92 v649), ∀ a, (k0_off92 v649) a + S1x2048.size a ≤ S400x2048.size a := fun v649 k0_hw92 => k0_hw92

def k0_off93 (v656 : BitVec 32) : Fin 2 → Nat :=
  let v657 : Index := Scalar.indexCast v656
  let c0_394 : Index := 0#32
  ![v657.toNat, 0]

def k0_chk93 (v656 : BitVec 32) : Prop :=
  (∀ a, (k0_off93 v656) a + S1x2048.size a ≤ S400x2048.size a)
theorem k0_off93_inb : ∀ (v656 : BitVec 32) (k0_hw93 : k0_chk93 v656), ∀ a, (k0_off93 v656) a + S1x2048.size a ≤ S400x2048.size a := fun v656 k0_hw93 => k0_hw93

def k0_off94 (v663 : BitVec 32) : Fin 2 → Nat :=
  let v664 : Index := Scalar.indexCast v663
  let c0_398 : Index := 0#32
  ![v664.toNat, 0]

def k0_chk94 (v663 : BitVec 32) : Prop :=
  (∀ a, (k0_off94 v663) a + S1x2048.size a ≤ S400x2048.size a)
theorem k0_off94_inb : ∀ (v663 : BitVec 32) (k0_hw94 : k0_chk94 v663), ∀ a, (k0_off94 v663) a + S1x2048.size a ≤ S400x2048.size a := fun v663 k0_hw94 => k0_hw94

def k0_off95 (v670 : BitVec 32) : Fin 2 → Nat :=
  let v671 : Index := Scalar.indexCast v670
  let c0_402 : Index := 0#32
  ![v671.toNat, 0]

def k0_chk95 (v670 : BitVec 32) : Prop :=
  (∀ a, (k0_off95 v670) a + S1x2048.size a ≤ S400x2048.size a)
theorem k0_off95_inb : ∀ (v670 : BitVec 32) (k0_hw95 : k0_chk95 v670), ∀ a, (k0_off95 v670) a + S1x2048.size a ≤ S400x2048.size a := fun v670 k0_hw95 => k0_hw95

def k0_off96 (v677 : BitVec 32) : Fin 2 → Nat :=
  let v678 : Index := Scalar.indexCast v677
  let c0_406 : Index := 0#32
  ![v678.toNat, 0]

def k0_chk96 (v677 : BitVec 32) : Prop :=
  (∀ a, (k0_off96 v677) a + S1x2048.size a ≤ S400x2048.size a)
theorem k0_off96_inb : ∀ (v677 : BitVec 32) (k0_hw96 : k0_chk96 v677), ∀ a, (k0_off96 v677) a + S1x2048.size a ≤ S400x2048.size a := fun v677 k0_hw96 => k0_hw96

def k0_off97 (v685 : BitVec 32) : Fin 2 → Nat :=
  let v686 : Index := Scalar.indexCast v685
  let c0_412 : Index := 0#32
  ![v686.toNat, 0]

def k0_chk97 (v685 : BitVec 32) : Prop :=
  (∀ a, (k0_off97 v685) a + S1x2048.size a ≤ S400x2048.size a)
theorem k0_off97_inb : ∀ (v685 : BitVec 32) (k0_hw97 : k0_chk97 v685), ∀ a, (k0_off97 v685) a + S1x2048.size a ≤ S400x2048.size a := fun v685 k0_hw97 => k0_hw97

def k0_off98 (v692 : BitVec 32) : Fin 2 → Nat :=
  let v693 : Index := Scalar.indexCast v692
  let c0_416 : Index := 0#32
  ![v693.toNat, 0]

def k0_chk98 (v692 : BitVec 32) : Prop :=
  (∀ a, (k0_off98 v692) a + S1x2048.size a ≤ S400x2048.size a)
theorem k0_off98_inb : ∀ (v692 : BitVec 32) (k0_hw98 : k0_chk98 v692), ∀ a, (k0_off98 v692) a + S1x2048.size a ≤ S400x2048.size a := fun v692 k0_hw98 => k0_hw98

def k0_off99 (v699 : BitVec 32) : Fin 2 → Nat :=
  let v700 : Index := Scalar.indexCast v699
  let c0_420 : Index := 0#32
  ![v700.toNat, 0]

def k0_chk99 (v699 : BitVec 32) : Prop :=
  (∀ a, (k0_off99 v699) a + S1x2048.size a ≤ S400x2048.size a)
theorem k0_off99_inb : ∀ (v699 : BitVec 32) (k0_hw99 : k0_chk99 v699), ∀ a, (k0_off99 v699) a + S1x2048.size a ≤ S400x2048.size a := fun v699 k0_hw99 => k0_hw99

def k0_off100 (v706 : BitVec 32) : Fin 2 → Nat :=
  let v707 : Index := Scalar.indexCast v706
  let c0_424 : Index := 0#32
  ![v707.toNat, 0]

def k0_chk100 (v706 : BitVec 32) : Prop :=
  (∀ a, (k0_off100 v706) a + S1x2048.size a ≤ S400x2048.size a)
theorem k0_off100_inb : ∀ (v706 : BitVec 32) (k0_hw100 : k0_chk100 v706), ∀ a, (k0_off100 v706) a + S1x2048.size a ≤ S400x2048.size a := fun v706 k0_hw100 => k0_hw100

def k0_off101 (v713 : BitVec 32) : Fin 2 → Nat :=
  let v714 : Index := Scalar.indexCast v713
  let c0_428 : Index := 0#32
  ![v714.toNat, 0]

def k0_chk101 (v713 : BitVec 32) : Prop :=
  (∀ a, (k0_off101 v713) a + S1x2048.size a ≤ S400x2048.size a)
theorem k0_off101_inb : ∀ (v713 : BitVec 32) (k0_hw101 : k0_chk101 v713), ∀ a, (k0_off101 v713) a + S1x2048.size a ≤ S400x2048.size a := fun v713 k0_hw101 => k0_hw101

def k0_off102 (v720 : BitVec 32) : Fin 2 → Nat :=
  let v721 : Index := Scalar.indexCast v720
  let c0_432 : Index := 0#32
  ![v721.toNat, 0]

def k0_chk102 (v720 : BitVec 32) : Prop :=
  (∀ a, (k0_off102 v720) a + S1x2048.size a ≤ S400x2048.size a)
theorem k0_off102_inb : ∀ (v720 : BitVec 32) (k0_hw102 : k0_chk102 v720), ∀ a, (k0_off102 v720) a + S1x2048.size a ≤ S400x2048.size a := fun v720 k0_hw102 => k0_hw102

def k0_off103 (v727 : BitVec 32) : Fin 2 → Nat :=
  let v728 : Index := Scalar.indexCast v727
  let c0_436 : Index := 0#32
  ![v728.toNat, 0]

def k0_chk103 (v727 : BitVec 32) : Prop :=
  (∀ a, (k0_off103 v727) a + S1x2048.size a ≤ S400x2048.size a)
theorem k0_off103_inb : ∀ (v727 : BitVec 32) (k0_hw103 : k0_chk103 v727), ∀ a, (k0_off103 v727) a + S1x2048.size a ≤ S400x2048.size a := fun v727 k0_hw103 => k0_hw103

def k0_off104 (v734 : BitVec 32) : Fin 2 → Nat :=
  let v735 : Index := Scalar.indexCast v734
  let c0_440 : Index := 0#32
  ![v735.toNat, 0]

def k0_chk104 (v734 : BitVec 32) : Prop :=
  (∀ a, (k0_off104 v734) a + S1x2048.size a ≤ S400x2048.size a)
theorem k0_off104_inb : ∀ (v734 : BitVec 32) (k0_hw104 : k0_chk104 v734), ∀ a, (k0_off104 v734) a + S1x2048.size a ≤ S400x2048.size a := fun v734 k0_hw104 => k0_hw104

def k0_off105 (v742 : BitVec 32) : Fin 2 → Nat :=
  let v743 : Index := Scalar.indexCast v742
  let c0_446 : Index := 0#32
  ![v743.toNat, 0]

def k0_chk105 (v742 : BitVec 32) : Prop :=
  (∀ a, (k0_off105 v742) a + S1x2048.size a ≤ S400x2048.size a)
theorem k0_off105_inb : ∀ (v742 : BitVec 32) (k0_hw105 : k0_chk105 v742), ∀ a, (k0_off105 v742) a + S1x2048.size a ≤ S400x2048.size a := fun v742 k0_hw105 => k0_hw105

def k0_off106 (v749 : BitVec 32) : Fin 2 → Nat :=
  let v750 : Index := Scalar.indexCast v749
  let c0_450 : Index := 0#32
  ![v750.toNat, 0]

def k0_chk106 (v749 : BitVec 32) : Prop :=
  (∀ a, (k0_off106 v749) a + S1x2048.size a ≤ S400x2048.size a)
theorem k0_off106_inb : ∀ (v749 : BitVec 32) (k0_hw106 : k0_chk106 v749), ∀ a, (k0_off106 v749) a + S1x2048.size a ≤ S400x2048.size a := fun v749 k0_hw106 => k0_hw106

def k0_off107 (v756 : BitVec 32) : Fin 2 → Nat :=
  let v757 : Index := Scalar.indexCast v756
  let c0_454 : Index := 0#32
  ![v757.toNat, 0]

def k0_chk107 (v756 : BitVec 32) : Prop :=
  (∀ a, (k0_off107 v756) a + S1x2048.size a ≤ S400x2048.size a)
theorem k0_off107_inb : ∀ (v756 : BitVec 32) (k0_hw107 : k0_chk107 v756), ∀ a, (k0_off107 v756) a + S1x2048.size a ≤ S400x2048.size a := fun v756 k0_hw107 => k0_hw107

def k0_off108 (v763 : BitVec 32) : Fin 2 → Nat :=
  let v764 : Index := Scalar.indexCast v763
  let c0_458 : Index := 0#32
  ![v764.toNat, 0]

def k0_chk108 (v763 : BitVec 32) : Prop :=
  (∀ a, (k0_off108 v763) a + S1x2048.size a ≤ S400x2048.size a)
theorem k0_off108_inb : ∀ (v763 : BitVec 32) (k0_hw108 : k0_chk108 v763), ∀ a, (k0_off108 v763) a + S1x2048.size a ≤ S400x2048.size a := fun v763 k0_hw108 => k0_hw108

def k0_off109 (v770 : BitVec 32) : Fin 2 → Nat :=
  let v771 : Index := Scalar.indexCast v770
  let c0_462 : Index := 0#32
  ![v771.toNat, 0]

def k0_chk109 (v770 : BitVec 32) : Prop :=
  (∀ a, (k0_off109 v770) a + S1x2048.size a ≤ S400x2048.size a)
theorem k0_off109_inb : ∀ (v770 : BitVec 32) (k0_hw109 : k0_chk109 v770), ∀ a, (k0_off109 v770) a + S1x2048.size a ≤ S400x2048.size a := fun v770 k0_hw109 => k0_hw109

def k0_off110 (v777 : BitVec 32) : Fin 2 → Nat :=
  let v778 : Index := Scalar.indexCast v777
  let c0_466 : Index := 0#32
  ![v778.toNat, 0]

def k0_chk110 (v777 : BitVec 32) : Prop :=
  (∀ a, (k0_off110 v777) a + S1x2048.size a ≤ S400x2048.size a)
theorem k0_off110_inb : ∀ (v777 : BitVec 32) (k0_hw110 : k0_chk110 v777), ∀ a, (k0_off110 v777) a + S1x2048.size a ≤ S400x2048.size a := fun v777 k0_hw110 => k0_hw110

def k0_off111 (v784 : BitVec 32) : Fin 2 → Nat :=
  let v785 : Index := Scalar.indexCast v784
  let c0_470 : Index := 0#32
  ![v785.toNat, 0]

def k0_chk111 (v784 : BitVec 32) : Prop :=
  (∀ a, (k0_off111 v784) a + S1x2048.size a ≤ S400x2048.size a)
theorem k0_off111_inb : ∀ (v784 : BitVec 32) (k0_hw111 : k0_chk111 v784), ∀ a, (k0_off111 v784) a + S1x2048.size a ≤ S400x2048.size a := fun v784 k0_hw111 => k0_hw111

def k0_off112 (v791 : BitVec 32) : Fin 2 → Nat :=
  let v792 : Index := Scalar.indexCast v791
  let c0_474 : Index := 0#32
  ![v792.toNat, 0]

def k0_chk112 (v791 : BitVec 32) : Prop :=
  (∀ a, (k0_off112 v791) a + S1x2048.size a ≤ S400x2048.size a)
theorem k0_off112_inb : ∀ (v791 : BitVec 32) (k0_hw112 : k0_chk112 v791), ∀ a, (k0_off112 v791) a + S1x2048.size a ≤ S400x2048.size a := fun v791 k0_hw112 => k0_hw112

def k0_off113 (v799 : BitVec 32) : Fin 2 → Nat :=
  let v800 : Index := Scalar.indexCast v799
  let c0_480 : Index := 0#32
  ![v800.toNat, 0]

def k0_chk113 (v799 : BitVec 32) : Prop :=
  (∀ a, (k0_off113 v799) a + S1x2048.size a ≤ S400x2048.size a)
theorem k0_off113_inb : ∀ (v799 : BitVec 32) (k0_hw113 : k0_chk113 v799), ∀ a, (k0_off113 v799) a + S1x2048.size a ≤ S400x2048.size a := fun v799 k0_hw113 => k0_hw113

def k0_off114 (v806 : BitVec 32) : Fin 2 → Nat :=
  let v807 : Index := Scalar.indexCast v806
  let c0_484 : Index := 0#32
  ![v807.toNat, 0]

def k0_chk114 (v806 : BitVec 32) : Prop :=
  (∀ a, (k0_off114 v806) a + S1x2048.size a ≤ S400x2048.size a)
theorem k0_off114_inb : ∀ (v806 : BitVec 32) (k0_hw114 : k0_chk114 v806), ∀ a, (k0_off114 v806) a + S1x2048.size a ≤ S400x2048.size a := fun v806 k0_hw114 => k0_hw114

def k0_off115 (v813 : BitVec 32) : Fin 2 → Nat :=
  let v814 : Index := Scalar.indexCast v813
  let c0_488 : Index := 0#32
  ![v814.toNat, 0]

def k0_chk115 (v813 : BitVec 32) : Prop :=
  (∀ a, (k0_off115 v813) a + S1x2048.size a ≤ S400x2048.size a)
theorem k0_off115_inb : ∀ (v813 : BitVec 32) (k0_hw115 : k0_chk115 v813), ∀ a, (k0_off115 v813) a + S1x2048.size a ≤ S400x2048.size a := fun v813 k0_hw115 => k0_hw115

def k0_off116 (v820 : BitVec 32) : Fin 2 → Nat :=
  let v821 : Index := Scalar.indexCast v820
  let c0_492 : Index := 0#32
  ![v821.toNat, 0]

def k0_chk116 (v820 : BitVec 32) : Prop :=
  (∀ a, (k0_off116 v820) a + S1x2048.size a ≤ S400x2048.size a)
theorem k0_off116_inb : ∀ (v820 : BitVec 32) (k0_hw116 : k0_chk116 v820), ∀ a, (k0_off116 v820) a + S1x2048.size a ≤ S400x2048.size a := fun v820 k0_hw116 => k0_hw116

def k0_off117 (v827 : BitVec 32) : Fin 2 → Nat :=
  let v828 : Index := Scalar.indexCast v827
  let c0_496 : Index := 0#32
  ![v828.toNat, 0]

def k0_chk117 (v827 : BitVec 32) : Prop :=
  (∀ a, (k0_off117 v827) a + S1x2048.size a ≤ S400x2048.size a)
theorem k0_off117_inb : ∀ (v827 : BitVec 32) (k0_hw117 : k0_chk117 v827), ∀ a, (k0_off117 v827) a + S1x2048.size a ≤ S400x2048.size a := fun v827 k0_hw117 => k0_hw117

def k0_off118 (v834 : BitVec 32) : Fin 2 → Nat :=
  let v835 : Index := Scalar.indexCast v834
  let c0_500 : Index := 0#32
  ![v835.toNat, 0]

def k0_chk118 (v834 : BitVec 32) : Prop :=
  (∀ a, (k0_off118 v834) a + S1x2048.size a ≤ S400x2048.size a)
theorem k0_off118_inb : ∀ (v834 : BitVec 32) (k0_hw118 : k0_chk118 v834), ∀ a, (k0_off118 v834) a + S1x2048.size a ≤ S400x2048.size a := fun v834 k0_hw118 => k0_hw118

def k0_off119 (v841 : BitVec 32) : Fin 2 → Nat :=
  let v842 : Index := Scalar.indexCast v841
  let c0_504 : Index := 0#32
  ![v842.toNat, 0]

def k0_chk119 (v841 : BitVec 32) : Prop :=
  (∀ a, (k0_off119 v841) a + S1x2048.size a ≤ S400x2048.size a)
theorem k0_off119_inb : ∀ (v841 : BitVec 32) (k0_hw119 : k0_chk119 v841), ∀ a, (k0_off119 v841) a + S1x2048.size a ≤ S400x2048.size a := fun v841 k0_hw119 => k0_hw119

def k0_off120 (v848 : BitVec 32) : Fin 2 → Nat :=
  let v849 : Index := Scalar.indexCast v848
  let c0_508 : Index := 0#32
  ![v849.toNat, 0]

def k0_chk120 (v848 : BitVec 32) : Prop :=
  (∀ a, (k0_off120 v848) a + S1x2048.size a ≤ S400x2048.size a)
theorem k0_off120_inb : ∀ (v848 : BitVec 32) (k0_hw120 : k0_chk120 v848), ∀ a, (k0_off120 v848) a + S1x2048.size a ≤ S400x2048.size a := fun v848 k0_hw120 => k0_hw120

def k0_off121 (v856 : BitVec 32) : Fin 2 → Nat :=
  let v857 : Index := Scalar.indexCast v856
  let c0_514 : Index := 0#32
  ![v857.toNat, 0]

def k0_chk121 (v856 : BitVec 32) : Prop :=
  (∀ a, (k0_off121 v856) a + S1x2048.size a ≤ S400x2048.size a)
theorem k0_off121_inb : ∀ (v856 : BitVec 32) (k0_hw121 : k0_chk121 v856), ∀ a, (k0_off121 v856) a + S1x2048.size a ≤ S400x2048.size a := fun v856 k0_hw121 => k0_hw121

def k0_off122 (v863 : BitVec 32) : Fin 2 → Nat :=
  let v864 : Index := Scalar.indexCast v863
  let c0_518 : Index := 0#32
  ![v864.toNat, 0]

def k0_chk122 (v863 : BitVec 32) : Prop :=
  (∀ a, (k0_off122 v863) a + S1x2048.size a ≤ S400x2048.size a)
theorem k0_off122_inb : ∀ (v863 : BitVec 32) (k0_hw122 : k0_chk122 v863), ∀ a, (k0_off122 v863) a + S1x2048.size a ≤ S400x2048.size a := fun v863 k0_hw122 => k0_hw122

def k0_off123 (v870 : BitVec 32) : Fin 2 → Nat :=
  let v871 : Index := Scalar.indexCast v870
  let c0_522 : Index := 0#32
  ![v871.toNat, 0]

def k0_chk123 (v870 : BitVec 32) : Prop :=
  (∀ a, (k0_off123 v870) a + S1x2048.size a ≤ S400x2048.size a)
theorem k0_off123_inb : ∀ (v870 : BitVec 32) (k0_hw123 : k0_chk123 v870), ∀ a, (k0_off123 v870) a + S1x2048.size a ≤ S400x2048.size a := fun v870 k0_hw123 => k0_hw123

def k0_off124 (v877 : BitVec 32) : Fin 2 → Nat :=
  let v878 : Index := Scalar.indexCast v877
  let c0_526 : Index := 0#32
  ![v878.toNat, 0]

def k0_chk124 (v877 : BitVec 32) : Prop :=
  (∀ a, (k0_off124 v877) a + S1x2048.size a ≤ S400x2048.size a)
theorem k0_off124_inb : ∀ (v877 : BitVec 32) (k0_hw124 : k0_chk124 v877), ∀ a, (k0_off124 v877) a + S1x2048.size a ≤ S400x2048.size a := fun v877 k0_hw124 => k0_hw124

def k0_off125 (v884 : BitVec 32) : Fin 2 → Nat :=
  let v885 : Index := Scalar.indexCast v884
  let c0_530 : Index := 0#32
  ![v885.toNat, 0]

def k0_chk125 (v884 : BitVec 32) : Prop :=
  (∀ a, (k0_off125 v884) a + S1x2048.size a ≤ S400x2048.size a)
theorem k0_off125_inb : ∀ (v884 : BitVec 32) (k0_hw125 : k0_chk125 v884), ∀ a, (k0_off125 v884) a + S1x2048.size a ≤ S400x2048.size a := fun v884 k0_hw125 => k0_hw125

def k0_off126 (v891 : BitVec 32) : Fin 2 → Nat :=
  let v892 : Index := Scalar.indexCast v891
  let c0_534 : Index := 0#32
  ![v892.toNat, 0]

def k0_chk126 (v891 : BitVec 32) : Prop :=
  (∀ a, (k0_off126 v891) a + S1x2048.size a ≤ S400x2048.size a)
theorem k0_off126_inb : ∀ (v891 : BitVec 32) (k0_hw126 : k0_chk126 v891), ∀ a, (k0_off126 v891) a + S1x2048.size a ≤ S400x2048.size a := fun v891 k0_hw126 => k0_hw126

def k0_off127 (v898 : BitVec 32) : Fin 2 → Nat :=
  let v899 : Index := Scalar.indexCast v898
  let c0_538 : Index := 0#32
  ![v899.toNat, 0]

def k0_chk127 (v898 : BitVec 32) : Prop :=
  (∀ a, (k0_off127 v898) a + S1x2048.size a ≤ S400x2048.size a)
theorem k0_off127_inb : ∀ (v898 : BitVec 32) (k0_hw127 : k0_chk127 v898), ∀ a, (k0_off127 v898) a + S1x2048.size a ≤ S400x2048.size a := fun v898 k0_hw127 => k0_hw127

def k0_off128 (v905 : BitVec 32) : Fin 2 → Nat :=
  let v906 : Index := Scalar.indexCast v905
  let c0_542 : Index := 0#32
  ![v906.toNat, 0]

def k0_chk128 (v905 : BitVec 32) : Prop :=
  (∀ a, (k0_off128 v905) a + S1x2048.size a ≤ S400x2048.size a)
theorem k0_off128_inb : ∀ (v905 : BitVec 32) (k0_hw128 : k0_chk128 v905), ∀ a, (k0_off128 v905) a + S1x2048.size a ≤ S400x2048.size a := fun v905 k0_hw128 => k0_hw128

def k0_off129 (v913 : BitVec 32) : Fin 2 → Nat :=
  let v914 : Index := Scalar.indexCast v913
  let c0_548 : Index := 0#32
  ![v914.toNat, 0]

def k0_chk129 (v913 : BitVec 32) : Prop :=
  (∀ a, (k0_off129 v913) a + S1x2048.size a ≤ S400x2048.size a)
theorem k0_off129_inb : ∀ (v913 : BitVec 32) (k0_hw129 : k0_chk129 v913), ∀ a, (k0_off129 v913) a + S1x2048.size a ≤ S400x2048.size a := fun v913 k0_hw129 => k0_hw129

def k0_off130 (v920 : BitVec 32) : Fin 2 → Nat :=
  let v921 : Index := Scalar.indexCast v920
  let c0_552 : Index := 0#32
  ![v921.toNat, 0]

def k0_chk130 (v920 : BitVec 32) : Prop :=
  (∀ a, (k0_off130 v920) a + S1x2048.size a ≤ S400x2048.size a)
theorem k0_off130_inb : ∀ (v920 : BitVec 32) (k0_hw130 : k0_chk130 v920), ∀ a, (k0_off130 v920) a + S1x2048.size a ≤ S400x2048.size a := fun v920 k0_hw130 => k0_hw130

def k0_off131 (v927 : BitVec 32) : Fin 2 → Nat :=
  let v928 : Index := Scalar.indexCast v927
  let c0_556 : Index := 0#32
  ![v928.toNat, 0]

def k0_chk131 (v927 : BitVec 32) : Prop :=
  (∀ a, (k0_off131 v927) a + S1x2048.size a ≤ S400x2048.size a)
theorem k0_off131_inb : ∀ (v927 : BitVec 32) (k0_hw131 : k0_chk131 v927), ∀ a, (k0_off131 v927) a + S1x2048.size a ≤ S400x2048.size a := fun v927 k0_hw131 => k0_hw131

def k0_off132 (v934 : BitVec 32) : Fin 2 → Nat :=
  let v935 : Index := Scalar.indexCast v934
  let c0_560 : Index := 0#32
  ![v935.toNat, 0]

def k0_chk132 (v934 : BitVec 32) : Prop :=
  (∀ a, (k0_off132 v934) a + S1x2048.size a ≤ S400x2048.size a)
theorem k0_off132_inb : ∀ (v934 : BitVec 32) (k0_hw132 : k0_chk132 v934), ∀ a, (k0_off132 v934) a + S1x2048.size a ≤ S400x2048.size a := fun v934 k0_hw132 => k0_hw132

def k0_off133 (v941 : BitVec 32) : Fin 2 → Nat :=
  let v942 : Index := Scalar.indexCast v941
  let c0_564 : Index := 0#32
  ![v942.toNat, 0]

def k0_chk133 (v941 : BitVec 32) : Prop :=
  (∀ a, (k0_off133 v941) a + S1x2048.size a ≤ S400x2048.size a)
theorem k0_off133_inb : ∀ (v941 : BitVec 32) (k0_hw133 : k0_chk133 v941), ∀ a, (k0_off133 v941) a + S1x2048.size a ≤ S400x2048.size a := fun v941 k0_hw133 => k0_hw133

def k0_off134 (v948 : BitVec 32) : Fin 2 → Nat :=
  let v949 : Index := Scalar.indexCast v948
  let c0_568 : Index := 0#32
  ![v949.toNat, 0]

def k0_chk134 (v948 : BitVec 32) : Prop :=
  (∀ a, (k0_off134 v948) a + S1x2048.size a ≤ S400x2048.size a)
theorem k0_off134_inb : ∀ (v948 : BitVec 32) (k0_hw134 : k0_chk134 v948), ∀ a, (k0_off134 v948) a + S1x2048.size a ≤ S400x2048.size a := fun v948 k0_hw134 => k0_hw134

def k0_off135 (v955 : BitVec 32) : Fin 2 → Nat :=
  let v956 : Index := Scalar.indexCast v955
  let c0_572 : Index := 0#32
  ![v956.toNat, 0]

def k0_chk135 (v955 : BitVec 32) : Prop :=
  (∀ a, (k0_off135 v955) a + S1x2048.size a ≤ S400x2048.size a)
theorem k0_off135_inb : ∀ (v955 : BitVec 32) (k0_hw135 : k0_chk135 v955), ∀ a, (k0_off135 v955) a + S1x2048.size a ≤ S400x2048.size a := fun v955 k0_hw135 => k0_hw135

def k0_off136 (v962 : BitVec 32) : Fin 2 → Nat :=
  let v963 : Index := Scalar.indexCast v962
  let c0_576 : Index := 0#32
  ![v963.toNat, 0]

def k0_chk136 (v962 : BitVec 32) : Prop :=
  (∀ a, (k0_off136 v962) a + S1x2048.size a ≤ S400x2048.size a)
theorem k0_off136_inb : ∀ (v962 : BitVec 32) (k0_hw136 : k0_chk136 v962), ∀ a, (k0_off136 v962) a + S1x2048.size a ≤ S400x2048.size a := fun v962 k0_hw136 => k0_hw136

def k0_off137 (v970 : BitVec 32) : Fin 2 → Nat :=
  let v971 : Index := Scalar.indexCast v970
  let c0_582 : Index := 0#32
  ![v971.toNat, 0]

def k0_chk137 (v970 : BitVec 32) : Prop :=
  (∀ a, (k0_off137 v970) a + S1x2048.size a ≤ S400x2048.size a)
theorem k0_off137_inb : ∀ (v970 : BitVec 32) (k0_hw137 : k0_chk137 v970), ∀ a, (k0_off137 v970) a + S1x2048.size a ≤ S400x2048.size a := fun v970 k0_hw137 => k0_hw137

def k0_off138 (v977 : BitVec 32) : Fin 2 → Nat :=
  let v978 : Index := Scalar.indexCast v977
  let c0_586 : Index := 0#32
  ![v978.toNat, 0]

def k0_chk138 (v977 : BitVec 32) : Prop :=
  (∀ a, (k0_off138 v977) a + S1x2048.size a ≤ S400x2048.size a)
theorem k0_off138_inb : ∀ (v977 : BitVec 32) (k0_hw138 : k0_chk138 v977), ∀ a, (k0_off138 v977) a + S1x2048.size a ≤ S400x2048.size a := fun v977 k0_hw138 => k0_hw138

def k0_off139 (v984 : BitVec 32) : Fin 2 → Nat :=
  let v985 : Index := Scalar.indexCast v984
  let c0_590 : Index := 0#32
  ![v985.toNat, 0]

def k0_chk139 (v984 : BitVec 32) : Prop :=
  (∀ a, (k0_off139 v984) a + S1x2048.size a ≤ S400x2048.size a)
theorem k0_off139_inb : ∀ (v984 : BitVec 32) (k0_hw139 : k0_chk139 v984), ∀ a, (k0_off139 v984) a + S1x2048.size a ≤ S400x2048.size a := fun v984 k0_hw139 => k0_hw139

def k0_off140 (v991 : BitVec 32) : Fin 2 → Nat :=
  let v992 : Index := Scalar.indexCast v991
  let c0_594 : Index := 0#32
  ![v992.toNat, 0]

def k0_chk140 (v991 : BitVec 32) : Prop :=
  (∀ a, (k0_off140 v991) a + S1x2048.size a ≤ S400x2048.size a)
theorem k0_off140_inb : ∀ (v991 : BitVec 32) (k0_hw140 : k0_chk140 v991), ∀ a, (k0_off140 v991) a + S1x2048.size a ≤ S400x2048.size a := fun v991 k0_hw140 => k0_hw140

def k0_off141 (v998 : BitVec 32) : Fin 2 → Nat :=
  let v999 : Index := Scalar.indexCast v998
  let c0_598 : Index := 0#32
  ![v999.toNat, 0]

def k0_chk141 (v998 : BitVec 32) : Prop :=
  (∀ a, (k0_off141 v998) a + S1x2048.size a ≤ S400x2048.size a)
theorem k0_off141_inb : ∀ (v998 : BitVec 32) (k0_hw141 : k0_chk141 v998), ∀ a, (k0_off141 v998) a + S1x2048.size a ≤ S400x2048.size a := fun v998 k0_hw141 => k0_hw141

def k0_off142 (v1005 : BitVec 32) : Fin 2 → Nat :=
  let v1006 : Index := Scalar.indexCast v1005
  let c0_602 : Index := 0#32
  ![v1006.toNat, 0]

def k0_chk142 (v1005 : BitVec 32) : Prop :=
  (∀ a, (k0_off142 v1005) a + S1x2048.size a ≤ S400x2048.size a)
theorem k0_off142_inb : ∀ (v1005 : BitVec 32) (k0_hw142 : k0_chk142 v1005), ∀ a, (k0_off142 v1005) a + S1x2048.size a ≤ S400x2048.size a := fun v1005 k0_hw142 => k0_hw142

def k0_off143 (v1012 : BitVec 32) : Fin 2 → Nat :=
  let v1013 : Index := Scalar.indexCast v1012
  let c0_606 : Index := 0#32
  ![v1013.toNat, 0]

def k0_chk143 (v1012 : BitVec 32) : Prop :=
  (∀ a, (k0_off143 v1012) a + S1x2048.size a ≤ S400x2048.size a)
theorem k0_off143_inb : ∀ (v1012 : BitVec 32) (k0_hw143 : k0_chk143 v1012), ∀ a, (k0_off143 v1012) a + S1x2048.size a ≤ S400x2048.size a := fun v1012 k0_hw143 => k0_hw143

def k0_off144 (v1019 : BitVec 32) : Fin 2 → Nat :=
  let v1020 : Index := Scalar.indexCast v1019
  let c0_610 : Index := 0#32
  ![v1020.toNat, 0]

def k0_chk144 (v1019 : BitVec 32) : Prop :=
  (∀ a, (k0_off144 v1019) a + S1x2048.size a ≤ S400x2048.size a)
theorem k0_off144_inb : ∀ (v1019 : BitVec 32) (k0_hw144 : k0_chk144 v1019), ∀ a, (k0_off144 v1019) a + S1x2048.size a ≤ S400x2048.size a := fun v1019 k0_hw144 => k0_hw144

def k0_off145 (v1027 : BitVec 32) : Fin 2 → Nat :=
  let v1028 : Index := Scalar.indexCast v1027
  let c0_616 : Index := 0#32
  ![v1028.toNat, 0]

def k0_chk145 (v1027 : BitVec 32) : Prop :=
  (∀ a, (k0_off145 v1027) a + S1x2048.size a ≤ S400x2048.size a)
theorem k0_off145_inb : ∀ (v1027 : BitVec 32) (k0_hw145 : k0_chk145 v1027), ∀ a, (k0_off145 v1027) a + S1x2048.size a ≤ S400x2048.size a := fun v1027 k0_hw145 => k0_hw145

def k0_off146 (v1034 : BitVec 32) : Fin 2 → Nat :=
  let v1035 : Index := Scalar.indexCast v1034
  let c0_620 : Index := 0#32
  ![v1035.toNat, 0]

def k0_chk146 (v1034 : BitVec 32) : Prop :=
  (∀ a, (k0_off146 v1034) a + S1x2048.size a ≤ S400x2048.size a)
theorem k0_off146_inb : ∀ (v1034 : BitVec 32) (k0_hw146 : k0_chk146 v1034), ∀ a, (k0_off146 v1034) a + S1x2048.size a ≤ S400x2048.size a := fun v1034 k0_hw146 => k0_hw146

def k0_off147 (v1041 : BitVec 32) : Fin 2 → Nat :=
  let v1042 : Index := Scalar.indexCast v1041
  let c0_624 : Index := 0#32
  ![v1042.toNat, 0]

def k0_chk147 (v1041 : BitVec 32) : Prop :=
  (∀ a, (k0_off147 v1041) a + S1x2048.size a ≤ S400x2048.size a)
theorem k0_off147_inb : ∀ (v1041 : BitVec 32) (k0_hw147 : k0_chk147 v1041), ∀ a, (k0_off147 v1041) a + S1x2048.size a ≤ S400x2048.size a := fun v1041 k0_hw147 => k0_hw147

def k0_off148 (v1048 : BitVec 32) : Fin 2 → Nat :=
  let v1049 : Index := Scalar.indexCast v1048
  let c0_628 : Index := 0#32
  ![v1049.toNat, 0]

def k0_chk148 (v1048 : BitVec 32) : Prop :=
  (∀ a, (k0_off148 v1048) a + S1x2048.size a ≤ S400x2048.size a)
theorem k0_off148_inb : ∀ (v1048 : BitVec 32) (k0_hw148 : k0_chk148 v1048), ∀ a, (k0_off148 v1048) a + S1x2048.size a ≤ S400x2048.size a := fun v1048 k0_hw148 => k0_hw148

def k0_off149 (v1055 : BitVec 32) : Fin 2 → Nat :=
  let v1056 : Index := Scalar.indexCast v1055
  let c0_632 : Index := 0#32
  ![v1056.toNat, 0]

def k0_chk149 (v1055 : BitVec 32) : Prop :=
  (∀ a, (k0_off149 v1055) a + S1x2048.size a ≤ S400x2048.size a)
theorem k0_off149_inb : ∀ (v1055 : BitVec 32) (k0_hw149 : k0_chk149 v1055), ∀ a, (k0_off149 v1055) a + S1x2048.size a ≤ S400x2048.size a := fun v1055 k0_hw149 => k0_hw149

def k0_off150 (v1062 : BitVec 32) : Fin 2 → Nat :=
  let v1063 : Index := Scalar.indexCast v1062
  let c0_636 : Index := 0#32
  ![v1063.toNat, 0]

def k0_chk150 (v1062 : BitVec 32) : Prop :=
  (∀ a, (k0_off150 v1062) a + S1x2048.size a ≤ S400x2048.size a)
theorem k0_off150_inb : ∀ (v1062 : BitVec 32) (k0_hw150 : k0_chk150 v1062), ∀ a, (k0_off150 v1062) a + S1x2048.size a ≤ S400x2048.size a := fun v1062 k0_hw150 => k0_hw150

def k0_off151 (v1069 : BitVec 32) : Fin 2 → Nat :=
  let v1070 : Index := Scalar.indexCast v1069
  let c0_640 : Index := 0#32
  ![v1070.toNat, 0]

def k0_chk151 (v1069 : BitVec 32) : Prop :=
  (∀ a, (k0_off151 v1069) a + S1x2048.size a ≤ S400x2048.size a)
theorem k0_off151_inb : ∀ (v1069 : BitVec 32) (k0_hw151 : k0_chk151 v1069), ∀ a, (k0_off151 v1069) a + S1x2048.size a ≤ S400x2048.size a := fun v1069 k0_hw151 => k0_hw151

def k0_off152 (v1076 : BitVec 32) : Fin 2 → Nat :=
  let v1077 : Index := Scalar.indexCast v1076
  let c0_644 : Index := 0#32
  ![v1077.toNat, 0]

def k0_chk152 (v1076 : BitVec 32) : Prop :=
  (∀ a, (k0_off152 v1076) a + S1x2048.size a ≤ S400x2048.size a)
theorem k0_off152_inb : ∀ (v1076 : BitVec 32) (k0_hw152 : k0_chk152 v1076), ∀ a, (k0_off152 v1076) a + S1x2048.size a ≤ S400x2048.size a := fun v1076 k0_hw152 => k0_hw152

def k0_off153 (v1084 : BitVec 32) : Fin 2 → Nat :=
  let v1085 : Index := Scalar.indexCast v1084
  let c0_650 : Index := 0#32
  ![v1085.toNat, 0]

def k0_chk153 (v1084 : BitVec 32) : Prop :=
  (∀ a, (k0_off153 v1084) a + S1x2048.size a ≤ S400x2048.size a)
theorem k0_off153_inb : ∀ (v1084 : BitVec 32) (k0_hw153 : k0_chk153 v1084), ∀ a, (k0_off153 v1084) a + S1x2048.size a ≤ S400x2048.size a := fun v1084 k0_hw153 => k0_hw153

def k0_off154 (v1091 : BitVec 32) : Fin 2 → Nat :=
  let v1092 : Index := Scalar.indexCast v1091
  let c0_654 : Index := 0#32
  ![v1092.toNat, 0]

def k0_chk154 (v1091 : BitVec 32) : Prop :=
  (∀ a, (k0_off154 v1091) a + S1x2048.size a ≤ S400x2048.size a)
theorem k0_off154_inb : ∀ (v1091 : BitVec 32) (k0_hw154 : k0_chk154 v1091), ∀ a, (k0_off154 v1091) a + S1x2048.size a ≤ S400x2048.size a := fun v1091 k0_hw154 => k0_hw154

def k0_off155 (v1098 : BitVec 32) : Fin 2 → Nat :=
  let v1099 : Index := Scalar.indexCast v1098
  let c0_658 : Index := 0#32
  ![v1099.toNat, 0]

def k0_chk155 (v1098 : BitVec 32) : Prop :=
  (∀ a, (k0_off155 v1098) a + S1x2048.size a ≤ S400x2048.size a)
theorem k0_off155_inb : ∀ (v1098 : BitVec 32) (k0_hw155 : k0_chk155 v1098), ∀ a, (k0_off155 v1098) a + S1x2048.size a ≤ S400x2048.size a := fun v1098 k0_hw155 => k0_hw155

def k0_off156 (v1105 : BitVec 32) : Fin 2 → Nat :=
  let v1106 : Index := Scalar.indexCast v1105
  let c0_662 : Index := 0#32
  ![v1106.toNat, 0]

def k0_chk156 (v1105 : BitVec 32) : Prop :=
  (∀ a, (k0_off156 v1105) a + S1x2048.size a ≤ S400x2048.size a)
theorem k0_off156_inb : ∀ (v1105 : BitVec 32) (k0_hw156 : k0_chk156 v1105), ∀ a, (k0_off156 v1105) a + S1x2048.size a ≤ S400x2048.size a := fun v1105 k0_hw156 => k0_hw156

def k0_off157 (v1112 : BitVec 32) : Fin 2 → Nat :=
  let v1113 : Index := Scalar.indexCast v1112
  let c0_666 : Index := 0#32
  ![v1113.toNat, 0]

def k0_chk157 (v1112 : BitVec 32) : Prop :=
  (∀ a, (k0_off157 v1112) a + S1x2048.size a ≤ S400x2048.size a)
theorem k0_off157_inb : ∀ (v1112 : BitVec 32) (k0_hw157 : k0_chk157 v1112), ∀ a, (k0_off157 v1112) a + S1x2048.size a ≤ S400x2048.size a := fun v1112 k0_hw157 => k0_hw157

def k0_off158 (v1119 : BitVec 32) : Fin 2 → Nat :=
  let v1120 : Index := Scalar.indexCast v1119
  let c0_670 : Index := 0#32
  ![v1120.toNat, 0]

def k0_chk158 (v1119 : BitVec 32) : Prop :=
  (∀ a, (k0_off158 v1119) a + S1x2048.size a ≤ S400x2048.size a)
theorem k0_off158_inb : ∀ (v1119 : BitVec 32) (k0_hw158 : k0_chk158 v1119), ∀ a, (k0_off158 v1119) a + S1x2048.size a ≤ S400x2048.size a := fun v1119 k0_hw158 => k0_hw158

def k0_off159 (v1126 : BitVec 32) : Fin 2 → Nat :=
  let v1127 : Index := Scalar.indexCast v1126
  let c0_674 : Index := 0#32
  ![v1127.toNat, 0]

def k0_chk159 (v1126 : BitVec 32) : Prop :=
  (∀ a, (k0_off159 v1126) a + S1x2048.size a ≤ S400x2048.size a)
theorem k0_off159_inb : ∀ (v1126 : BitVec 32) (k0_hw159 : k0_chk159 v1126), ∀ a, (k0_off159 v1126) a + S1x2048.size a ≤ S400x2048.size a := fun v1126 k0_hw159 => k0_hw159

def k0_off160 (v1133 : BitVec 32) : Fin 2 → Nat :=
  let v1134 : Index := Scalar.indexCast v1133
  let c0_678 : Index := 0#32
  ![v1134.toNat, 0]

def k0_chk160 (v1133 : BitVec 32) : Prop :=
  (∀ a, (k0_off160 v1133) a + S1x2048.size a ≤ S400x2048.size a)
theorem k0_off160_inb : ∀ (v1133 : BitVec 32) (k0_hw160 : k0_chk160 v1133), ∀ a, (k0_off160 v1133) a + S1x2048.size a ≤ S400x2048.size a := fun v1133 k0_hw160 => k0_hw160

def k0_off161 (v1141 : BitVec 32) : Fin 2 → Nat :=
  let v1142 : Index := Scalar.indexCast v1141
  let c0_684 : Index := 0#32
  ![v1142.toNat, 0]

def k0_chk161 (v1141 : BitVec 32) : Prop :=
  (∀ a, (k0_off161 v1141) a + S1x2048.size a ≤ S400x2048.size a)
theorem k0_off161_inb : ∀ (v1141 : BitVec 32) (k0_hw161 : k0_chk161 v1141), ∀ a, (k0_off161 v1141) a + S1x2048.size a ≤ S400x2048.size a := fun v1141 k0_hw161 => k0_hw161

def k0_off162 (v1148 : BitVec 32) : Fin 2 → Nat :=
  let v1149 : Index := Scalar.indexCast v1148
  let c0_688 : Index := 0#32
  ![v1149.toNat, 0]

def k0_chk162 (v1148 : BitVec 32) : Prop :=
  (∀ a, (k0_off162 v1148) a + S1x2048.size a ≤ S400x2048.size a)
theorem k0_off162_inb : ∀ (v1148 : BitVec 32) (k0_hw162 : k0_chk162 v1148), ∀ a, (k0_off162 v1148) a + S1x2048.size a ≤ S400x2048.size a := fun v1148 k0_hw162 => k0_hw162

def k0_off163 (v1155 : BitVec 32) : Fin 2 → Nat :=
  let v1156 : Index := Scalar.indexCast v1155
  let c0_692 : Index := 0#32
  ![v1156.toNat, 0]

def k0_chk163 (v1155 : BitVec 32) : Prop :=
  (∀ a, (k0_off163 v1155) a + S1x2048.size a ≤ S400x2048.size a)
theorem k0_off163_inb : ∀ (v1155 : BitVec 32) (k0_hw163 : k0_chk163 v1155), ∀ a, (k0_off163 v1155) a + S1x2048.size a ≤ S400x2048.size a := fun v1155 k0_hw163 => k0_hw163

def k0_off164 (v1162 : BitVec 32) : Fin 2 → Nat :=
  let v1163 : Index := Scalar.indexCast v1162
  let c0_696 : Index := 0#32
  ![v1163.toNat, 0]

def k0_chk164 (v1162 : BitVec 32) : Prop :=
  (∀ a, (k0_off164 v1162) a + S1x2048.size a ≤ S400x2048.size a)
theorem k0_off164_inb : ∀ (v1162 : BitVec 32) (k0_hw164 : k0_chk164 v1162), ∀ a, (k0_off164 v1162) a + S1x2048.size a ≤ S400x2048.size a := fun v1162 k0_hw164 => k0_hw164

def k0_off165 (v1169 : BitVec 32) : Fin 2 → Nat :=
  let v1170 : Index := Scalar.indexCast v1169
  let c0_700 : Index := 0#32
  ![v1170.toNat, 0]

def k0_chk165 (v1169 : BitVec 32) : Prop :=
  (∀ a, (k0_off165 v1169) a + S1x2048.size a ≤ S400x2048.size a)
theorem k0_off165_inb : ∀ (v1169 : BitVec 32) (k0_hw165 : k0_chk165 v1169), ∀ a, (k0_off165 v1169) a + S1x2048.size a ≤ S400x2048.size a := fun v1169 k0_hw165 => k0_hw165

def k0_off166 (v1176 : BitVec 32) : Fin 2 → Nat :=
  let v1177 : Index := Scalar.indexCast v1176
  let c0_704 : Index := 0#32
  ![v1177.toNat, 0]

def k0_chk166 (v1176 : BitVec 32) : Prop :=
  (∀ a, (k0_off166 v1176) a + S1x2048.size a ≤ S400x2048.size a)
theorem k0_off166_inb : ∀ (v1176 : BitVec 32) (k0_hw166 : k0_chk166 v1176), ∀ a, (k0_off166 v1176) a + S1x2048.size a ≤ S400x2048.size a := fun v1176 k0_hw166 => k0_hw166

def k0_off167 (v1183 : BitVec 32) : Fin 2 → Nat :=
  let v1184 : Index := Scalar.indexCast v1183
  let c0_708 : Index := 0#32
  ![v1184.toNat, 0]

def k0_chk167 (v1183 : BitVec 32) : Prop :=
  (∀ a, (k0_off167 v1183) a + S1x2048.size a ≤ S400x2048.size a)
theorem k0_off167_inb : ∀ (v1183 : BitVec 32) (k0_hw167 : k0_chk167 v1183), ∀ a, (k0_off167 v1183) a + S1x2048.size a ≤ S400x2048.size a := fun v1183 k0_hw167 => k0_hw167

def k0_off168 (v1190 : BitVec 32) : Fin 2 → Nat :=
  let v1191 : Index := Scalar.indexCast v1190
  let c0_712 : Index := 0#32
  ![v1191.toNat, 0]

def k0_chk168 (v1190 : BitVec 32) : Prop :=
  (∀ a, (k0_off168 v1190) a + S1x2048.size a ≤ S400x2048.size a)
theorem k0_off168_inb : ∀ (v1190 : BitVec 32) (k0_hw168 : k0_chk168 v1190), ∀ a, (k0_off168 v1190) a + S1x2048.size a ≤ S400x2048.size a := fun v1190 k0_hw168 => k0_hw168

def k0_off169 (v1198 : BitVec 32) : Fin 2 → Nat :=
  let v1199 : Index := Scalar.indexCast v1198
  let c0_718 : Index := 0#32
  ![v1199.toNat, 0]

def k0_chk169 (v1198 : BitVec 32) : Prop :=
  (∀ a, (k0_off169 v1198) a + S1x2048.size a ≤ S400x2048.size a)
theorem k0_off169_inb : ∀ (v1198 : BitVec 32) (k0_hw169 : k0_chk169 v1198), ∀ a, (k0_off169 v1198) a + S1x2048.size a ≤ S400x2048.size a := fun v1198 k0_hw169 => k0_hw169

def k0_off170 (v1205 : BitVec 32) : Fin 2 → Nat :=
  let v1206 : Index := Scalar.indexCast v1205
  let c0_722 : Index := 0#32
  ![v1206.toNat, 0]

def k0_chk170 (v1205 : BitVec 32) : Prop :=
  (∀ a, (k0_off170 v1205) a + S1x2048.size a ≤ S400x2048.size a)
theorem k0_off170_inb : ∀ (v1205 : BitVec 32) (k0_hw170 : k0_chk170 v1205), ∀ a, (k0_off170 v1205) a + S1x2048.size a ≤ S400x2048.size a := fun v1205 k0_hw170 => k0_hw170

def k0_off171 (v1212 : BitVec 32) : Fin 2 → Nat :=
  let v1213 : Index := Scalar.indexCast v1212
  let c0_726 : Index := 0#32
  ![v1213.toNat, 0]

def k0_chk171 (v1212 : BitVec 32) : Prop :=
  (∀ a, (k0_off171 v1212) a + S1x2048.size a ≤ S400x2048.size a)
theorem k0_off171_inb : ∀ (v1212 : BitVec 32) (k0_hw171 : k0_chk171 v1212), ∀ a, (k0_off171 v1212) a + S1x2048.size a ≤ S400x2048.size a := fun v1212 k0_hw171 => k0_hw171

def k0_off172 (v1219 : BitVec 32) : Fin 2 → Nat :=
  let v1220 : Index := Scalar.indexCast v1219
  let c0_730 : Index := 0#32
  ![v1220.toNat, 0]

def k0_chk172 (v1219 : BitVec 32) : Prop :=
  (∀ a, (k0_off172 v1219) a + S1x2048.size a ≤ S400x2048.size a)
theorem k0_off172_inb : ∀ (v1219 : BitVec 32) (k0_hw172 : k0_chk172 v1219), ∀ a, (k0_off172 v1219) a + S1x2048.size a ≤ S400x2048.size a := fun v1219 k0_hw172 => k0_hw172

def k0_off173 (v1226 : BitVec 32) : Fin 2 → Nat :=
  let v1227 : Index := Scalar.indexCast v1226
  let c0_734 : Index := 0#32
  ![v1227.toNat, 0]

def k0_chk173 (v1226 : BitVec 32) : Prop :=
  (∀ a, (k0_off173 v1226) a + S1x2048.size a ≤ S400x2048.size a)
theorem k0_off173_inb : ∀ (v1226 : BitVec 32) (k0_hw173 : k0_chk173 v1226), ∀ a, (k0_off173 v1226) a + S1x2048.size a ≤ S400x2048.size a := fun v1226 k0_hw173 => k0_hw173

def k0_off174 (v1233 : BitVec 32) : Fin 2 → Nat :=
  let v1234 : Index := Scalar.indexCast v1233
  let c0_738 : Index := 0#32
  ![v1234.toNat, 0]

def k0_chk174 (v1233 : BitVec 32) : Prop :=
  (∀ a, (k0_off174 v1233) a + S1x2048.size a ≤ S400x2048.size a)
theorem k0_off174_inb : ∀ (v1233 : BitVec 32) (k0_hw174 : k0_chk174 v1233), ∀ a, (k0_off174 v1233) a + S1x2048.size a ≤ S400x2048.size a := fun v1233 k0_hw174 => k0_hw174

def k0_off175 (v1240 : BitVec 32) : Fin 2 → Nat :=
  let v1241 : Index := Scalar.indexCast v1240
  let c0_742 : Index := 0#32
  ![v1241.toNat, 0]

def k0_chk175 (v1240 : BitVec 32) : Prop :=
  (∀ a, (k0_off175 v1240) a + S1x2048.size a ≤ S400x2048.size a)
theorem k0_off175_inb : ∀ (v1240 : BitVec 32) (k0_hw175 : k0_chk175 v1240), ∀ a, (k0_off175 v1240) a + S1x2048.size a ≤ S400x2048.size a := fun v1240 k0_hw175 => k0_hw175

def k0_off176 (v1247 : BitVec 32) : Fin 2 → Nat :=
  let v1248 : Index := Scalar.indexCast v1247
  let c0_746 : Index := 0#32
  ![v1248.toNat, 0]

def k0_chk176 (v1247 : BitVec 32) : Prop :=
  (∀ a, (k0_off176 v1247) a + S1x2048.size a ≤ S400x2048.size a)
theorem k0_off176_inb : ∀ (v1247 : BitVec 32) (k0_hw176 : k0_chk176 v1247), ∀ a, (k0_off176 v1247) a + S1x2048.size a ≤ S400x2048.size a := fun v1247 k0_hw176 => k0_hw176

def k0_off177 (v1255 : BitVec 32) : Fin 2 → Nat :=
  let v1256 : Index := Scalar.indexCast v1255
  let c0_752 : Index := 0#32
  ![v1256.toNat, 0]

def k0_chk177 (v1255 : BitVec 32) : Prop :=
  (∀ a, (k0_off177 v1255) a + S1x2048.size a ≤ S400x2048.size a)
theorem k0_off177_inb : ∀ (v1255 : BitVec 32) (k0_hw177 : k0_chk177 v1255), ∀ a, (k0_off177 v1255) a + S1x2048.size a ≤ S400x2048.size a := fun v1255 k0_hw177 => k0_hw177

def k0_off178 (v1262 : BitVec 32) : Fin 2 → Nat :=
  let v1263 : Index := Scalar.indexCast v1262
  let c0_756 : Index := 0#32
  ![v1263.toNat, 0]

def k0_chk178 (v1262 : BitVec 32) : Prop :=
  (∀ a, (k0_off178 v1262) a + S1x2048.size a ≤ S400x2048.size a)
theorem k0_off178_inb : ∀ (v1262 : BitVec 32) (k0_hw178 : k0_chk178 v1262), ∀ a, (k0_off178 v1262) a + S1x2048.size a ≤ S400x2048.size a := fun v1262 k0_hw178 => k0_hw178

def k0_off179 (v1269 : BitVec 32) : Fin 2 → Nat :=
  let v1270 : Index := Scalar.indexCast v1269
  let c0_760 : Index := 0#32
  ![v1270.toNat, 0]

def k0_chk179 (v1269 : BitVec 32) : Prop :=
  (∀ a, (k0_off179 v1269) a + S1x2048.size a ≤ S400x2048.size a)
theorem k0_off179_inb : ∀ (v1269 : BitVec 32) (k0_hw179 : k0_chk179 v1269), ∀ a, (k0_off179 v1269) a + S1x2048.size a ≤ S400x2048.size a := fun v1269 k0_hw179 => k0_hw179

def k0_off180 (v1276 : BitVec 32) : Fin 2 → Nat :=
  let v1277 : Index := Scalar.indexCast v1276
  let c0_764 : Index := 0#32
  ![v1277.toNat, 0]

def k0_chk180 (v1276 : BitVec 32) : Prop :=
  (∀ a, (k0_off180 v1276) a + S1x2048.size a ≤ S400x2048.size a)
theorem k0_off180_inb : ∀ (v1276 : BitVec 32) (k0_hw180 : k0_chk180 v1276), ∀ a, (k0_off180 v1276) a + S1x2048.size a ≤ S400x2048.size a := fun v1276 k0_hw180 => k0_hw180

def k0_off181 (v1283 : BitVec 32) : Fin 2 → Nat :=
  let v1284 : Index := Scalar.indexCast v1283
  let c0_768 : Index := 0#32
  ![v1284.toNat, 0]

def k0_chk181 (v1283 : BitVec 32) : Prop :=
  (∀ a, (k0_off181 v1283) a + S1x2048.size a ≤ S400x2048.size a)
theorem k0_off181_inb : ∀ (v1283 : BitVec 32) (k0_hw181 : k0_chk181 v1283), ∀ a, (k0_off181 v1283) a + S1x2048.size a ≤ S400x2048.size a := fun v1283 k0_hw181 => k0_hw181

def k0_off182 (v1290 : BitVec 32) : Fin 2 → Nat :=
  let v1291 : Index := Scalar.indexCast v1290
  let c0_772 : Index := 0#32
  ![v1291.toNat, 0]

def k0_chk182 (v1290 : BitVec 32) : Prop :=
  (∀ a, (k0_off182 v1290) a + S1x2048.size a ≤ S400x2048.size a)
theorem k0_off182_inb : ∀ (v1290 : BitVec 32) (k0_hw182 : k0_chk182 v1290), ∀ a, (k0_off182 v1290) a + S1x2048.size a ≤ S400x2048.size a := fun v1290 k0_hw182 => k0_hw182

def k0_off183 (v1297 : BitVec 32) : Fin 2 → Nat :=
  let v1298 : Index := Scalar.indexCast v1297
  let c0_776 : Index := 0#32
  ![v1298.toNat, 0]

def k0_chk183 (v1297 : BitVec 32) : Prop :=
  (∀ a, (k0_off183 v1297) a + S1x2048.size a ≤ S400x2048.size a)
theorem k0_off183_inb : ∀ (v1297 : BitVec 32) (k0_hw183 : k0_chk183 v1297), ∀ a, (k0_off183 v1297) a + S1x2048.size a ≤ S400x2048.size a := fun v1297 k0_hw183 => k0_hw183

def k0_off184 (v1304 : BitVec 32) : Fin 2 → Nat :=
  let v1305 : Index := Scalar.indexCast v1304
  let c0_780 : Index := 0#32
  ![v1305.toNat, 0]

def k0_chk184 (v1304 : BitVec 32) : Prop :=
  (∀ a, (k0_off184 v1304) a + S1x2048.size a ≤ S400x2048.size a)
theorem k0_off184_inb : ∀ (v1304 : BitVec 32) (k0_hw184 : k0_chk184 v1304), ∀ a, (k0_off184 v1304) a + S1x2048.size a ≤ S400x2048.size a := fun v1304 k0_hw184 => k0_hw184

def k0_off185 (v1312 : BitVec 32) : Fin 2 → Nat :=
  let v1313 : Index := Scalar.indexCast v1312
  let c0_786 : Index := 0#32
  ![v1313.toNat, 0]

def k0_chk185 (v1312 : BitVec 32) : Prop :=
  (∀ a, (k0_off185 v1312) a + S1x2048.size a ≤ S400x2048.size a)
theorem k0_off185_inb : ∀ (v1312 : BitVec 32) (k0_hw185 : k0_chk185 v1312), ∀ a, (k0_off185 v1312) a + S1x2048.size a ≤ S400x2048.size a := fun v1312 k0_hw185 => k0_hw185

def k0_off186 (v1319 : BitVec 32) : Fin 2 → Nat :=
  let v1320 : Index := Scalar.indexCast v1319
  let c0_790 : Index := 0#32
  ![v1320.toNat, 0]

def k0_chk186 (v1319 : BitVec 32) : Prop :=
  (∀ a, (k0_off186 v1319) a + S1x2048.size a ≤ S400x2048.size a)
theorem k0_off186_inb : ∀ (v1319 : BitVec 32) (k0_hw186 : k0_chk186 v1319), ∀ a, (k0_off186 v1319) a + S1x2048.size a ≤ S400x2048.size a := fun v1319 k0_hw186 => k0_hw186

def k0_off187 (v1326 : BitVec 32) : Fin 2 → Nat :=
  let v1327 : Index := Scalar.indexCast v1326
  let c0_794 : Index := 0#32
  ![v1327.toNat, 0]

def k0_chk187 (v1326 : BitVec 32) : Prop :=
  (∀ a, (k0_off187 v1326) a + S1x2048.size a ≤ S400x2048.size a)
theorem k0_off187_inb : ∀ (v1326 : BitVec 32) (k0_hw187 : k0_chk187 v1326), ∀ a, (k0_off187 v1326) a + S1x2048.size a ≤ S400x2048.size a := fun v1326 k0_hw187 => k0_hw187

def k0_off188 (v1333 : BitVec 32) : Fin 2 → Nat :=
  let v1334 : Index := Scalar.indexCast v1333
  let c0_798 : Index := 0#32
  ![v1334.toNat, 0]

def k0_chk188 (v1333 : BitVec 32) : Prop :=
  (∀ a, (k0_off188 v1333) a + S1x2048.size a ≤ S400x2048.size a)
theorem k0_off188_inb : ∀ (v1333 : BitVec 32) (k0_hw188 : k0_chk188 v1333), ∀ a, (k0_off188 v1333) a + S1x2048.size a ≤ S400x2048.size a := fun v1333 k0_hw188 => k0_hw188

def k0_off189 (v1340 : BitVec 32) : Fin 2 → Nat :=
  let v1341 : Index := Scalar.indexCast v1340
  let c0_802 : Index := 0#32
  ![v1341.toNat, 0]

def k0_chk189 (v1340 : BitVec 32) : Prop :=
  (∀ a, (k0_off189 v1340) a + S1x2048.size a ≤ S400x2048.size a)
theorem k0_off189_inb : ∀ (v1340 : BitVec 32) (k0_hw189 : k0_chk189 v1340), ∀ a, (k0_off189 v1340) a + S1x2048.size a ≤ S400x2048.size a := fun v1340 k0_hw189 => k0_hw189

def k0_off190 (v1347 : BitVec 32) : Fin 2 → Nat :=
  let v1348 : Index := Scalar.indexCast v1347
  let c0_806 : Index := 0#32
  ![v1348.toNat, 0]

def k0_chk190 (v1347 : BitVec 32) : Prop :=
  (∀ a, (k0_off190 v1347) a + S1x2048.size a ≤ S400x2048.size a)
theorem k0_off190_inb : ∀ (v1347 : BitVec 32) (k0_hw190 : k0_chk190 v1347), ∀ a, (k0_off190 v1347) a + S1x2048.size a ≤ S400x2048.size a := fun v1347 k0_hw190 => k0_hw190

def k0_off191 (v1354 : BitVec 32) : Fin 2 → Nat :=
  let v1355 : Index := Scalar.indexCast v1354
  let c0_810 : Index := 0#32
  ![v1355.toNat, 0]

def k0_chk191 (v1354 : BitVec 32) : Prop :=
  (∀ a, (k0_off191 v1354) a + S1x2048.size a ≤ S400x2048.size a)
theorem k0_off191_inb : ∀ (v1354 : BitVec 32) (k0_hw191 : k0_chk191 v1354), ∀ a, (k0_off191 v1354) a + S1x2048.size a ≤ S400x2048.size a := fun v1354 k0_hw191 => k0_hw191

def k0_off192 (v1361 : BitVec 32) : Fin 2 → Nat :=
  let v1362 : Index := Scalar.indexCast v1361
  let c0_814 : Index := 0#32
  ![v1362.toNat, 0]

def k0_chk192 (v1361 : BitVec 32) : Prop :=
  (∀ a, (k0_off192 v1361) a + S1x2048.size a ≤ S400x2048.size a)
theorem k0_off192_inb : ∀ (v1361 : BitVec 32) (k0_hw192 : k0_chk192 v1361), ∀ a, (k0_off192 v1361) a + S1x2048.size a ≤ S400x2048.size a := fun v1361 k0_hw192 => k0_hw192

abbrev stage0_0 : Fin 1 → Memref sig .tc .smem S24x8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S400x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x8x2048 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== QuantiseReferenceIdeal.lean ====
abbrev S24x2048 : Shape := ⟨2, ![24, 2048]⟩
abbrev S400x2048 : Shape := ⟨2, ![400, 2048]⟩
abbrev S24x8 : Shape := ⟨2, ![24, 8]⟩
abbrev S24x8x2048 : Shape := ⟨3, ![24, 8, 2048]⟩
abbrev S_ : Shape := ⟨0, ![]⟩
abbrev S24x8x1 : Shape := ⟨3, ![24, 8, 1]⟩
abbrev S24x1x2048 : Shape := ⟨3, ![24, 1, 2048]⟩
abbrev S24x8x128 : Shape := ⟨3, ![24, 8, 128]⟩
abbrev S192x128 : Shape := ⟨2, ![192, 128]⟩

abbrev nBuf : Space → Nat
  | .hbm => 82
  | .vmem => 0
  | .smem => 0
  | _ => 0

abbrev bufTy : (tb : Table) → Fin (tcTables nBuf tb) → BufTy
  | .hbm, ⟨0, _⟩ => ⟨S24x2048, .f32⟩
  | .hbm, ⟨1, _⟩ => ⟨S400x2048, .f32⟩
  | .hbm, ⟨2, _⟩ => ⟨S24x8, .i32⟩
  | .hbm, ⟨3, _⟩ => ⟨S24x8x2048, .f32⟩
  | .hbm, ⟨4, _⟩ => ⟨S_, .i32⟩
  | .hbm, ⟨5, _⟩ => ⟨S24x8, .i32⟩
  | .hbm, ⟨6, _⟩ => ⟨S24x8, .i1⟩
  | .hbm, ⟨7, _⟩ => ⟨S_, .i32⟩
  | .hbm, ⟨8, _⟩ => ⟨S24x8, .i32⟩
  | .hbm, ⟨9, _⟩ => ⟨S24x8, .i32⟩
  | .hbm, ⟨10, _⟩ => ⟨S24x8, .i32⟩
  | .hbm, ⟨11, _⟩ => ⟨S24x8x1, .i32⟩
  | .hbm, ⟨12, _⟩ => ⟨S24x8x2048, .f32⟩
  | .hbm, ⟨13, _⟩ => ⟨S24x1x2048, .f32⟩
  | .hbm, ⟨14, _⟩ => ⟨S24x8x2048, .f32⟩
  | .hbm, ⟨15, _⟩ => ⟨S24x8x2048, .f32⟩
  | .hbm, ⟨16, _⟩ => ⟨S24x8x2048, .f32⟩
  | .hbm, ⟨17, _⟩ => ⟨S_, .f32⟩
  | .hbm, ⟨18, _⟩ => ⟨S24x8, .f32⟩
  | .hbm, ⟨19, _⟩ => ⟨S24x8, .f32⟩
  | .hbm, ⟨20, _⟩ => ⟨S_, .f32⟩
  | .hbm, ⟨21, _⟩ => ⟨S24x8, .f32⟩
  | .hbm, ⟨22, _⟩ => ⟨S_, .f32⟩
  | .hbm, ⟨23, _⟩ => ⟨S24x8, .f32⟩
  | .hbm, ⟨24, _⟩ => ⟨S24x8, .f32⟩
  | .hbm, ⟨25, _⟩ => ⟨S_, .f32⟩
  | .hbm, ⟨26, _⟩ => ⟨S24x8, .f32⟩
  | .hbm, ⟨27, _⟩ => ⟨S24x8, .f32⟩
  | .hbm, ⟨28, _⟩ => ⟨S_, .f32⟩
  | .hbm, ⟨29, _⟩ => ⟨S24x8, .f32⟩
  | .hbm, ⟨30, _⟩ => ⟨S24x8, .i1⟩
  | .hbm, ⟨31, _⟩ => ⟨S_, .f32⟩
  | .hbm, ⟨32, _⟩ => ⟨S_, .f32⟩
  | .hbm, ⟨33, _⟩ => ⟨S24x8, .f32⟩
  | .hbm, ⟨34, _⟩ => ⟨S24x8, .f32⟩
  | .hbm, ⟨35, _⟩ => ⟨S_, .f32⟩
  | .hbm, ⟨36, _⟩ => ⟨S24x8, .f32⟩
  | .hbm, ⟨37, _⟩ => ⟨S24x8, .f32⟩
  | .hbm, ⟨38, _⟩ => ⟨S24x8x1, .f32⟩
  | .hbm, ⟨39, _⟩ => ⟨S24x8x2048, .f32⟩
  | .hbm, ⟨40, _⟩ => ⟨S24x8x2048, .f32⟩
  | .hbm, ⟨41, _⟩ => ⟨S24x8x1, .f32⟩
  | .hbm, ⟨42, _⟩ => ⟨S24x8x2048, .f32⟩
  | .hbm, ⟨43, _⟩ => ⟨S24x8x2048, .f32⟩
  | .hbm, ⟨44, _⟩ => ⟨S24x8x2048, .f32⟩
  | .hbm, ⟨45, _⟩ => ⟨S24x8x2048, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S24x8x2048, .f32⟩
  | .hbm, ⟨50, _⟩ => ⟨S24x8x2048, .f32⟩
  | .hbm, ⟨51, _⟩ => ⟨S_, .f32⟩
  | .hbm, ⟨52, _⟩ => ⟨S24x8x2048, .f32⟩
  | .hbm, ⟨53, _⟩ => ⟨S24x8x2048, .f32⟩
  | .hbm, ⟨54, _⟩ => ⟨S24x8x2048, .i32⟩
  | .hbm, ⟨55, _⟩ => ⟨S24x8x2048, .i8⟩
  | .hbm, ⟨56, _⟩ => ⟨S24x8x2048, .i32⟩
  | .hbm, ⟨57, _⟩ => ⟨S_, .i32⟩
  | .hbm, ⟨58, _⟩ => ⟨S24x8, .i32⟩
  | .hbm, ⟨59, _⟩ => ⟨S24x8, .f32⟩
  | .hbm, ⟨60, _⟩ => ⟨S24x8x128, .i32⟩
  | .hbm, ⟨61, _⟩ => ⟨S_, .i32⟩
  | .hbm, ⟨62, _⟩ => ⟨S24x8x128, .i32⟩
  | .hbm, ⟨63, _⟩ => ⟨S24x8x128, .i1⟩
  | .hbm, ⟨64, _⟩ => ⟨S24x8x1, .f32⟩
  | .hbm, ⟨65, _⟩ => ⟨S_, .i32⟩
  | .hbm, ⟨66, _⟩ => ⟨S24x8x128, .i32⟩
  | .hbm, ⟨67, _⟩ => ⟨S24x8x128, .i1⟩
  | .hbm, ⟨68, _⟩ => ⟨S24x8x1, .f32⟩
  | .hbm, ⟨69, _⟩ => ⟨S_, .i32⟩
  | .hbm, ⟨70, _⟩ => ⟨S24x8x128, .i32⟩
  | .hbm, ⟨71, _⟩ => ⟨S24x8x128, .i1⟩
  | .hbm, ⟨72, _⟩ => ⟨S24x8x1, .f32⟩
  | .hbm, ⟨73, _⟩ => ⟨S24x8x1, .f32⟩
  | .hbm, ⟨74, _⟩ => ⟨S24x8x128, .f32⟩
  | .hbm, ⟨75, _⟩ => ⟨S24x8x128, .f32⟩
  | .hbm, ⟨76, _⟩ => ⟨S24x8x128, .f32⟩
  | .hbm, ⟨77, _⟩ => ⟨S24x8x128, .f32⟩
  | .hbm, ⟨78, _⟩ => ⟨S24x8x128, .f32⟩
  | .hbm, ⟨79, _⟩ => ⟨S24x8x128, .f32⟩
  | .hbm, ⟨80, _⟩ => ⟨S24x8x128, .f32⟩
  | .hbm, ⟨81, _⟩ => ⟨S192x128, .f32⟩
  | _, _ => ⟨S24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_11 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call2_v0 : Ref sig .tc := ⟨.hbm, 74, rfl⟩
abbrev main_call2_v1 : Ref sig .tc := ⟨.hbm, 75, rfl⟩
abbrev main_v48 : Ref sig .tc := ⟨.hbm, 76, rfl⟩
abbrev main_call3_v0 : Ref sig .tc := ⟨.hbm, 77, rfl⟩
abbrev main_v49 : Ref sig .tc := ⟨.hbm, 78, rfl⟩
abbrev main_call4_v0 : Ref sig .tc := ⟨.hbm, 79, rfl⟩
abbrev main_v50 : Ref sig .tc := ⟨.hbm, 80, rfl⟩
abbrev main_v51 : Ref sig .tc := ⟨.hbm, 81, rfl⟩

abbrev nD : Nat := 1
abbrev τ : Topo := Topo.v7x

variable {F : FTy → Type} [FloatOps F]
-- ==== Proof.Trip.lean ====
module

public import proofs.«01_k».proof.Proof.Gen.KernelIdeal.Loops
public import Idealize.ShloMosaic.Lib.Pipeline.FrameBody
public import Idealize.ShloMosaic.Lib.Ring
public import Idealize.ShloMosaic.Lib.Tactic

@[expose] public section

set_option maxRecDepth 65536

noncomputable section

namespace Cert.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The packed counts of one chunk of one query -/

/-- The lane each candidate's bit plane lies in: the candidate's probe plus the query's first lane. -/
def lane (v4 : BitVec 32) (p : IVec S1x128 32) : IVec S8x128 32 :=
  broadcastTo S8x128 (shapeCast S1x128 (addi p (broadcast S1x128 v4)) shapeCasts_S1x128_S1x128) broadcasts_S1x128_S8x128

/-- A tile of a bit plane, each row taken at the lanes `ln`. -/
def takeLanes (t : IVec S8x128 32) (ln : IVec S8x128 32) : IVec S8x128 32 :=
  dynamicGather 1 t
    (shapeCast S8x128 (shapeCast S8x128x1
      (select (cmpi .slt ln (broadcast S8x128 0#32)) (addi ln (broadcast S8x128 128#32)) ln)
      shapeCasts_S8x128_S8x128x1) shapeCasts_S8x128x1_S8x128)

/-- The ones of the first `n` code tiles, tile by tile at each (sublane, candidate). -/
def onesUpTo (c : ℕ → IVec S1x1x8x128 32) : ℕ → IVec S8x128 32
  | 0 => broadcast S8x128 0#32
  | n + 1 => addi (onesUpTo c n) (ctpop (shapeCast S8x128 (c n) shapeCasts_S1x1x8x128_S8x128))

/-- The ones the first `n` code tiles share with one bit plane's tiles. -/
def sharedUpTo (ln : IVec S8x128 32) (c : ℕ → IVec S1x1x8x128 32) (b : ℕ → IVec S1x8x128 32) : ℕ → IVec S8x128 32
  | 0 => broadcast S8x128 0#32
  | n + 1 => addi (sharedUpTo ln c b n)
      (ctpop (andi (shapeCast S8x128 (c n) shapeCasts_S1x1x8x128_S8x128)
        (takeLanes (shapeCast S8x128 (b n) shapeCasts_S1x8x128_S8x128) ln)))

/-- The row of packed counts a chunk stores: the weighted shared ones in the low half, the code's ones in the high. -/
def packRow (v4 : BitVec 32) (p : IVec S1x128 32) (c : ℕ → IVec S1x1x8x128 32) (b : ℕ → ℕ → IVec S1x8x128 32) : IVec S1x128 32 :=
  shapeCast S1x128 (shapeCast S1x128 (multiReductionI .add [0] S128
    (addi (addi (addi (addi (sharedUpTo (lane v4 p) c (b 0) 8)
      (shli (sharedUpTo (lane v4 p) c (b 1) 8) (broadcast S8x128 1#32)))
      (shli (sharedUpTo (lane v4 p) c (b 2) 8) (broadcast S8x128 2#32)))
      (shli (sharedUpTo (lane v4 p) c (b 3) 8) (broadcast S8x128 3#32)))
      (shli (onesUpTo c 8) (broadcast S8x128 16#32)))
    0#32 reduces_S8x128_S128 rfl) shapeCasts_S128_S1x128) shapeCasts_S1x128_S1x128

/-! ## One trip, at any query row -/

/-- Whether a chunk starting at word `st` of a list of `w` candidates is scored. -/
abbrev runs (st w : BitVec 32) : Prop := Scalar.cmpi .ne (Scalar.extui (Scalar.cmpi .slt st w)) 0#32 = 1#1

/-- The bounds of a trip's rectangles: the list's length word, the probe row, the code tiles and the plane tiles. -/
structure InB (q r k col h : ℕ) : Prop where
  len : ∀ a, (![q] : Fin 1 → ℕ) a + S1.size a ≤ S24.size a
  row : ∀ a, (![r, col] : Fin 2 → ℕ) a + S1x128.size a ≤ S8x1024.size a
  code : ∀ j : ℕ, j < 8 → ∀ a, (![r, k, 8 * j, 0] : Fin 4 → ℕ) a + S1x1x8x128.size a ≤ S8x8x64x128.size a
  plane : ∀ j p : ℕ, j < 8 → p < 4 → ∀ a, (![h, 64 * p + 8 * j, 0] : Fin 3 → ℕ) a + S1x8x128.size a ≤ S2x256x128.size a

theorem InB.of {q r k col h : ℕ} (hq : q < 24) (hr : r < 8) (hk : k < 8) (hcol : col ≤ 896) (hh : h < 2) : InB q r k col h where
  len a := by fin_cases a; simp [S1, S24]; omega
  row a := by fin_cases a <;> simp [S1x128, S8x1024] <;> omega
  code j hj a := by fin_cases a <;> simp [S1x1x8x128, S8x8x64x128] <;> omega
  plane j p hj hp a := by fin_cases a <;> simp [S1x8x128, S2x256x128] <;> omega

variable (arg2 : Memref sig .tc .smem S24 .i32) (arg3 : Memref sig .tc .vmem S8x8x64x128 .i32)
  (arg4 : Memref sig .tc .vmem S2x256x128 .i32) (arg6 : Memref sig .tc .vmem S8x1024 .i32)
  (arg13 : Memref sig .tc .vmem S8x1024 .i32)

/-- A tile of the codes and the four planes' tiles over it, loaded. -/
def tileM {q r k col h : ℕ} (H : InB q r k col h) (j : ℕ) (hj : j < 8) :
    Prog (TpuEff nD τ sig (Elt F) Λ₀ .tc) (Σ' (_ : Vec F S1x1x8x128 .i32) (_ : Vec F S1x8x128 .i32) (_ : Vec F S1x8x128 .i32) (_ : Vec F S1x8x128 .i32), Vec F S1x8x128 .i32) := do
  let c : Vec F S1x1x8x128 .i32 ← Prog.lift (.load arg3 (Rect.unit (s := S8x8x64x128) ![r, k, 8 * j, 0] S1x1x8x128.size (H.code j hj)).toLoadRect (View.loadsAt_vmem h_S1x1x8x128))
  let b0 : Vec F S1x8x128 .i32 ← Prog.lift (.load arg4 (Rect.unit (s := S2x256x128) ![h, 64 * 0 + 8 * j, 0] S1x8x128.size (H.plane j 0 hj (by decide))).toLoadRect (View.loadsAt_vmem h_S1x8x128))
  let b1 : Vec F S1x8x128 .i32 ← Prog.lift (.load arg4 (Rect.unit (s := S2x256x128) ![h, 64 * 1 + 8 * j, 0] S1x8x128.size (H.plane j 1 hj (by decide))).toLoadRect (View.loadsAt_vmem h_S1x8x128))
  let b2 : Vec F S1x8x128 .i32 ← Prog.lift (.load arg4 (Rect.unit (s := S2x256x128) ![h, 64 * 2 + 8 * j, 0] S1x8x128.size (H.plane j 2 hj (by decide))).toLoadRect (View.loadsAt_vmem h_S1x8x128))
  let b3 : Vec F S1x8x128 .i32 ← Prog.lift (.load arg4 (Rect.unit (s := S2x256x128) ![h, 64 * 3 + 8 * j, 0] S1x8x128.size (H.plane j 3 hj (by decide))).toLoadRect (View.loadsAt_vmem h_S1x8x128))
  pure ⟨c, b0, b1, b2, b3⟩

/-- Eight values by their index. -/
def sel8 {α : Type} (x0 x1 x2 x3 x4 x5 x6 x7 : α) : ℕ → α
  | 0 => x0 | 1 => x1 | 2 => x2 | 3 => x3 | 4 => x4 | 5 => x5 | 6 => x6 | _ => x7
/-- Four values by their index. -/
def sel4 {α : Type} (x0 x1 x2 x3 : α) : ℕ → α
  | 0 => x0 | 1 => x1 | 2 => x2 | _ => x3

/-- ONE TRIP of a row's loop, over the query's numbers: the length word at `q`, the row `r`, the chunk `k` starting at
    column `col`, the plane half `h` and the first lane `v4`; `st` is the chunk's first position. -/
def trip {q r k col h : ℕ} (H : InB q r k col h) (v4 st : BitVec 32) : Prog (TpuEff nD τ sig (Elt F) Λ₀ .tc) Unit := do
  let w : Elt F .i32 ← smemLoad arg2 (Rect.unit (s := S24) ![q] S1.size H.len) numel1_S1 rfl
  if runs st w then do
    let p : Vec F S1x128 .i32 ← Prog.lift (.load arg6 (Rect.unit (s := S8x1024) ![r, col] S1x128.size H.row).toLoadRect (View.loadsAt_vmem h_S1x128))
    let ⟨c0, b00, b10, b20, b30⟩ ← tileM (F := F) arg3 arg4 H 0 (by decide)
    let ⟨c1, b01, b11, b21, b31⟩ ← tileM (F := F) arg3 arg4 H 1 (by decide)
    let ⟨c2, b02, b12, b22, b32⟩ ← tileM (F := F) arg3 arg4 H 2 (by decide)
    let ⟨c3, b03, b13, b23, b33⟩ ← tileM (F := F) arg3 arg4 H 3 (by decide)
    let ⟨c4, b04, b14, b24, b34⟩ ← tileM (F := F) arg3 arg4 H 4 (by decide)
    let ⟨c5, b05, b15, b25, b35⟩ ← tileM (F := F) arg3 arg4 H 5 (by decide)
    let ⟨c6, b06, b16, b26, b36⟩ ← tileM (F := F) arg3 arg4 H 6 (by decide)
    let ⟨c7, b07, b17, b27, b37⟩ ← tileM (F := F) arg3 arg4 H 7 (by decide)
    let _ ← Prog.lift (.load arg13 (Rect.unit (s := S8x1024) ![r, col] S1x128.size H.row).toLoadRect (View.loadsAt_vmem h_S1x128))
    Prog.lift (.store arg13 (Rect.unit (s := S8x1024) ![r, col] S1x128.size H.row)
      (packRow v4 p (sel8 c0 c1 c2 c3 c4 c5 c6 c7)
        (sel4 (sel8 b00 b01 b02 b03 b04 b05 b06 b07) (sel8 b10 b11 b12 b13 b14 b15 b16 b17)
          (sel8 b20 b21 b22 b23 b24 b25 b26 b27) (sel8 b30 b31 b32 b33 b34 b35 b36 b37)))
      Finset.univ (View.stores_vmem_bits_univ h_S1x128 rfl) (.inl rfl))
    pure ⟨⟩
  else do
    pure ⟨⟩
  pure ⟨⟩

/-! ## The eight printed loop bodies are this trip -/

/-- The query a row of the grid point scores. -/
def qw (i : grid0.Coords) (r : ℕ) : BitVec 32 := Scalar.addi (Scalar.muli (BitVec.ofNat 32 (i 0).val) 8#32) (BitVec.ofNat 32 r)
/-- The half of the bit planes the query's lanes lie in. -/
def hw (i : grid0.Coords) (r : ℕ) : BitVec 32 := Scalar.shrui (qw i r) 4#32
/-- The query's first lane in that half. -/
def v4w (i : grid0.Coords) (r : ℕ) : BitVec 32 := Scalar.muli (Scalar.andi (qw i r) 15#32) 8#32
/-- The chunk's number in the block. -/
def kw (k : Fin k0_t1_loop.trips) : BitVec 32 := Scalar.addi 0#32 (Scalar.muli (Scf.iv 0#32 1#32 k) 1#32)
/-- The chunk's first column in the block. -/
def cw (k : Fin k0_t1_loop.trips) : BitVec 32 := Scalar.muli (kw k) 128#32
/-- The chunk's first position in the list. -/
def stw (i : grid0.Coords) (k : Fin k0_t1_loop.trips) : BitVec 32 :=
  Scalar.muli (Scalar.addi (Scalar.muli (BitVec.ofNat 32 (i 1).val) 8#32) (kw k)) 128#32

theorem qw_nat : ∀ (i : grid0.Coords) (r : Fin 8), (Scalar.indexCast (qw i r)).toNat = 8 * (i 0).val + r.val := by decide +kernel
theorem hw_nat : ∀ (i : grid0.Coords) (r : Fin 8), (Scalar.indexCast (hw i r)).toNat = (8 * (i 0).val + r.val) / 16 := by decide +kernel
theorem kw_nat : ∀ k : Fin k0_t1_loop.trips, (Scalar.indexCast (kw k)).toNat = k.val := by decide +kernel
theorem cw_nat : ∀ k : Fin k0_t1_loop.trips, (Scalar.indexCast (cw k)).toNat = 128 * k.val := by decide +kernel
theorem v4w_nat : ∀ (i : grid0.Coords) (r : Fin 8), (v4w i r).toNat = 8 * ((8 * (i 0).val + r.val) % 16) := by decide +kernel
theorem stw_nat : ∀ (i : grid0.Coords) (k : Fin k0_t1_loop.trips), (stw i k).toNat = 128 * (8 * (i 1).val + k.val) := by decide +kernel
theorem trips8 : ∀ k : Fin k0_t1_loop.trips, k.val < 8 := by decide +kernel
theorem i0_lt : ∀ i : grid0.Coords, (i 0).val < 3 := by decide +kernel

/-- The rectangles of every trip lie in their buffers. -/
theorem inb (i : grid0.Coords) (r : ℕ) (hr : r < 8) (k : Fin k0_t1_loop.trips) :
    InB (Scalar.indexCast (qw i r)).toNat r (Scalar.indexCast (kw k)).toNat (Scalar.indexCast (cw k)).toNat (Scalar.indexCast (hw i r)).toNat := by
  have h1 := qw_nat i ⟨r, hr⟩
  have h2 := hw_nat i ⟨r, hr⟩
  have h3 := trips8 k
  have h4 := i0_lt i
  simp only at h1 h2
  rw [h1, h2, kw_nat, cw_nat]
  exact InB.of (by omega) hr h3 (by omega) (by omega)

/-- Row `r`'s loop body at a grid point. -/
def rowTrip (i : grid0.Coords) (r : ℕ) (hr : r < 8) (k : Fin k0_t1_loop.trips) (_ : Unit) : Prog (TpuEff nD τ sig (Elt F) Λ₀ .tc) Unit :=
  trip (F := F) arg2 arg3 arg4 arg6 arg13 (inb i r hr k) (v4w i r) (stw i k)

end Cert.Score

end
-- ==== Proof.Bodies.lean ====
module

public import proofs.«01_k».proof.Proof.Gen.KernelIdeal.Loops
public import Idealize.ShloMosaic.Lib.Pipeline.FrameBody
public import proofs.«01_k».proof.Proof.Trip
public import Idealize.ShloMosaic.Lib.Ring
public import Idealize.ShloMosaic.Lib.Tactic

@[expose] public section

set_option maxRecDepth 65536

noncomputable section

namespace Cert.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0

variable (i : grid0.Coords) (arg2 : Memref sig .tc .smem S24 .i32) (harg2 : arg2.IsWhole) (arg3 : Memref sig .tc .vmem S8x8x64x128 .i32) (harg3 : arg3.IsWhole) (arg4 : Memref sig .tc .vmem S2x256x128 .i32) (harg4 : arg4.IsWhole) (arg5 : Memref sig .tc .vmem S4x8x128 .f32) (harg5 : arg5.IsWhole) (arg6 : Memref sig .tc .vmem S8x1024 .i32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S8x128 .i32) (harg9 : arg9.IsWhole) (arg10 : Memref sig .tc .vmem S8x1024 .f32) (harg10 : arg10.IsWhole) (arg11 : Memref sig .tc .vmem S8x1024 .f32) (harg11 : arg11.IsWhole) (arg12 : Memref sig .tc .vmem S8x1024 .f32) (harg12 : arg12.IsWhole) (arg13 : Memref sig .tc .vmem S8x1024 .i32) (harg13 : arg13.IsWhole)

/-- The body of row 0's loop is the trip at row 0. -/
theorem body1 (k : Fin k0_t1_loop.trips) (u : Unit) : k0_t1_body (F := F) i arg2 harg2 arg3 harg3 arg4 harg4 arg5 harg5 arg6 harg6 arg7 harg7 arg8 harg8 arg9 harg9 arg10 harg10 arg11 harg11 arg12 harg12 arg13 harg13 (BitVec.ofNat 32 (i 1).val) (hw i 0) (v4w i 0) k u
    = rowTrip arg2 arg3 arg4 arg6 arg13 i 0 (by decide) k u := rfl

/-- The body of row 1's loop is the trip at row 1. -/
theorem body2 (k : Fin k0_t2_loop.trips) (u : Unit) : k0_t2_body (F := F) i arg2 harg2 arg3 harg3 arg4 harg4 arg5 harg5 arg6 harg6 arg7 harg7 arg8 harg8 arg9 harg9 arg10 harg10 arg11 harg11 arg12 harg12 arg13 harg13 (BitVec.ofNat 32 (i 1).val) (hw i 1) (v4w i 1) k u
    = rowTrip arg2 arg3 arg4 arg6 arg13 i 1 (by decide) k u := rfl

/-- The body of row 2's loop is the trip at row 2. -/
theorem body3 (k : Fin k0_t3_loop.trips) (u : Unit) : k0_t3_body (F := F) i arg2 harg2 arg3 harg3 arg4 harg4 arg5 harg5 arg6 harg6 arg7 harg7 arg8 harg8 arg9 harg9 arg10 harg10 arg11 harg11 arg12 harg12 arg13 harg13 (BitVec.ofNat 32 (i 1).val) (hw i 2) (v4w i 2) k u
    = rowTrip arg2 arg3 arg4 arg6 arg13 i 2 (by decide) k u := rfl

/-- The body of row 3's loop is the trip at row 3. -/
theorem body4 (k : Fin k0_t4_loop.trips) (u : Unit) : k0_t4_body (F := F) i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) (qw i 3) (hw i 3) (v4w i 3) k u
    = rowTrip arg2 arg3 arg4 arg6 arg13 i 3 (by decide) k u := rfl

/-- The body of row 4's loop is the trip at row 4. -/
theorem body5 (k : Fin k0_t5_loop.trips) (u : Unit) : k0_t5_body (F := F) i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) (qw i 3) (hw i 3) (v4w i 3) (hw i 4) (v4w i 4) k u
    = rowTrip arg2 arg3 arg4 arg6 arg13 i 4 (by decide) k u := rfl

/-- The body of row 5's loop is the trip at row 5. -/
theorem body6 (k : Fin k0_t6_loop.trips) (u : Unit) : k0_t6_body (F := F) i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) (qw i 3) (hw i 3) (v4w i 3) (hw i 5) (v4w i 5) k u
    = rowTrip arg2 arg3 arg4 arg6 arg13 i 5 (by decide) k u := rfl

/-- The body of row 6's loop is the trip at row 6. -/
theorem body7 (k : Fin k0_t7_loop.trips) (u : Unit) : k0_t7_body (F := F) i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) (qw i 3) (hw i 3) (v4w i 3) (hw i 6) (v4w i 6) k u
    = rowTrip arg2 arg3 arg4 arg6 arg13 i 6 (by decide) k u := rfl

/-- The body of row 7's loop is the trip at row 7. -/
theorem body8 (k : Fin k0_t8_loop.trips) (u : Unit) : k0_t8_body (F := F) i arg2 harg2 arg3 harg3 arg4 harg4 arg5 harg5 arg6 harg6 arg7 harg7 arg8 harg8 arg9 harg9 arg10 harg10 arg11 harg11 arg12 harg12 arg13 harg13 (BitVec.ofNat 32 (i 1).val) (qw i 7) (hw i 7) (v4w i 7) k u
    = rowTrip arg2 arg3 arg4 arg6 arg13 i 7 (by decide) k u := rfl

end Cert.Score

end
-- ==== Proof.Whole.lean ====
module

public import proofs.«01_k».proof.Proof.Gen.KernelIdeal.Loops
public import Idealize.ShloMosaic.Lib.Pipeline.FrameBody
public import proofs.«01_k».proof.Proof.Bodies
public import Idealize.ShloMosaic.Lib.Ring
public import Idealize.ShloMosaic.Lib.Tactic

@[expose] public section

set_option maxRecDepth 65536

noncomputable section

namespace Cert.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0

/-! ## The scores of one block of 128 candidates of eight queries -/

/-- A row of a table taken at each candidate's probe. -/
def takeStat (t : FVec F S8x128 .f32) (pr : IVec S8x128 32) : FVec F S8x128 .f32 :=
  dynamicGather 1 t (shapeCast S8x128 (shapeCast S8x128x1
    (select (cmpi .slt pr (broadcast S8x128 0#32)) (addi pr (broadcast S8x128 128#32)) pr)
    shapeCasts_S8x128_S8x128x1) shapeCasts_S8x128x1_S8x128)

/-- The dot product's count: the low half of the packed word. -/
def ipBin (pk : IVec S8x128 32) : FVec F S8x128 .f32 := sitofp .f32 (andi pk (broadcast S8x128 65535#32))
/-- The code's ones: the high half of the packed word. -/
def popX (pk : IVec S8x128 32) : FVec F S8x128 .f32 := sitofp .f32 (shrui pk (broadcast S8x128 16#32))

/-- A constant tile. -/
abbrev kst (b : BitVec 32) : FVec F S8x128 .f32 := broadcast S8x128 (Scalar.ofBits .f32 b : F .f32)

/-- The estimated inner product of a block. -/
def ipE (dl vl nq sq : FVec F S8x128 .f32) (pk : IVec S8x128 32) (io : FVec F S8x128 .f32) : FVec F S8x128 .f32 :=
  divf (subf (divf (subf (addf (mulf (mulf (kst 0x40000000#32) dl) (ipBin pk)) (mulf (mulf (kst 0x40000000#32) vl) (popX pk)))
      (mulf dl sq)) (kst 0x423504F3#32)) (mulf (kst 0x423504F3#32) vl))
    (mulf (select (cmpf .ogt nq (kst 0x00000000#32)) nq (kst 0x3F800000#32)) io)

/-- The estimated distance of a block. -/
def distE (nq : FVec F S8x128 .f32) (nr ip : FVec F S8x128 .f32) : FVec F S8x128 .f32 :=
  subf (addf (mulf nr nr) (mulf nq nq)) (mulf (mulf (mulf (kst 0x40000000#32) nr) nq) ip)

/-- The error bound of a block. -/
def errE (nq : FVec F S8x128 .f32) (nr io : FVec F S8x128 .f32) : FVec F S8x128 .f32 :=
  mulf (divf (mulf (mulf (mulf (kst 0x40000000#32) nr) nq) (sqrt (subf (kst 0x3F800000#32) (mulf io io)))) io) (kst 0x3D2C02A8#32)

/-- The first position of block `c`. -/
def epw (i : grid0.Coords) (c : ℕ) : BitVec 32 :=
  Scalar.muli (Scalar.addi (Scalar.muli (BitVec.ofNat 32 (i 1).val) 8#32) (BitVec.ofNat 32 c)) 128#32

/-- Which of a block's positions lie in their lists. -/
def validE (i : grid0.Coords) (c : ℕ) (ln : IVec S8x128 32) : IVec S8x128 1 :=
  cmpi .slt (addi (iota .tc S8x128 32 [1] iota_S8x128_d1_w32) (broadcast S8x128 (epw i c)))
    (shapeCast S8x128 ln shapeCasts_S8x128_S8x128)

theorem blk (c : ℕ) (hc : c < 8) : ∀ a, (![0, 128 * c] : Fin 2 → ℕ) a + S8x128.size a ≤ S8x1024.size a := by
  intro a; fin_cases a <;> simp [S8x128, S8x1024] <;> omega

variable (i : grid0.Coords)
   (arg2 : Memref sig .tc .smem S24 .i32) (harg2 : arg2.IsWhole)
   (arg3 : Memref sig .tc .vmem S8x8x64x128 .i32) (harg3 : arg3.IsWhole)
   (arg4 : Memref sig .tc .vmem S2x256x128 .i32) (harg4 : arg4.IsWhole)
   (arg5 : Memref sig .tc .vmem S4x8x128 .f32) (harg5 : arg5.IsWhole)
   (arg6 : Memref sig .tc .vmem S8x1024 .i32) (harg6 : arg6.IsWhole)
   (arg7 : Memref sig .tc .vmem S8x1024 .f32) (harg7 : arg7.IsWhole)
   (arg8 : Memref sig .tc .vmem S8x1024 .f32) (harg8 : arg8.IsWhole)
   (arg9 : Memref sig .tc .vmem S8x128 .i32) (harg9 : arg9.IsWhole)
   (arg10 : Memref sig .tc .vmem S8x1024 .f32) (harg10 : arg10.IsWhole)
   (arg11 : Memref sig .tc .vmem S8x1024 .f32) (harg11 : arg11.IsWhole)
   (arg12 : Memref sig .tc .vmem S8x1024 .f32) (harg12 : arg12.IsWhole)
   (arg13 : Memref sig .tc .vmem S8x1024 .i32) (harg13 : arg13.IsWhole)

/-- The block's columns. -/
abbrev blkR (c : ℕ) (hc : c < 8) : Rect S8x1024 := Rect.unit (s := S8x1024) ![0, 128 * c] S8x128.size (blk c hc)

/-- ONE BLOCK's scoring: its 128 candidates' probes, packed counts, norms and dot products read, its three results written. -/
def epi (dl vl nq sq : FVec F S8x128 .f32) (c : ℕ) (hc : c < 8) : Prog (TpuEff nD τ sig (Elt F) Λ₀ .tc) PUnit := do
  let pr : Vec F S8x128 .i32 ← Prog.lift (.load arg6 (blkR c hc).toLoadRect (View.loadsAt_vmem h_S8x128))
  let pk : Vec F S8x128 .i32 ← Prog.lift (.load arg13 (blkR c hc).toLoadRect (View.loadsAt_vmem h_S8x128))
  let nr : Vec F S8x128 .f32 ← Prog.lift (.load arg7 (blkR c hc).toLoadRect (View.loadsAt_vmem h_S8x128))
  let io : Vec F S8x128 .f32 ← Prog.lift (.load arg8 (blkR c hc).toLoadRect (View.loadsAt_vmem h_S8x128))
  let ln : Vec F S8x128 .i32 ← Prog.lift (.load arg9 (Rect.unit (s := S8x128) ![0, 0] S8x128.size inb_S8x128_S8x128_0_0).toLoadRect (View.loadsAt_vmem h_S8x128))
  let _ : Vec F S8x128 .f32 ← Prog.lift (.load arg10 (blkR c hc).toLoadRect (View.loadsAt_vmem h_S8x128))
  Prog.lift (.store arg10 (blkR c hc) (select (validE i c ln)
    (distE (takeStat nq pr) nr (ipE (takeStat dl pr) (takeStat vl pr) (takeStat nq pr) (takeStat sq pr) pk io)) (kst 0x00000000#32))
    Finset.univ (View.stores_vmem_bits_univ h_S8x128 rfl) (.inl rfl))
  let _ : Vec F S8x128 .f32 ← Prog.lift (.load arg11 (blkR c hc).toLoadRect (View.loadsAt_vmem h_S8x128))
  Prog.lift (.store arg11 (blkR c hc) (select (validE i c ln) (errE (takeStat nq pr) nr io) (kst 0x00000000#32))
    Finset.univ (View.stores_vmem_bits_univ h_S8x128 rfl) (.inl rfl))
  let _ : Vec F S8x128 .f32 ← Prog.lift (.load arg12 (blkR c hc).toLoadRect (View.loadsAt_vmem h_S8x128))
  Prog.lift (.store arg12 (blkR c hc) (select (validE i c ln)
    (ipE (takeStat dl pr) (takeStat vl pr) (takeStat nq pr) (takeStat sq pr) pk io) (kst 0x00000000#32))
    Finset.univ (View.stores_vmem_bits_univ h_S8x128 rfl) (.inl rfl))

/-- One row's loop over the block's chunks. -/
def rowLoop (r : ℕ) (hr : r < 8) : Prog (TpuEff nD τ sig (Elt F) Λ₀ .tc) Unit :=
  Scf.Loop.for k0_t1_loop k0_t1_ok ⟨⟩ (rowTrip (F := F) arg2 arg3 arg4 arg6 arg13 i r hr)

/-- The whole body, in its repeated pieces. -/
def score : Prog (TpuEff nD τ sig (Elt F) Λ₀ .tc) PUnit := do
  rowLoop i arg2 arg3 arg4 arg6 arg13 0 (by decide)
  rowLoop i arg2 arg3 arg4 arg6 arg13 1 (by decide)
  rowLoop i arg2 arg3 arg4 arg6 arg13 2 (by decide)
  rowLoop i arg2 arg3 arg4 arg6 arg13 3 (by decide)
  rowLoop i arg2 arg3 arg4 arg6 arg13 4 (by decide)
  rowLoop i arg2 arg3 arg4 arg6 arg13 5 (by decide)
  rowLoop i arg2 arg3 arg4 arg6 arg13 6 (by decide)
  rowLoop i arg2 arg3 arg4 arg6 arg13 7 (by decide)
  let d : Vec F S1x8x128 .f32 ← Prog.lift (.load arg5 (Rect.unit (s := S4x8x128) ![0, 0, 0] S1x8x128.size inb_S4x8x128_S1x8x128_0_0_0).toLoadRect (View.loadsAt_vmem h_S1x8x128))
  let v : Vec F S1x8x128 .f32 ← Prog.lift (.load arg5 (Rect.unit (s := S4x8x128) ![1, 0, 0] S1x8x128.size inb_S4x8x128_S1x8x128_1_0_0).toLoadRect (View.loadsAt_vmem h_S1x8x128))
  let n : Vec F S1x8x128 .f32 ← Prog.lift (.load arg5 (Rect.unit (s := S4x8x128) ![2, 0, 0] S1x8x128.size inb_S4x8x128_S1x8x128_2_0_0).toLoadRect (View.loadsAt_vmem h_S1x8x128))
  let s : Vec F S1x8x128 .f32 ← Prog.lift (.load arg5 (Rect.unit (s := S4x8x128) ![3, 0, 0] S1x8x128.size inb_S4x8x128_S1x8x128_3_0_0).toLoadRect (View.loadsAt_vmem h_S1x8x128))
  let dl := shapeCast S8x128 d shapeCasts_S1x8x128_S8x128
  let vl := shapeCast S8x128 v shapeCasts_S1x8x128_S8x128
  let nq := shapeCast S8x128 n shapeCasts_S1x8x128_S8x128
  let sq := shapeCast S8x128 s shapeCasts_S1x8x128_S8x128
  epi i arg6 arg7 arg8 arg9 arg10 arg11 arg12 arg13 dl vl nq sq 0 (by decide)
  epi i arg6 arg7 arg8 arg9 arg10 arg11 arg12 arg13 dl vl nq sq 1 (by decide)
  epi i arg6 arg7 arg8 arg9 arg10 arg11 arg12 arg13 dl vl nq sq 2 (by decide)
  epi i arg6 arg7 arg8 arg9 arg10 arg11 arg12 arg13 dl vl nq sq 3 (by decide)
  epi i arg6 arg7 arg8 arg9 arg10 arg11 arg12 arg13 dl vl nq sq 4 (by decide)
  epi i arg6 arg7 arg8 arg9 arg10 arg11 arg12 arg13 dl vl nq sq 5 (by decide)
  epi i arg6 arg7 arg8 arg9 arg10 arg11 arg12 arg13 dl vl nq sq 6 (by decide)
  epi i arg6 arg7 arg8 arg9 arg10 arg11 arg12 arg13 dl vl nq sq 7 (by decide)

/-- The printed body is this program. -/
theorem score_eq : cc0_score_candidates (F := F) i arg2 harg2 arg3 harg3 arg4 harg4 arg5 harg5 arg6 harg6 arg7 harg7 arg8 harg8 arg9 harg9 arg10 harg10 arg11 harg11 arg12 harg12 arg13 harg13 = score i arg2 arg3 arg4 arg5 arg6 arg7 arg8 arg9 arg10 arg11 arg12 arg13 := by
  rw [cc0_score_candidates_eq_skeleton]
  unfold cc0_score_candidates_skel
  rw [k0_part89_eq_skeleton, k0_part90_eq_skeleton, k0_part91_eq_skeleton]
  unfold k0_part89_skel k0_part90_skel k0_part91_skel score
  simp only [bind_assoc, pure_bind]
  rfl

end Cert.Score

end
-- ==== Proof.TripWp.lean ====
module

public import proofs.«01_k».proof.Proof.Gen.KernelIdeal.Loops
public import Idealize.ShloMosaic.Lib.Pipeline.FrameBody
public import proofs.«01_k».proof.Proof.Whole
public import Idealize.ShloMosaic.Lib.Ring
public import Idealize.ShloMosaic.Lib.WholeRead
public import Idealize.ShloMosaic.Lib.Writes
public import Idealize.ShloMosaic.Lib.WritesUnit
public import Idealize.ShloMosaic.Lib.Tactic

@[expose] public section

set_option maxRecDepth 65536

noncomputable section

namespace Cert.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What a trip does -/

/-- A memref's elements held at contents `f` of its buffer. -/
abbrev pt (c : Dev nD) {sp : Space} {sh : Shape} {e : EltTy} (M : Memref sig .tc sp sh e) (f : M.view.ty.Contents (Elt F)) : sProp 𝕄 :=
  M.view.loc (c : Thread nD τ) ↦[M.view.set]{fullShare} f

/-- The candidates' lengths held at half a share. -/
abbrev ptT (c : Dev nD) (M : Memref sig .tc .smem S24 .i32) (f : Buf (Elt F) (M.view.loc (c : Thread nD τ))) : sProp 𝕄 :=
  M.view.loc (c : Thread nD τ) ↦{fullShare.right} f

/-! ## Reading a tile of an array -/

/-- The index of a shape at given coordinates (each taken modulo its axis). -/
def at' (s : Shape) (hs : ∀ a, 0 < s.size a) (v : Fin s.rank → ℕ) : s.Idx := fun a => ⟨v a % s.size a, Nat.mod_lt _ (hs a)⟩

/-- The tile of an array at an offset. -/
def rd {s : Shape} {α : Type} (hs : ∀ a, 0 < s.size a) (X : s.Idx → α) (off size : Fin s.rank → ℕ) : (⟨s.rank, size⟩ : Shape).Idx → α :=
  fun x => X (at' s hs fun a => off a + (x a).val)

theorem unit_idx_at {s : Shape} (hs : ∀ a, 0 < s.size a) (off size : Fin s.rank → ℕ) (h : ∀ a, off a + size a ≤ s.size a)
    (x : (Rect.unit (s := s) off size h).shape.Idx) :
    (Rect.unit (s := s) off size h).emb x = at' s hs fun a => off a + (x a).val := by
  funext a
  apply Fin.ext
  have h1 : (x a).val < size a := (x a).isLt
  have h2 := h a
  show off a + 1 * (x a).val = (off a + (x a).val) % s.size a
  rw [Nat.mod_eq_of_lt (by omega), Nat.one_mul]

/-- A load of a whole memref at the contents that read `X` is the tile of `X`. -/
theorem readAt_rd {sp : Space} {s : Shape} {e : EltTy} {M : Memref sig .tc sp s e} (hM : M.IsWhole) (hs : ∀ a, 0 < s.size a)
    (X : s.Idx → Elt F e) (off size : Fin s.rank → ℕ) (h : ∀ a, off a + size a ≤ s.size a) :
    View.readAt (Elt F) M.view (Rect.unit (s := s) off size h).toLoadRect (hM.unread X) = rd hs X off size := by
  funext x
  rw [hM.readAt_unread X]
  exact congrArg X (unit_idx_at hs off size h x)

theorem pos3 : ∀ a, 0 < S8x8x64x128.size a := by decide
theorem pos4 : ∀ a, 0 < S2x256x128.size a := by decide
theorem pos5 : ∀ a, 0 < S4x8x128.size a := by decide
theorem pos6 : ∀ a, 0 < S8x1024.size a := by decide

/-- The packed counts of chunk `k` of row `r`, from the arrays. -/
def packT (v4 : BitVec 32) (X3 : Vec F S8x8x64x128 .i32) (X4 : Vec F S2x256x128 .i32) (X6 : Vec F S8x1024 .i32) (r k col h : ℕ) :
    IVec S1x128 32 :=
  packRow v4 (rd pos6 X6 ![r, col] S1x128.size) (fun j => rd pos3 X3 ![r, k, 8 * j, 0] S1x1x8x128.size)
    (fun p j => rd pos4 X4 ![h, 64 * p + 8 * j, 0] S1x8x128.size)

variable (arg2 : Memref sig .tc .smem S24 .i32) (arg3 : Memref sig .tc .vmem S8x8x64x128 .i32)
  (arg4 : Memref sig .tc .vmem S2x256x128 .i32) (arg6 : Memref sig .tc .vmem S8x1024 .i32)
  (arg13 : Memref sig .tc .vmem S8x1024 .i32)
  (harg3 : arg3.IsWhole) (harg4 : arg4.IsWhole) (harg6 : arg6.IsWhole) (harg13 : arg13.IsWhole)

/-- The word of the list's length a trip reads. -/
abbrev lenW (c : Dev nD) (q : ℕ) (hq : ∀ a, (![q] : Fin 1 → ℕ) a + S1.size a ≤ S24.size a) (t : Buf (Elt F) (arg2.view.loc (c : Thread nD τ))) : BitVec 32 :=
  arg2.view.readAt (Elt F) (Rect.unit (s := S24) ![q] S1.size hq).toLoadRect t (Shape.Idx.first (numel1_S1.symm ▸ Nat.one_pos))

/-- ONE TRIP: a chunk that is scored has its row of packed counts written, another leaves the counts as they were. -/
theorem trip_wp (c : Dev nD) {q r k col h : ℕ} (H : InB q r k col h) (v4 st : BitVec 32)
    (t : Buf (Elt F) (arg2.view.loc (c : Thread nD τ))) (X3 : Vec F S8x8x64x128 .i32) (X4 : Vec F S2x256x128 .i32) (X6 : Vec F S8x1024 .i32)
    (f13 : arg13.view.ty.Contents (Elt F)) :
    iprop(ptT c arg2 t ∗ pt c arg3 (harg3.unread X3) ∗ pt c arg4 (harg4.unread X4) ∗ pt c arg6 (harg6.unread X6) ∗ pt c arg13 f13)
      ⊢ wp frame (wpE (defs₀ (F := F)) Variants.none c none) Set.univ (trip arg2 arg3 arg4 arg6 arg13 H v4 st)
        (fun _ => iprop(ptT c arg2 t ∗ pt c arg3 (harg3.unread X3) ∗ pt c arg4 (harg4.unread X4) ∗ pt c arg6 (harg6.unread X6) ∗
          ∃ f, pt c arg13 f ∗ ⌜f = if runs st (lenW arg2 c q H.len t) then
            arg13.view.writes (Elt F) f13 [⟨Rect.unit (s := S8x1024) ![r, col] S1x128.size H.row, packT v4 X3 X4 X6 r k col h⟩] else f13⌝)) := by
  unfold trip
  iintro ⟨H2, H3, H4, H6, H13⟩
  by_cases hc : runs st (lenW arg2 c q H.len t)
  · unfold tileM
    sl_exec (disch := first | sl_exact hc)
    sl_step
    isplitl [H2]; · iexact H2
    isplitl [H3]; · iexact H3
    isplitl [H4]; · iexact H4
    isplitl [H6]; · iexact H6
    iexists _; isplitl [H13]; · iexact H13
    ipureintro
    rw [if_pos hc]
    simp only [readAt_rd harg3 pos3, readAt_rd harg4 pos4, readAt_rd harg6 pos6]
    congr 3
  · sl_exec (disch := first | sl_exact hc)
    sl_step
    isplitl [H2]; · iexact H2
    isplitl [H3]; · iexact H3
    isplitl [H4]; · iexact H4
    isplitl [H6]; · iexact H6
    iexists _; isplitl [H13]; · iexact H13
    ipureintro
    rw [if_neg hc]

end Cert.Score

end
-- ==== Proof.Rows.lean ====
module

public import proofs.«01_k».proof.Proof.Gen.KernelIdeal.Loops
public import Idealize.ShloMosaic.Lib.Pipeline.FrameBody
public import proofs.«01_k».proof.Proof.TripWp
public import Idealize.ShloMosaic.Lib.Ring
public import Idealize.ShloMosaic.Lib.WholeRead
public import Idealize.ShloMosaic.Lib.Writes
public import Idealize.ShloMosaic.Lib.WritesUnit
public import Idealize.ShloMosaic.Lib.Tactic

@[expose] public section

set_option maxRecDepth 65536

noncomputable section

namespace Cert.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (arg2 : Memref sig .tc .smem S24 .i32) (arg3 : Memref sig .tc .vmem S8x8x64x128 .i32)
  (arg4 : Memref sig .tc .vmem S2x256x128 .i32) (arg6 : Memref sig .tc .vmem S8x1024 .i32)
  (arg13 : Memref sig .tc .vmem S8x1024 .i32)
  (harg3 : arg3.IsWhole) (harg4 : arg4.IsWhole) (harg6 : arg6.IsWhole) (harg13 : arg13.IsWhole)

/-! ## The chunks already packed -/

/-- The query's place in the table of lengths. -/
abbrev qcol (i : grid0.Coords) (r : ℕ) : ℕ := (Scalar.indexCast (qw i r)).toNat
/-- The chunk's first column. -/
abbrev ccol (k : Fin k0_t1_loop.trips) : ℕ := (Scalar.indexCast (cw k)).toNat
/-- The chunk's number. -/
abbrev kcol (k : Fin k0_t1_loop.trips) : ℕ := (Scalar.indexCast (kw k)).toNat
/-- The plane half's number. -/
abbrev hcol (i : grid0.Coords) (r : ℕ) : ℕ := (Scalar.indexCast (hw i r)).toNat

theorem qlen (i : grid0.Coords) (r : ℕ) (hr : r < 8) : ∀ a, (![qcol i r] : Fin 1 → ℕ) a + S1.size a ≤ S24.size a :=
  (inb i r hr ⟨0, by decide⟩).len

/-- The chunks of the rows before `r0`, and the first `k0` of row `r0`, hold their packed counts wherever they are scored. -/
def Good (c : Dev nD) (i : grid0.Coords) (t : Buf (Elt F) (arg2.view.loc (c : Thread nD τ))) (X3 : Vec F S8x8x64x128 .i32)
    (X4 : Vec F S2x256x128 .i32) (X6 : Vec F S8x1024 .i32) (r0 k0 : ℕ) (g : Vec F S8x1024 .i32) : Prop :=
  ∀ (r : ℕ) (hr : r < 8) (k : Fin k0_t1_loop.trips), (r < r0 ∨ r = r0 ∧ k.val < k0) →
    runs (stw i k) (lenW arg2 c (qcol i r) (qlen i r hr) t) →
    rd pos6 g ![r, ccol k] S1x128.size = packT (v4w i r) X3 X4 X6 r (kcol k) (ccol k) (hcol i r)

/-- A row written to one chunk, read at a chunk of another place, is what was there. -/
theorem rd_writes_miss (f : arg13.view.ty.Contents (Elt F)) (w : Vec F S1x128 .i32) (r r' : ℕ) (k k' : Fin k0_t1_loop.trips)
    (hr' : r' < 8) (H : ∀ a, (![r, ccol k] : Fin 2 → ℕ) a + S1x128.size a ≤ S8x1024.size a) (hne : r ≠ r' ∨ k ≠ k') :
    rd pos6 (arg13.view.read (Elt F) (arg13.view.writes (Elt F) f [⟨Rect.unit (s := S8x1024) ![r, ccol k] S1x128.size H, w⟩])) ![r', ccol k'] S1x128.size
      = rd pos6 (arg13.view.read (Elt F) f) ![r', ccol k'] S1x128.size := by
  funext x
  have hx0 : (x 0).val < 1 := (x 0).isLt
  have hx1 : (x 1).val < 128 := (x 1).isLt
  have hk := cw_nat k
  have hk' := cw_nat k'
  have h8 := trips8 k'
  show View.read _ _ _ (at' S8x1024 pos6 _) = View.read _ _ _ (at' S8x1024 pos6 _)
  generalize hy : at' S8x1024 pos6 (fun a => (![r', ccol k'] : Fin 2 → ℕ) a + (x a).val) = y
  have hy0 : (y 0).val = r' + (x 0).val := by
    rw [← hy]; exact Nat.mod_eq_of_lt (show r' + (x 0).val < 8 by omega)
  have hy1 : (y 1).val = 128 * k'.val + (x 1).val := by
    rw [← hy]
    show (ccol k' + (x 1).val) % 1024 = _
    unfold ccol
    rw [hk', Nat.mod_eq_of_lt (by omega)]
  by_cases hrr : r = r'
  · have hkk : k ≠ k' := by
      rcases hne with h | h
      · exact absurd hrr h
      · exact h
    have hkv : k.val ≠ k'.val := fun h => hkk (Fin.ext h)
    refine View.read_writes_cons_miss_of_axis arg13.view f _ [] y 1 (128 * k.val) 128 ?_ rfl rfl ?_
    · exact hk
    · rw [hy1]; omega
  · refine View.read_writes_cons_miss_of_axis arg13.view f _ [] y 0 r 1 rfl rfl rfl ?_
    rw [hy0]; omega

/-- A row written to a chunk, read there, is the row. -/
theorem rd_writes_hit (f : arg13.view.ty.Contents (Elt F)) (w : Vec F S1x128 .i32) (r c : ℕ)
    (H : ∀ a, (![r, c] : Fin 2 → ℕ) a + S1x128.size a ≤ S8x1024.size a) :
    rd pos6 (arg13.view.read (Elt F) (arg13.view.writes (Elt F) f [⟨Rect.unit (s := S8x1024) ![r, c] S1x128.size H, w⟩])) ![r, c] S1x128.size = w := by
  funext x
  exact View.read_writes_cons_hit arg13.view f (Rect.unit (s := S8x1024) ![r, c] S1x128.size H) w [] x _
    (unit_idx_at pos6 ![r, c] S1x128.size H x)

theorem Good.step {c : Dev nD} {i : grid0.Coords} {t : Buf (Elt F) (arg2.view.loc (c : Thread nD τ))} {X3 : Vec F S8x8x64x128 .i32}
    {X4 : Vec F S2x256x128 .i32} {X6 : Vec F S8x1024 .i32} {r : ℕ} (hr : r < 8) (k : Fin k0_t1_loop.trips)
    (f : arg13.view.ty.Contents (Elt F)) (h : Good arg2 c i t X3 X4 X6 r k.val (arg13.view.read (Elt F) f)) :
    Good arg2 c i t X3 X4 X6 r (k.val + 1) (arg13.view.read (Elt F) (if runs (stw i k) (lenW arg2 c (qcol i r) (qlen i r hr) t) then
      arg13.view.writes (Elt F) f [⟨Rect.unit (s := S8x1024) ![r, ccol k] S1x128.size (inb i r hr k).row,
        packT (v4w i r) X3 X4 X6 r (kcol k) (ccol k) (hcol i r)⟩] else f)) := by
  intro r' hr' k' hlt hrun
  by_cases hsame : r = r' ∧ k = k'
  · obtain ⟨rfl, rfl⟩ := hsame
    rw [if_pos hrun]
    exact rd_writes_hit arg13 f _ r (ccol k) _
  · have hbefore : r' < r ∨ r' = r ∧ k'.val < k.val := by
      rcases hlt with h | ⟨h, h'⟩
      · exact .inl h
      · refine .inr ⟨h, ?_⟩
        rcases Nat.lt_succ_iff_lt_or_eq.mp h' with h'' | h''
        · exact h''
        · exact absurd ⟨h.symm, (Fin.ext h'').symm⟩ hsame
    split
    · rw [rd_writes_miss arg13 f _ r r' k k' hr' _ (by
        by_cases h : r = r'
        · exact .inr fun hk => hsame ⟨h, hk⟩
        · exact .inl h)]
      exact h r' hr' k' hbefore hrun
    · exact h r' hr' k' hbefore hrun

/-- What a row's loop holds before trip `k`. -/
def rowInv (c : Dev nD) (i : grid0.Coords) (t : Buf (Elt F) (arg2.view.loc (c : Thread nD τ))) (X3 : Vec F S8x8x64x128 .i32)
    (X4 : Vec F S2x256x128 .i32) (X6 : Vec F S8x1024 .i32) (r k : ℕ) : sProp 𝕄 :=
  iprop(ptT c arg2 t ∗ pt c arg3 (harg3.unread X3) ∗ pt c arg4 (harg4.unread X4) ∗ pt c arg6 (harg6.unread X6) ∗
    ∃ f, pt c arg13 f ∗ ⌜Good arg2 c i t X3 X4 X6 r k (arg13.view.read (Elt F) f)⌝)

theorem row_step (c : Dev nD) (i : grid0.Coords) (t : Buf (Elt F) (arg2.view.loc (c : Thread nD τ))) (X3 : Vec F S8x8x64x128 .i32)
    (X4 : Vec F S2x256x128 .i32) (X6 : Vec F S8x1024 .i32) (r : ℕ) (hr : r < 8) (k : Fin k0_t1_loop.trips) (u : Unit) :
    rowInv arg2 arg3 arg4 arg6 arg13 harg3 harg4 harg6 c i t X3 X4 X6 r k.val
      ⊢ wp frame (wpE (defs₀ (F := F)) Variants.none c none) Set.univ (rowTrip arg2 arg3 arg4 arg6 arg13 i r hr k u)
        (fun _ => rowInv arg2 arg3 arg4 arg6 arg13 harg3 harg4 harg6 c i t X3 X4 X6 r (k.val + 1)) := by
  unfold rowInv rowTrip
  iintro ⟨H2, H3, H4, H6, %f, H13, %hf⟩
  have key := trip_wp (F := F) arg2 arg3 arg4 arg6 arg13 harg3 harg4 harg6 c (inb i r hr k) (v4w i r) (stw i k) t X3 X4 X6 f
  have mono := key.trans (wp_mono (Fr := frame) (wpE := wpE (defs₀ (F := F)) Variants.none c none) (E := Set.univ)
    (Q' := fun _ => iprop(ptT c arg2 t ∗ pt c arg3 (harg3.unread X3) ∗ pt c arg4 (harg4.unread X4) ∗ pt c arg6 (harg6.unread X6) ∗
      ∃ f, pt c arg13 f ∗ ⌜Good arg2 c i t X3 X4 X6 r (k.val + 1) (arg13.view.read (Elt F) f)⌝)) (fun _ => ?_))
  · iapply mono
    isplitl [H2]; · iexact H2
    isplitl [H3]; · iexact H3
    isplitl [H4]; · iexact H4
    isplitl [H6]; · iexact H6
    iexact H13
  · iintro ⟨H2, H3, H4, H6, %f', H13, %hf'⟩
    isplitl [H2]; · iexact H2
    isplitl [H3]; · iexact H3
    isplitl [H4]; · iexact H4
    isplitl [H6]; · iexact H6
    iexists f'; isplitl [H13]; · iexact H13
    ipureintro
    rw [hf']
    exact Good.step arg2 arg13 hr k f hf

/-- A row's loop: from the rows before it packed to its own packed as well. -/
theorem row_wp (c : Dev nD) (i : grid0.Coords) (t : Buf (Elt F) (arg2.view.loc (c : Thread nD τ))) (X3 : Vec F S8x8x64x128 .i32)
    (X4 : Vec F S2x256x128 .i32) (X6 : Vec F S8x1024 .i32) (r : ℕ) (hr : r < 8) :
    rowInv arg2 arg3 arg4 arg6 arg13 harg3 harg4 harg6 c i t X3 X4 X6 r 0
      ⊢ wp frame (wpE (defs₀ (F := F)) Variants.none c none) Set.univ (rowLoop i arg2 arg3 arg4 arg6 arg13 r hr)
        (fun _ => rowInv arg2 arg3 arg4 arg6 arg13 harg3 harg4 harg6 c i t X3 X4 X6 (r + 1) 0) := by
  iintro H
  iapply (Scf.wp_for frame (wpE (defs₀ (F := F)) Variants.none c none) Set.univ k0_t1_loop.lb k0_t1_loop.ub k0_t1_loop.st k0_t1_ok ⟨⟩
    (rowTrip (F := F) arg2 arg3 arg4 arg6 arg13 i r hr)
    (fun k _ => rowInv arg2 arg3 arg4 arg6 arg13 harg3 harg4 harg6 c i t X3 X4 X6 r k)
    (fun k u => row_step arg2 arg3 arg4 arg6 arg13 harg3 harg4 harg6 c i t X3 X4 X6 r hr k u))
  isplitl [H]; · iexact H
  iintro %acc
  unfold rowInv
  iintro ⟨H2, H3, H4, H6, %f', H13, %hf'⟩
  isplitl [H2]; · iexact H2
  isplitl [H3]; · iexact H3
  isplitl [H4]; · iexact H4
  isplitl [H6]; · iexact H6
  iexists f'; isplitl [H13]; · iexact H13
  ipureintro
  intro r' hr' k' hlt
  refine hf' r' hr' k' ?_
  have h1 : k'.val < Scf.trips k0_t1_loop.lb k0_t1_loop.ub k0_t1_loop.st := k'.isLt
  omega

end Cert.Score

end
-- ==== Proof.Epi.lean ====
module

public import proofs.«01_k».proof.Proof.Gen.KernelIdeal.Loops
public import Idealize.ShloMosaic.Lib.Pipeline.FrameBody
public import proofs.«01_k».proof.Proof.Rows
public import Idealize.ShloMosaic.Lib.Ring
public import Idealize.ShloMosaic.Lib.WholeRead
public import Idealize.ShloMosaic.Lib.Writes
public import Idealize.ShloMosaic.Lib.WritesUnit
public import Idealize.ShloMosaic.Lib.Tactic

@[expose] public section

set_option maxRecDepth 65536

noncomputable section

namespace Cert.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What a trip does -/

/-! ## What a block's scoring does -/

/-- The stats, the norms and the dot products a grid point is handed. -/
structure Ins (F : FTy → Type) where
  /-- the four tables -/
  X5 : Vec F S4x8x128 .f32
  /-- the probes -/
  X6 : Vec F S8x1024 .i32
  /-- the norms -/
  X7 : Vec F S8x1024 .f32
  /-- the dot products with the codes -/
  X8 : Vec F S8x1024 .f32
  /-- the lengths, on every lane -/
  X9 : Vec F S8x128 .i32

theorem pos9 : ∀ a, 0 < S8x128.size a := by decide

namespace Ins
variable (x : Ins F) (i : grid0.Coords) (c : ℕ)

/-- Table `k` as a tile. -/
def stat (k : ℕ) : FVec F S8x128 .f32 := shapeCast S8x128 (rd pos5 x.X5 ![k, 0, 0] S1x8x128.size) shapeCasts_S1x8x128_S8x128
/-- Block `c`'s probes. -/
def pr : IVec S8x128 32 := rd pos6 x.X6 ![0, 128 * c] S8x128.size
/-- Block `c`'s norms. -/
def nr : FVec F S8x128 .f32 := rd pos6 x.X7 ![0, 128 * c] S8x128.size
/-- Block `c`'s dot products. -/
def io : FVec F S8x128 .f32 := rd pos6 x.X8 ![0, 128 * c] S8x128.size
/-- The lengths. -/
def ln : IVec S8x128 32 := rd pos9 x.X9 ![0, 0] S8x128.size
/-- Block `c`'s estimated inner products, over the packed counts `pk`. -/
def ipT (pk : IVec S8x128 32) : FVec F S8x128 .f32 :=
  ipE (takeStat (x.stat 0) (x.pr c)) (takeStat (x.stat 1) (x.pr c)) (takeStat (x.stat 2) (x.pr c)) (takeStat (x.stat 3) (x.pr c)) pk (x.io c)
/-- Block `c`'s distances, written. -/
def oD (pk : IVec S8x128 32) : FVec F S8x128 .f32 :=
  select (validE i c x.ln) (distE (takeStat (x.stat 2) (x.pr c)) (x.nr c) (x.ipT c pk)) (kst 0x00000000#32)
/-- Block `c`'s error bounds, written. -/
def oE : FVec F S8x128 .f32 := select (validE i c x.ln) (errE (takeStat (x.stat 2) (x.pr c)) (x.nr c) (x.io c)) (kst 0x00000000#32)
/-- Block `c`'s inner products, written. -/
def oI (pk : IVec S8x128 32) : FVec F S8x128 .f32 := select (validE i c x.ln) (x.ipT c pk) (kst 0x00000000#32)

end Ins

variable (arg2 : Memref sig .tc .smem S24 .i32) (arg5 : Memref sig .tc .vmem S4x8x128 .f32)
  (arg6 : Memref sig .tc .vmem S8x1024 .i32) (arg7 : Memref sig .tc .vmem S8x1024 .f32) (arg8 : Memref sig .tc .vmem S8x1024 .f32)
  (arg9 : Memref sig .tc .vmem S8x128 .i32) (arg10 : Memref sig .tc .vmem S8x1024 .f32) (arg11 : Memref sig .tc .vmem S8x1024 .f32)
  (arg12 : Memref sig .tc .vmem S8x1024 .f32) (arg13 : Memref sig .tc .vmem S8x1024 .i32)
  (harg5 : arg5.IsWhole) (harg6 : arg6.IsWhole) (harg7 : arg7.IsWhole) (harg8 : arg8.IsWhole) (harg9 : arg9.IsWhole) (harg13 : arg13.IsWhole)

theorem epi_run (c : Dev nD) (i : grid0.Coords) (x : Ins F) (G : Vec F S8x1024 .i32) (n : ℕ) (hn : n < 8)
    (f10 : arg10.view.ty.Contents (Elt F)) (f11 : arg11.view.ty.Contents (Elt F)) (f12 : arg12.view.ty.Contents (Elt F)) :
    iprop(pt c arg6 (harg6.unread x.X6) ∗ pt c arg7 (harg7.unread x.X7) ∗ pt c arg8 (harg8.unread x.X8) ∗ pt c arg9 (harg9.unread x.X9) ∗
        pt c arg13 (harg13.unread G) ∗ pt c arg10 f10 ∗ pt c arg11 f11 ∗ pt c arg12 f12)
      ⊢ wp frame (wpE (defs₀ (F := F)) Variants.none c none) Set.univ
        (epi i arg6 arg7 arg8 arg9 arg10 arg11 arg12 arg13 (x.stat 0) (x.stat 1) (x.stat 2) (x.stat 3) n hn)
        (fun _ => iprop(pt c arg6 (harg6.unread x.X6) ∗ pt c arg7 (harg7.unread x.X7) ∗ pt c arg8 (harg8.unread x.X8) ∗ pt c arg9 (harg9.unread x.X9) ∗
          pt c arg13 (harg13.unread G) ∗
          (∃ f, pt c arg10 f ∗ ⌜f = arg10.view.writes (Elt F) f10 [⟨blkR n hn, x.oD i n (rd pos6 G ![0, 128 * n] S8x128.size)⟩]⌝) ∗
          (∃ f, pt c arg11 f ∗ ⌜f = arg11.view.writes (Elt F) f11 [⟨blkR n hn, x.oE i n⟩]⌝) ∗
          (∃ f, pt c arg12 f ∗ ⌜f = arg12.view.writes (Elt F) f12 [⟨blkR n hn, x.oI i n (rd pos6 G ![0, 128 * n] S8x128.size)⟩]⌝))) := by
  unfold epi
  iintro ⟨H6, H7, H8, H9, H13, H10, H11, H12⟩
  sl_exec
  sl_step
  simp only [readAt_rd harg6 pos6, readAt_rd harg7 pos6, readAt_rd harg8 pos6, readAt_rd harg9 pos9, readAt_rd harg13 pos6]
  isplitl [H6]; · iexact H6
  isplitl [H7]; · iexact H7
  isplitl [H8]; · iexact H8
  isplitl [H9]; · iexact H9
  isplitl [H13]; · iexact H13
  isplitl [H10]
  · iexists _; isplitl [H10]; · iexact H10
    ipureintro; rfl
  isplitl [H11]
  · iexists _; isplitl [H11]; · iexact H11
    ipureintro; rfl
  · iexists _; isplitl [H12]; · iexact H12
    ipureintro; rfl

/-! ## The blocks already written -/

/-- The blocks before `n` of an array hold the tiles. -/
def Fill (n : ℕ) (g : Vec F S8x1024 .f32) (tile : ℕ → FVec F S8x128 .f32) : Prop :=
  ∀ k < n, rd pos6 g ![0, 128 * k] S8x128.size = tile k

theorem Fill.step {M : Memref sig .tc .vmem S8x1024 .f32} {n : ℕ} (hn : n < 8) {f : M.view.ty.Contents (Elt F)} {tile : ℕ → FVec F S8x128 .f32}
    (h : Fill n (M.view.read (Elt F) f) tile) : Fill (n + 1) (M.view.read (Elt F) (M.view.writes (Elt F) f [⟨blkR n hn, tile n⟩])) tile := by
  intro k hk
  by_cases hkn : k = n
  · subst hkn
    funext x
    exact View.read_writes_cons_hit M.view f (blkR k hn) (tile k) [] x _ (unit_idx_at pos6 ![0, 128 * k] S8x128.size (blk k hn) x)
  · rw [← h k (by omega)]
    funext x
    have hx0 : (x 0).val < 8 := (x 0).isLt
    have hx1 : (x 1).val < 128 := (x 1).isLt
    refine View.read_writes_cons_miss_of_axis M.view f _ [] _ 1 (128 * n) 128 rfl rfl rfl ?_
    have : ((at' S8x1024 pos6 fun a => (![0, 128 * k] : Fin 2 → ℕ) a + (x a).val) 1).val = 128 * k + (x 1).val :=
      Nat.mod_eq_of_lt (show 128 * k + (x 1).val < 1024 by omega)
    rw [this]
    omega

/-- The array of the tiles. -/
def outArr {α : Type} (tile : ℕ → S8x128.Idx → α) : S8x1024.Idx → α := fun y => tile ((y 1).val / 128) (at' S8x128 pos9 ![(y 0).val, (y 1).val % 128])

theorem Fill.all {g : Vec F S8x1024 .f32} {tile : ℕ → FVec F S8x128 .f32} (h : Fill 8 g tile) : g = outArr tile := by
  funext y
  have h0 : (y 0).val < 8 := (y 0).isLt
  have h1 : (y 1).val < 1024 := (y 1).isLt
  unfold outArr
  rw [← h ((y 1).val / 128) (by omega)]
  show g y = g _
  congr 1
  funext a
  apply Fin.ext
  revert a
  refine Fin.forall_fin_two.mpr ⟨?_, ?_⟩
  · show (y 0).val = (0 + (y 0).val % 8) % 8
    omega
  · show (y 1).val = (128 * ((y 1).val / 128) + (y 1).val % 128 % 128) % 1024
    omega

/-- What the blocks' scoring holds before block `n`. -/
def epiInv (c : Dev nD) (i : grid0.Coords) (x : Ins F) (G : Vec F S8x1024 .i32) (n : ℕ) : sProp 𝕄 :=
  iprop(pt c arg6 (harg6.unread x.X6) ∗ pt c arg7 (harg7.unread x.X7) ∗ pt c arg8 (harg8.unread x.X8) ∗ pt c arg9 (harg9.unread x.X9) ∗
    pt c arg13 (harg13.unread G) ∗
    (∃ f, pt c arg10 f ∗ ⌜Fill n (arg10.view.read (Elt F) f) fun k => x.oD i k (rd pos6 G ![0, 128 * k] S8x128.size)⌝) ∗
    (∃ f, pt c arg11 f ∗ ⌜Fill n (arg11.view.read (Elt F) f) fun k => x.oE i k⌝) ∗
    (∃ f, pt c arg12 f ∗ ⌜Fill n (arg12.view.read (Elt F) f) fun k => x.oI i k (rd pos6 G ![0, 128 * k] S8x128.size)⌝))

theorem epi_wp (c : Dev nD) (i : grid0.Coords) (x : Ins F) (G : Vec F S8x1024 .i32) (n : ℕ) (hn : n < 8) :
    epiInv arg6 arg7 arg8 arg9 arg10 arg11 arg12 arg13 harg6 harg7 harg8 harg9 harg13 c i x G n
      ⊢ wp frame (wpE (defs₀ (F := F)) Variants.none c none) Set.univ
        (epi i arg6 arg7 arg8 arg9 arg10 arg11 arg12 arg13 (x.stat 0) (x.stat 1) (x.stat 2) (x.stat 3) n hn)
        (fun _ => epiInv arg6 arg7 arg8 arg9 arg10 arg11 arg12 arg13 harg6 harg7 harg8 harg9 harg13 c i x G (n + 1)) := by
  unfold epiInv
  iintro ⟨H6, H7, H8, H9, H13, ⟨%f10, H10, %h10⟩, ⟨%f11, H11, %h11⟩, ⟨%f12, H12, %h12⟩⟩
  iapply ((epi_run arg6 arg7 arg8 arg9 arg10 arg11 arg12 arg13 harg6 harg7 harg8 harg9 harg13 c i x G n hn f10 f11 f12).trans
    (wp_mono (Fr := frame) (wpE := wpE (defs₀ (F := F)) Variants.none c none) (E := Set.univ) (fun _ => ?_)))
  · iintro ⟨H6, H7, H8, H9, H13, ⟨%f10', H10, %e10⟩, ⟨%f11', H11, %e11⟩, ⟨%f12', H12, %e12⟩⟩
    isplitl [H6]; · iexact H6
    isplitl [H7]; · iexact H7
    isplitl [H8]; · iexact H8
    isplitl [H9]; · iexact H9
    isplitl [H13]; · iexact H13
    isplitl [H10]
    · iexists f10'; isplitl [H10]; · iexact H10
      ipureintro; exact e10 ▸ Fill.step (M := arg10) (tile := fun k => x.oD i k (rd pos6 G ![0, 128 * k] S8x128.size)) hn h10
    isplitl [H11]
    · iexists f11'; isplitl [H11]; · iexact H11
      ipureintro; exact e11 ▸ Fill.step (M := arg11) (tile := fun k => x.oE i k) hn h11
    · iexists f12'; isplitl [H12]; · iexact H12
      ipureintro; exact e12 ▸ Fill.step (M := arg12) (tile := fun k => x.oI i k (rd pos6 G ![0, 128 * k] S8x128.size)) hn h12
  isplitl [H6]; · iexact H6
  isplitl [H7]; · iexact H7
  isplitl [H8]; · iexact H8
  isplitl [H9]; · iexact H9
  isplitl [H13]; · iexact H13
  isplitl [H10]; · iexact H10
  isplitl [H11]; · iexact H11
  iexact H12

end Cert.Score

end
-- ==== Proof.Body.lean ====
module

public import proofs.«01_k».proof.Proof.Gen.KernelIdeal.Loops
public import Idealize.ShloMosaic.Lib.Pipeline.FrameBody
public import proofs.«01_k».proof.Proof.Epi
public import Idealize.ShloMosaic.Lib.Ring
public import Idealize.ShloMosaic.Lib.WholeRead
public import Idealize.ShloMosaic.Lib.Writes
public import Idealize.ShloMosaic.Lib.WritesUnit
public import Idealize.ShloMosaic.Lib.Tactic

@[expose] public section

set_option maxRecDepth 65536

noncomputable section

namespace Cert.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What a trip does -/

/-! ## The packed counts of every position -/

theorem pos1 : ∀ a, 0 < S1x128.size a := by decide

/-- The packed counts, had every chunk been scored. -/
def packAll (i : grid0.Coords) (X3 : Vec F S8x8x64x128 .i32) (X4 : Vec F S2x256x128 .i32) (X6 : Vec F S8x1024 .i32) : Vec F S8x1024 .i32 :=
  fun y => packT (v4w i (y 0).val) X3 X4 X6 (y 0).val ((y 1).val / 128) (128 * ((y 1).val / 128)) ((8 * (i 0).val + (y 0).val) / 16)
    (at' S1x128 pos1 ![0, (y 1).val % 128])

theorem epw_stw : ∀ (i : grid0.Coords) (k : Fin k0_t1_loop.trips), epw i k.val = stw i k := by decide +kernel
theorem stw_le : ∀ (i : grid0.Coords) (k : Fin k0_t1_loop.trips), (stw i k).toNat ≤ 6016 := by decide +kernel

/-- A chunk holding a position of the list is scored. -/
theorem runs_of_slt (p st w : BitVec 32) (hp : p.toNat < 128) (hs : st.toNat ≤ 6016) (h : IntOp.cmpi .slt (p + st) w = 1) : runs st w := by
  have h1 : (p + st).slt w = true := by
    unfold IntOp.cmpi at h
    cases hb : (p + st).slt w
    · rw [hb] at h; exact absurd h (by simp)
    · rfl
  have h2 : st.slt w = true := by
    rw [BitVec.slt_iff_toInt_lt] at h1 ⊢
    have hadd : (p + st).toNat = p.toNat + st.toNat := by
      rw [BitVec.toNat_add]; exact Nat.mod_eq_of_lt (by omega)
    rw [BitVec.toInt_eq_toNat_of_lt (by omega)] at h1
    rw [BitVec.toInt_eq_toNat_of_lt (by omega)]
    omega
  show IntOp.cmpi .ne (BitVec.setWidth 32 (IntOp.cmpi .slt st w)) 0#32 = 1#1
  unfold IntOp.cmpi
  simp only [h2]
  decide

/-- Where a position is in its list, the packed count read is its packed count. -/
theorem pk_eq {arg2 : Memref sig .tc .smem S24 .i32} {c : Dev nD} {i : grid0.Coords} {t : Buf (Elt F) (arg2.view.loc (c : Thread nD τ))}
    {X3 : Vec F S8x8x64x128 .i32} {X4 : Vec F S2x256x128 .i32} {x : Ins F} {g : Vec F S8x1024 .i32}
    (hg : Good arg2 c i t X3 X4 x.X6 8 0 g)
    (hlen : ∀ y : S8x128.Idx, x.X9 y = lenW arg2 c (qcol i (y 0).val) (qlen i (y 0).val (y 0).isLt) t)
    (k : Fin k0_t1_loop.trips) (y : S8x128.Idx) (hv : validE i k.val x.ln y = 1) :
    rd pos6 g ![0, 128 * k.val] S8x128.size y = rd pos6 (packAll i X3 X4 x.X6) ![0, 128 * k.val] S8x128.size y := by
  have h0 : (y 0).val < 8 := (y 0).isLt
  have h1 : (y 1).val < 128 := (y 1).isLt
  have hk := trips8 k
  have hln : x.ln y = lenW arg2 c (qcol i (y 0).val) (qlen i (y 0).val (y 0).isLt) t := by
    rw [← hlen y]
    show x.X9 _ = x.X9 _
    congr 1
    funext a
    apply Fin.ext
    revert a
    refine Fin.forall_fin_two.mpr ⟨?_, ?_⟩
    · show (0 + (y 0).val) % 8 = _
      omega
    · show (0 + (y 1).val) % 128 = _
      omega
  have hrun : runs (stw i k) (lenW arg2 c (qcol i (y 0).val) (qlen i (y 0).val (y 0).isLt) t) := by
    have hv' : IntOp.cmpi .slt (BitVec.ofNat 32 (0 * 128 + (y 1).val) + epw i k.val) (shapeCast S8x128 x.ln shapeCasts_S8x128_S8x128 y) = 1 := hv
    rw [shapeCast_self, hln, epw_stw] at hv'
    refine runs_of_slt _ _ _ ?_ (stw_le i k) hv'
    rw [BitVec.toNat_ofNat]
    omega
  have hgood := congrFun (hg (y 0).val h0 k (.inl h0) hrun) (at' S1x128 pos1 ![0, (y 1).val])
  have hy0 : ((at' S8x1024 pos6 fun a => (![0, 128 * k.val] : Fin 2 → ℕ) a + (y a).val) 0).val = (y 0).val :=
    (Nat.mod_eq_of_lt (show 0 + (y 0).val < 8 by omega)).trans (by omega)
  have hy1 : ((at' S8x1024 pos6 fun a => (![0, 128 * k.val] : Fin 2 → ℕ) a + (y a).val) 1).val = 128 * k.val + (y 1).val :=
    Nat.mod_eq_of_lt (show 128 * k.val + (y 1).val < 1024 by omega)
  show g (at' S8x1024 pos6 _) = packAll i X3 X4 x.X6 (at' S8x1024 pos6 _)
  unfold packAll
  rw [hy0, hy1, show (128 * k.val + (y 1).val) / 128 = k.val by omega, show (128 * k.val + (y 1).val) % 128 = (y 1).val by omega]
  have hc : ccol k = 128 * k.val := cw_nat k
  have hkk : kcol k = k.val := kw_nat k
  have hh : hcol i (y 0).val = (8 * (i 0).val + (y 0).val) / 16 := hw_nat i ⟨(y 0).val, h0⟩
  rw [hc, hkk, hh] at hgood
  refine Eq.trans ?_ hgood
  show g _ = g (at' S8x1024 pos6 _)
  congr 1
  funext a
  apply Fin.ext
  revert a
  refine Fin.forall_fin_two.mpr ⟨?_, ?_⟩
  · show (0 + (y 0).val) % 8 = ((y 0).val + 0 % 1) % 8
    omega
  · show (128 * k.val + (y 1).val) % 1024 = (128 * k.val + (y 1).val % 128) % 1024
    omega

/-! ## The three results of a grid point -/

/-- The distances of a grid point. -/
def resD (i : grid0.Coords) (X3 : Vec F S8x8x64x128 .i32) (X4 : Vec F S2x256x128 .i32) (x : Ins F) : Vec F S8x1024 .f32 :=
  outArr fun k => x.oD i k (rd pos6 (packAll i X3 X4 x.X6) ![0, 128 * k] S8x128.size)
/-- The error bounds of a grid point. -/
def resE (i : grid0.Coords) (x : Ins F) : Vec F S8x1024 .f32 := outArr fun k => x.oE i k
/-- The inner products of a grid point. -/
def resI (i : grid0.Coords) (X3 : Vec F S8x8x64x128 .i32) (X4 : Vec F S2x256x128 .i32) (x : Ins F) : Vec F S8x1024 .f32 :=
  outArr fun k => x.oI i k (rd pos6 (packAll i X3 X4 x.X6) ![0, 128 * k] S8x128.size)

theorem ipT_at (x : Ins F) (k : ℕ) (pk : IVec S8x128 32) (y : S8x128.Idx) : x.ipT k pk y = x.ipT k (fun _ => pk y) y := rfl

theorem oI_congr {x : Ins F} {i : grid0.Coords} {k : ℕ} {pk pk' : IVec S8x128 32} (h : ∀ y, validE i k x.ln y = 1 → pk y = pk' y) :
    x.oI i k pk = x.oI i k pk' := by
  funext y
  show Scalar.select (validE i k x.ln y) (x.ipT k pk y) _ = Scalar.select (validE i k x.ln y) (x.ipT k pk' y) _
  unfold Scalar.select
  split
  · rename_i hv
    rw [ipT_at x k pk, ipT_at x k pk', h y hv]
  · rfl

theorem oD_congr {x : Ins F} {i : grid0.Coords} {k : ℕ} {pk pk' : IVec S8x128 32} (h : ∀ y, validE i k x.ln y = 1 → pk y = pk' y) :
    x.oD i k pk = x.oD i k pk' := by
  funext y
  show Scalar.select (validE i k x.ln y) (distE (takeStat (x.stat 2) (x.pr k)) (x.nr k) (x.ipT k pk) y) _
    = Scalar.select (validE i k x.ln y) (distE (takeStat (x.stat 2) (x.pr k)) (x.nr k) (x.ipT k pk') y) _
  unfold Scalar.select
  split
  · rename_i hv
    have hd : ∀ ip, distE (takeStat (x.stat 2) (x.pr k)) (x.nr k) ip y = distE (takeStat (x.stat 2) (x.pr k)) (x.nr k) (fun _ => ip y) y := fun _ => rfl
    rw [hd (x.ipT k pk), hd (x.ipT k pk'), ipT_at x k pk, ipT_at x k pk', h y hv]
  · rfl

theorem outArr_congr {α : Type} {a b : ℕ → S8x128.Idx → α} (h : ∀ k < 8, a k = b k) : outArr a = outArr b := by
  funext y
  have h1 : (y 1).val < 1024 := (y 1).isLt
  unfold outArr
  rw [h _ (by omega)]

/-! ## The whole body -/

/-- Reading the four tables. -/
theorem stats_wp (c : Dev nD) (arg5 : Memref sig .tc .vmem S4x8x128 .f32) (harg5 : arg5.IsWhole) (X5 : Vec F S4x8x128 .f32) (R : sProp 𝕄)
    (kk : FVec F S8x128 .f32 → FVec F S8x128 .f32 → FVec F S8x128 .f32 → FVec F S8x128 .f32 → Prog (TpuEff nD τ sig (Elt F) Λ₀ .tc) PUnit) (K : PUnit → sProp 𝕄)
    (hk : iprop(pt c arg5 (harg5.unread X5) ∗ R) ⊢ wp frame (wpE (defs₀ (F := F)) Variants.none c none) Set.univ
      (kk (shapeCast S8x128 (rd pos5 X5 ![0, 0, 0] S1x8x128.size) shapeCasts_S1x8x128_S8x128) (shapeCast S8x128 (rd pos5 X5 ![1, 0, 0] S1x8x128.size) shapeCasts_S1x8x128_S8x128)
        (shapeCast S8x128 (rd pos5 X5 ![2, 0, 0] S1x8x128.size) shapeCasts_S1x8x128_S8x128) (shapeCast S8x128 (rd pos5 X5 ![3, 0, 0] S1x8x128.size) shapeCasts_S1x8x128_S8x128)) K) :
    iprop(pt c arg5 (harg5.unread X5) ∗ R) ⊢ wp frame (wpE (defs₀ (F := F)) Variants.none c none) Set.univ (do
      let d : Vec F S1x8x128 .f32 ← Prog.lift (.load arg5 (Rect.unit (s := S4x8x128) ![0, 0, 0] S1x8x128.size inb_S4x8x128_S1x8x128_0_0_0).toLoadRect (View.loadsAt_vmem h_S1x8x128))
      let v : Vec F S1x8x128 .f32 ← Prog.lift (.load arg5 (Rect.unit (s := S4x8x128) ![1, 0, 0] S1x8x128.size inb_S4x8x128_S1x8x128_1_0_0).toLoadRect (View.loadsAt_vmem h_S1x8x128))
      let n : Vec F S1x8x128 .f32 ← Prog.lift (.load arg5 (Rect.unit (s := S4x8x128) ![2, 0, 0] S1x8x128.size inb_S4x8x128_S1x8x128_2_0_0).toLoadRect (View.loadsAt_vmem h_S1x8x128))
      let s : Vec F S1x8x128 .f32 ← Prog.lift (.load arg5 (Rect.unit (s := S4x8x128) ![3, 0, 0] S1x8x128.size inb_S4x8x128_S1x8x128_3_0_0).toLoadRect (View.loadsAt_vmem h_S1x8x128))
      kk (shapeCast S8x128 d shapeCasts_S1x8x128_S8x128) (shapeCast S8x128 v shapeCasts_S1x8x128_S8x128) (shapeCast S8x128 n shapeCasts_S1x8x128_S8x128) (shapeCast S8x128 s shapeCasts_S1x8x128_S8x128)) K := by
  iintro ⟨H5, HR⟩
  sl_exec
  simp only [readAt_rd harg5 pos5]
  iapply hk
  isplitl [H5]; · iexact H5
  iexact HR

/-- A step of the body, then the rest. -/
theorem seq {β : Type} {c : Dev nD} {P P' : sProp 𝕄} {p : Prog (TpuEff nD τ sig (Elt F) Λ₀ .tc) Unit}
    (h : P ⊢ wp frame (wpE (defs₀ (F := F)) Variants.none c none) Set.univ p (fun _ => P'))
    {kk : Unit → Prog (TpuEff nD τ sig (Elt F) Λ₀ .tc) β} {Q : β → sProp 𝕄} :
    P ⊢ iprop((P' -∗ wp frame (wpE (defs₀ (F := F)) Variants.none c none) Set.univ (kk ()) Q)
      -∗ wp frame (wpE (defs₀ (F := F)) Variants.none c none) Set.univ (p >>= kk) Q) := by
  rw [wp_bind]
  iintro HP HK
  iapply (wp_wand_r frame (wpE (defs₀ (F := F)) Variants.none c none) Set.univ (Q := fun _ => P'))
  isplitl [HP]
  · iapply h; iexact HP
  iintro %a HP'
  iapply HK; iexact HP'

/-- THE BODY, at a grid point: on its blocks it writes the three results, whatever the scratch held. -/
theorem body_wp (c : Dev nD) (i : grid0.Coords)
    (arg2 : Memref sig .tc .smem S24 .i32) (harg2 : arg2.IsWhole)
    (arg3 : Memref sig .tc .vmem S8x8x64x128 .i32) (harg3 : arg3.IsWhole)
    (arg4 : Memref sig .tc .vmem S2x256x128 .i32) (harg4 : arg4.IsWhole)
    (arg5 : Memref sig .tc .vmem S4x8x128 .f32) (harg5 : arg5.IsWhole)
    (arg6 : Memref sig .tc .vmem S8x1024 .i32) (harg6 : arg6.IsWhole)
    (arg7 : Memref sig .tc .vmem S8x1024 .f32) (harg7 : arg7.IsWhole)
    (arg8 : Memref sig .tc .vmem S8x1024 .f32) (harg8 : arg8.IsWhole)
    (arg9 : Memref sig .tc .vmem S8x128 .i32) (harg9 : arg9.IsWhole)
    (arg10 : Memref sig .tc .vmem S8x1024 .f32) (harg10 : arg10.IsWhole)
    (arg11 : Memref sig .tc .vmem S8x1024 .f32) (harg11 : arg11.IsWhole)
    (arg12 : Memref sig .tc .vmem S8x1024 .f32) (harg12 : arg12.IsWhole)
    (arg13 : Memref sig .tc .vmem S8x1024 .i32) (harg13 : arg13.IsWhole)
    (X3 : Vec F S8x8x64x128 .i32) (X4 : Vec F S2x256x128 .i32) (x : Ins F) (t : Buf (Elt F) (arg2.view.loc (c : Thread nD τ)))
    (hlen : ∀ y : S8x128.Idx, x.X9 y = lenW arg2 c (qcol i (y 0).val) (qlen i (y 0).val (y 0).isLt) t) (K : PUnit → sProp 𝕄) :
    iprop(owns (c : Thread nD τ) arg3 fullShare X3 ∗ owns (c : Thread nD τ) arg4 fullShare X4 ∗ owns (c : Thread nD τ) arg5 fullShare x.X5 ∗
        owns (c : Thread nD τ) arg6 fullShare x.X6 ∗ owns (c : Thread nD τ) arg7 fullShare x.X7 ∗ owns (c : Thread nD τ) arg8 fullShare x.X8 ∗
        owns (c : Thread nD τ) arg9 fullShare x.X9 ∗ (∃ d, owns (c : Thread nD τ) arg10 fullShare d) ∗ (∃ d, owns (c : Thread nD τ) arg11 fullShare d) ∗
        (∃ d, owns (c : Thread nD τ) arg12 fullShare d) ∗ (∃ d, owns (c : Thread nD τ) arg13 fullShare d) ∗ ptT c arg2 t ∗
        (iprop(owns (c : Thread nD τ) arg3 fullShare X3 ∗ owns (c : Thread nD τ) arg4 fullShare X4 ∗ owns (c : Thread nD τ) arg5 fullShare x.X5 ∗
          owns (c : Thread nD τ) arg6 fullShare x.X6 ∗ owns (c : Thread nD τ) arg7 fullShare x.X7 ∗ owns (c : Thread nD τ) arg8 fullShare x.X8 ∗
          owns (c : Thread nD τ) arg9 fullShare x.X9 ∗ owns (c : Thread nD τ) arg10 fullShare (resD i X3 X4 x) ∗ owns (c : Thread nD τ) arg11 fullShare (resE i x) ∗
          owns (c : Thread nD τ) arg12 fullShare (resI i X3 X4 x) ∗ (∃ d, owns (c : Thread nD τ) arg13 fullShare d) ∗ ptT c arg2 t) -∗ K ⟨⟩))
      ⊢ wp frame (wpE (defs₀ (F := F)) Variants.none c none) Set.univ (cc0_score_candidates i arg2 harg2 arg3 harg3 arg4 harg4 arg5 harg5 arg6 harg6 arg7 harg7 arg8 harg8 arg9 harg9 arg10 harg10 arg11 harg11 arg12 harg12 arg13 harg13) K := by
  rw [score_eq]
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%d10, %f10, -, H10⟩, ⟨%d11, %f11, -, H11⟩, ⟨%d12, %f12, -, H12⟩, ⟨%d13, %f13, -, H13⟩, H2, Hk⟩
  obtain rfl := harg3.eq_unread h3; obtain rfl := harg4.eq_unread h4; obtain rfl := harg5.eq_unread h5; obtain rfl := harg6.eq_unread h6
  obtain rfl := harg7.eq_unread h7; obtain rfl := harg8.eq_unread h8; obtain rfl := harg9.eq_unread h9
  have row := fun r hr => row_wp arg2 arg3 arg4 arg6 arg13 harg3 harg4 harg6 c i t X3 X4 x.X6 r hr
  have e0 : iprop(ptT c arg2 t ∗ pt c arg3 (harg3.unread X3) ∗ pt c arg4 (harg4.unread X4) ∗ pt c arg6 (harg6.unread x.X6) ∗ pt c arg13 f13)
      ⊢ rowInv arg2 arg3 arg4 arg6 arg13 harg3 harg4 harg6 c i t X3 X4 x.X6 0 0 := by
    unfold rowInv
    iintro ⟨H2, H3, H4, H6, H13⟩
    isplitl [H2]; · iexact H2
    isplitl [H3]; · iexact H3
    isplitl [H4]; · iexact H4
    isplitl [H6]; · iexact H6
    iexists f13; isplitl [H13]; · iexact H13
    ipureintro
    intro r hr k h
    omega
  unfold score
  ihave HI := e0 $$ [H2 H3 H4 H6 H13]
  · isplitl [H2]; · iexact H2
    isplitl [H3]; · iexact H3
    isplitl [H4]; · iexact H4
    isplitl [H6]; · iexact H6
    iexact H13
  iapply (seq (row 0 (of_decide_eq_true rfl))) $$ HI
  iintro HI
  iapply (seq (row 1 (of_decide_eq_true rfl))) $$ HI
  iintro HI
  iapply (seq (row 2 (of_decide_eq_true rfl))) $$ HI
  iintro HI
  iapply (seq (row 3 (of_decide_eq_true rfl))) $$ HI
  iintro HI
  iapply (seq (row 4 (of_decide_eq_true rfl))) $$ HI
  iintro HI
  iapply (seq (row 5 (of_decide_eq_true rfl))) $$ HI
  iintro HI
  iapply (seq (row 6 (of_decide_eq_true rfl))) $$ HI
  iintro HI
  iapply (seq (row 7 (of_decide_eq_true rfl))) $$ HI
  iintro HI
  have eL : rowInv arg2 arg3 arg4 arg6 arg13 harg3 harg4 harg6 c i t X3 X4 x.X6 (7 + 1) 0
    ⊢ iprop(ptT c arg2 t ∗ pt c arg3 (harg3.unread X3) ∗ pt c arg4 (harg4.unread X4) ∗ pt c arg6 (harg6.unread x.X6) ∗
    ∃ f, pt c arg13 f ∗ ⌜Good arg2 c i t X3 X4 x.X6 8 0 (arg13.view.read (Elt F) f)⌝) := by
    unfold rowInv
    iintro H
    iexact H
  ihave HI := eL $$ HI
  icases HI with ⟨H2, H3, H4, H6, %f13', H13, %hg⟩
  obtain ⟨G, hG⟩ : ∃ G, arg13.view.read (Elt F) f13' = G := ⟨_, rfl⟩
  obtain rfl := harg13.eq_unread hG
  rw [hG] at hg
  have ep := fun n hn => epi_wp arg6 arg7 arg8 arg9 arg10 arg11 arg12 arg13 harg6 harg7 harg8 harg9 harg13 c i x G n hn
  iapply (stats_wp c arg5 harg5 x.X5
    iprop(ptT c arg2 t ∗ pt c arg3 (harg3.unread X3) ∗ pt c arg4 (harg4.unread X4) ∗ epiInv arg6 arg7 arg8 arg9 arg10 arg11 arg12 arg13 harg6 harg7 harg8 harg9 harg13 c i x G 0 ∗
      (iprop(owns (c : Thread nD τ) arg3 fullShare X3 ∗ owns (c : Thread nD τ) arg4 fullShare X4 ∗ owns (c : Thread nD τ) arg5 fullShare x.X5 ∗
          owns (c : Thread nD τ) arg6 fullShare x.X6 ∗ owns (c : Thread nD τ) arg7 fullShare x.X7 ∗ owns (c : Thread nD τ) arg8 fullShare x.X8 ∗
          owns (c : Thread nD τ) arg9 fullShare x.X9 ∗ owns (c : Thread nD τ) arg10 fullShare (resD i X3 X4 x) ∗ owns (c : Thread nD τ) arg11 fullShare (resE i x) ∗
          owns (c : Thread nD τ) arg12 fullShare (resI i X3 X4 x) ∗ (∃ d, owns (c : Thread nD τ) arg13 fullShare d) ∗ ptT c arg2 t) -∗ K ⟨⟩))
    (fun dl vl nq sq => do
      epi i arg6 arg7 arg8 arg9 arg10 arg11 arg12 arg13 dl vl nq sq 0 (of_decide_eq_true rfl)
      epi i arg6 arg7 arg8 arg9 arg10 arg11 arg12 arg13 dl vl nq sq 1 (of_decide_eq_true rfl)
      epi i arg6 arg7 arg8 arg9 arg10 arg11 arg12 arg13 dl vl nq sq 2 (of_decide_eq_true rfl)
      epi i arg6 arg7 arg8 arg9 arg10 arg11 arg12 arg13 dl vl nq sq 3 (of_decide_eq_true rfl)
      epi i arg6 arg7 arg8 arg9 arg10 arg11 arg12 arg13 dl vl nq sq 4 (of_decide_eq_true rfl)
      epi i arg6 arg7 arg8 arg9 arg10 arg11 arg12 arg13 dl vl nq sq 5 (of_decide_eq_true rfl)
      epi i arg6 arg7 arg8 arg9 arg10 arg11 arg12 arg13 dl vl nq sq 6 (of_decide_eq_true rfl)
      epi i arg6 arg7 arg8 arg9 arg10 arg11 arg12 arg13 dl vl nq sq 7 (of_decide_eq_true rfl)) K ?_)
  rotate_left
  · isplitl [H5]; · iexact H5
    isplitl [H2]; · iexact H2
    isplitl [H3]; · iexact H3
    isplitl [H4]; · iexact H4
    isplitr [Hk]
    · unfold epiInv
      isplitl [H6]; · iexact H6
      isplitl [H7]; · iexact H7
      isplitl [H8]; · iexact H8
      isplitl [H9]; · iexact H9
      isplitl [H13]; · iexact H13
      isplitl [H10]
      · iexists f10; isplitl [H10]; · iexact H10
        ipureintro; intro k hk; omega
      isplitl [H11]
      · iexists f11; isplitl [H11]; · iexact H11
        ipureintro; intro k hk; omega
      · iexists f12; isplitl [H12]; · iexact H12
        ipureintro; intro k hk; omega
    · unfold owns; iexact Hk
  · iintro ⟨H5, H2, H3, H4, HE, Hk⟩
    iapply (seq (ep 0 (of_decide_eq_true rfl))) $$ HE
    iintro HE
    iapply (seq (ep 1 (of_decide_eq_true rfl))) $$ HE
    iintro HE
    iapply (seq (ep 2 (of_decide_eq_true rfl))) $$ HE
    iintro HE
    iapply (seq (ep 3 (of_decide_eq_true rfl))) $$ HE
    iintro HE
    iapply (seq (ep 4 (of_decide_eq_true rfl))) $$ HE
    iintro HE
    iapply (seq (ep 5 (of_decide_eq_true rfl))) $$ HE
    iintro HE
    iapply (seq (ep 6 (of_decide_eq_true rfl))) $$ HE
    iintro HE
    iapply (wp_wand_r frame (wpE (defs₀ (F := F)) Variants.none c none) Set.univ (Q := fun _ => epiInv arg6 arg7 arg8 arg9 arg10 arg11 arg12 arg13 harg6 harg7 harg8 harg9 harg13 c i x G (7 + 1)))
    isplitl [HE]
    · iapply (ep 7 (of_decide_eq_true rfl)); iexact HE
    iintro %u
    unfold epiInv
    iintro ⟨H6, H7, H8, H9, H13, ⟨%g10, H10, %e10⟩, ⟨%g11, H11, %e11⟩, ⟨%g12, H12, %e12⟩⟩
    iapply Hk
    unfold owns
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists g10; isplitr; swap; · iexact H10
      ipureintro
      rw [Fill.all e10]
      exact outArr_congr fun k hk => oD_congr fun y hv => pk_eq hg hlen ⟨k, hk⟩ y hv
    isplitl [H11]
    · iexists g11; isplitr; swap; · iexact H11
      ipureintro
      exact Fill.all e11
    isplitl [H12]
    · iexists g12; isplitr; swap; · iexact H12
      ipureintro
      rw [Fill.all e12]
      exact outArr_congr fun k hk => oI_congr fun y hv => pk_eq hg hlen ⟨k, hk⟩ y hv
    isplitl [H13]
    · iexists G, _; isplitr; · ipureintro; exact harg13.read_unread _
      iexact H13
    iexact H2

end Cert.Score

end
-- ==== Proof.Kit.lean ====
module

public import proofs.«01_k».proof.Proof.Gen.KernelIdeal.Launch
public import proofs.«01_k».proof.Proof.Body
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_score_candidates (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- An array no host operation before the region writes is found as launched. -/
theorem V_arg (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))
theorem V_main_arg0 (c : Dev nD) : V m c main_arg0 = m ((c : Thread nD τ).loc main_arg0) := V_arg m c main_arg0 (by decide) (by decide)
theorem V_main_arg1 (c : Dev nD) : V m c main_arg1 = m ((c : Thread nD τ).loc main_arg1) := V_arg m c main_arg1 (by decide) (by decide)
theorem V_main_arg2 (c : Dev nD) : V m c main_arg2 = m ((c : Thread nD τ).loc main_arg2) := V_arg m c main_arg2 (by decide) (by decide)
theorem V_main_arg3 (c : Dev nD) : V m c main_arg3 = m ((c : Thread nD τ).loc main_arg3) := V_arg m c main_arg3 (by decide) (by decide)
theorem V_main_arg4 (c : Dev nD) : V m c main_arg4 = m ((c : Thread nD τ).loc main_arg4) := V_arg m c main_arg4 (by decide) (by decide)
theorem V_main_arg5 (c : Dev nD) : V m c main_arg5 = m ((c : Thread nD τ).loc main_arg5) := V_arg m c main_arg5 (by decide) (by decide)
theorem V_main_arg6 (c : Dev nD) : V m c main_arg6 = m ((c : Thread nD τ).loc main_arg6) := V_arg m c main_arg6 (by decide) (by decide)

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S24 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c))⟩) h

/-- Each window's current staging memref at point `t`, spelled as the pipeline passes it (`bodyAt0`), and its wholeness. -/
abbrev ms0_0 (hO : Ok m) (t : Fin (cfgM m hO).N) : Memref sig .tc .vmem S8x8x64x128 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S2x256x128 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S4x8x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S8x1024 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S8x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S8x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S8x128 .i32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S8x1024 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S8x1024 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S8x1024 .f32 := spec0_9.stage ((cfgM m hO).slots t 9)
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S8x1024 .i32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Score

end
-- ==== Proof.Run.lean ====
module

public import proofs.«01_k».proof.Proof.Gen.KernelIdeal.Launch
public import proofs.«01_k».proof.Proof.Kit
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The arrays a grid point works on, but for the codes and the planes. -/
def insAt (hO : Ok m) (c : Dev nD) (t : Fin (cfgM m hO).N) : Ins F where
  X5 := iblk m hO c 2 t
  X6 := iblk m hO c 3 t
  X7 := iblk m hO c 4 t
  X8 := iblk m hO c 5 t
  X9 := iblk m hO c 6 t

/-- The host's copy of the lengths on every lane, as the region finds it. -/
theorem V_main_v1 (c : Dev nD) : V m c main_v1 = broadcastInDim S24x128 ![0, 1] bcast_S24x1_S24x128_0_1
    (broadcastInDim S24x1 ![0] bcast_S24_S24x1_0 (m ((c : Thread nD τ).loc main_arg0))) := rfl

theorem word0 (i : grid0.Coords) : (BitVec.ofNat 32 (i 0).val).toNat = (i 0).val := by
  have : (i 0).val < 3 := (i 0).isLt
  rw [BitVec.toNat_ofNat]; omega
theorem word1 (i : grid0.Coords) : (BitVec.ofNat 32 (i 1).val).toNat = (i 1).val := by
  have : (i 1).val < 6 := (i 1).isLt
  rw [BitVec.toNat_ofNat]; omega

/-- On every lane of a row the length the row's tables hold. -/
theorem len_row (hO : Ok m) (c : Dev nD) (t : Fin (cfgM m hO).N) (y : S8x128.Idx) :
    (insAt m hO c t).X9 y = lenW tbM0_0 c (qcol (grid0.coords t) (y 0).val) (qlen (grid0.coords t) (y 0).val (y 0).isLt) (tbl m 0) := by
  obtain rfl : c = 0 := Subsingleton.elim _ _
  show m ((Dev.tc (0 : Dev nD) : Thread nD τ).loc main_arg0) _ = m ((Dev.tc (0 : Dev nD) : Thread nD τ).loc main_arg0) _
  congr 1
  funext a
  apply Fin.ext
  have hq : qcol (grid0.coords t) (y 0).val = 8 * ((grid0.coords t) 0).val + (y 0).val := qw_nat (grid0.coords t) ⟨(y 0).val, (y 0).isLt⟩
  obtain rfl : a = 0 := Subsingleton.elim _ _
  have e1 : (((tbM0_0.view.emb ((Rect.unit (s := S24) ![qcol (grid0.coords t) (y 0).val] S1.size (qlen (grid0.coords t) (y 0).val (y 0).isLt)).idx
      (Shape.Idx.first (numel1_S1.symm ▸ Nat.one_pos)))) 0 : Fin 24) : ℕ) = qcol (grid0.coords t) (y 0).val + 1 * 0 := rfl
  have e2 : ((((cfgM m hO).win 6).blk t).view.emb y (show Fin 2 from 0)).val = (BitVec.ofNat 32 ((grid0.coords t) 0).val).toNat * 8 + 1 * (y 0).val := rfl
  rw [word0] at e2
  refine Eq.trans ?_ ((show _ = _ from e2.trans (show _ = qcol (grid0.coords t) (y 0).val + 1 * 0 by omega)).trans e1.symm)
  rw [dif_neg (by decide)]
  show (Fin.val (dite _ _ _)) = _
  rw [dif_neg (by decide)]
  rfl

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => resD (grid0.coords t) (iblk m hO c 0 t) (iblk m hO c 1 t) (insAt m hO c t)
    | ⟨8, h⟩ => resE (grid0.coords t) (insAt m hO c t)
    | ⟨9, h⟩ => resI (grid0.coords t) (iblk m hO c 0 t) (iblk m hO c 1 t) (insAt m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = resD (grid0.coords t) (iblk m hO c 0 t) (iblk m hO c 1 t) (insAt m hO c t) := by dsimp only [dats]; try rfl
theorem after0_8 (hO : Ok m) (c : Dev nD) (t : Fin (cfgM m hO).N) : (dats m hO 0 c).after 8 t = resE (grid0.coords t) (insAt m hO c t) := by dsimp only [dats]; try rfl
theorem after0_9 (hO : Ok m) (c : Dev nD) (t : Fin (cfgM m hO).N) : (dats m hO 0 c).after 9 t = resI (grid0.coords t) (iblk m hO c 0 t) (iblk m hO c 1 t) (insAt m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9]
  rw [show (dats m hO 0 c).Φ t.castSucc = iprop(Pipeline.ΦA spec0 c ∗ Pipeline.ΦT pre0 (tbl m) c) from rfl, PhiT0_eq, PhiA0_eq]
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_wp c (grid0.coords t) _ _ _ _ _ _ _ _ _ _ _ _ _ _ _ _ _ _ _ _ _ _ _ _ (iblk m hO c 0 t) (iblk m hO c 1 t) (insAt m hO c t) (tbl m 0) (len_row m hO c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HT0]; · iexact HT0
  iintro ⟨H0, H1, H2, H3, H4, H5, H6, H7, H8, H9, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- THE RUN: at every final state each array of the pipeline is what the grid points left in it, and every other array as the region found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- An array the grid only reads ends as the region found it. -/
theorem in_unchanged (hO : Ok m) {r : PUnit × MemSt nD τ sig (Elt F)} (h : Pipeline.FramePost (Pipeline.pin pcfgs fun _ => adm m hO) (dats m hO) 0 (V m) r)
    (c : Dev nD) (w : Fin 10) (hin : ((cfgM m hO).win w).isOut = false) {v : Buf (Elt F) ((spec0 w).arr.view.loc (c : Thread nD τ))} (hv : V m c (Pipeline.arrRef spec0 w) = v) :
    r.2.mem ((spec0 w).arr.view.loc (c : Thread nD τ)) = v :=
  ((h c).1 w).trans (((dats m hO 0 c).arrAt_in w hin _).trans ((A_eq m hO c w).trans hv))

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      in_unchanged m hO h c 0 rfl (V_main_arg1 m c), in_unchanged m hO h c 1 rfl (V_main_arg2 m c), in_unchanged m hO h c 2 rfl (V_main_arg3 m c),
      in_unchanged m hO h c 3 rfl (V_main_arg4 m c), in_unchanged m hO h c 4 rfl (V_main_arg5 m c), in_unchanged m hO h c 5 rfl (V_main_arg6 m c)⟩) (run_main m ρ hO)

/-- THE FRAME: the run ends with every argument array as it was and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Score

end
-- ==== Proof.Frames.lean ====
module

public import proofs.«01_k».proof.Defs
public import proofs.«01_k».proof.Proof.Gen.Kernel
public import proofs.«01_k».proof.Proof.Run

@[expose] public section

set_option maxRecDepth 100000
set_option maxHeartbeats 0

noncomputable section

namespace Cert.Score

open Idealize.ShloMosaic Idealize.SL.Sem

/-- The pipeline's side condition holds of every memory: no block's place reads a table. -/
theorem ok {F : FTy → Type} [FloatOps F] (m : (ℓ : Loc Cert.KernelIdeal.nD Cert.KernelIdeal.τ Cert.KernelIdeal.sig) → Buf (Elt F) ℓ) : Ok m := trivial

/-- The idealized scoring call runs, leaves its arguments and ends quiescent. -/
theorem quiescent_ideal : Cert.quiescent_KernelIdeal := fun m g _ => frame m g (ok m)

/-- The two texts' tables of bodies are the same table. -/
theorem defs₀_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  obtain ⟨l, hl⟩ := l
  obtain rfl : l = 0 := Nat.lt_one_iff.mp hl
  obtain ⟨t, s⟩ := a
  rfl

theorem defs_eq {F : FTy → Type} [FloatOps F] : Cert.Kernel.defs (F := F) = Cert.KernelIdeal.defs (F := F) :=
  congrArg (Pipeline.defs Cert.KernelIdeal.pcfgs) defs₀_eq

/-- The scoring call itself runs, leaves its arguments and ends quiescent: the same text over the machine's own floats. -/
theorem quiescent_bits : Cert.quiescent_Kernel := by
  intro m g _
  rw [defs_eq]
  exact frame (F := Bits) m g (ok m)

end Cert.Score

end
-- ==== Proof.RefVal.lean ====
module

public import proofs.«01_k».proof.Defs
public import proofs.«01_k».proof.Proof.Gen.ReferenceIdeal
public import proofs.«01_k».proof.Proof.Gen.ReferenceIdeal.Run
public import Idealize.ShloMosaic.Lib.Quiescent

@[expose] public section

set_option maxRecDepth 65536
set_option maxHeartbeats 0

noncomputable section

namespace Cert.Score.Ref

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-! ## The reference's values, in steps -/

/-- Each candidate's probe, a negative one counted from the end. -/
def wrapIx (a4 : IVec S24x6144 32) : IVec S24x6144x1 32 :=
  (select (cmpi .slt (broadcastInDim S24x6144x1 ![0, 1] bcast_S24x6144_S24x6144x1_0_1 a4) (broadcastInDim S24x6144x1 ![] bcast_S_S24x6144x1 (constantI S_ 32 0#32))) (addi (broadcastInDim S24x6144x1 ![0, 1] bcast_S24x6144_S24x6144x1_0_1 a4) (broadcastInDim S24x6144x1 ![] bcast_S_S24x6144x1 (constantI S_ 32 8#32))) (broadcastInDim S24x6144x1 ![0, 1] bcast_S24x6144_S24x6144x1_0_1 a4))

/-- The four statistics of each candidate's probe. -/
def taken (a3 : FVec F S4x24x128 .f32) (a4 : IVec S24x6144 32) : FVec F S24x6144x4 .f32 :=
  (select (broadcastInDim S24x6144x4 ![0, 1] bcast_S24x6144_S24x6144x4_0_1 (Host.reduce IntOp.andi (andi (cmpi .sge (wrapIx a4) (broadcastInDim S24x6144x1 ![] bcast_S_S24x6144x1 (constantI S_ 32 0#32))) (cmpi .sle (wrapIx a4) (broadcastInDim S24x6144x1 ![0, 1, 2] bcast_S1x1x1_S24x6144x1_0_1_2 (broadcastInDim S1x1x1 ![2] bcast_S1_S1x1x1_2 (constantI S1 32 7#32))))) (constantI S_ 1 1#1) reducesTo_S24x6144x1_S24x6144_d2 h_S_)) (Host.gather gather_S24x8x4_S24x6144x1_S24x6144x4_2_1_0_0_1_2_114 (transpose S24x8x4 [1, 2, 0] (extractStridedSlice S4x24x8 ![0, 0, 0] a3 slices_S4x24x128_S4x24x8_0_0_0) transposes_S4x24x8_S24x8x4_1_2_0) (wrapIx a4)) (broadcastInDim S24x6144x4 ![] bcast_S_S24x6144x4 (constant S_ .f32 0x7FC00000#32)))

/-- The step of each candidate's probe. -/
def st0 (a3 : FVec F S4x24x128 .f32) (a4 : IVec S24x6144 32) : FVec F S24x6144 .f32 :=
  (shapeCast _ (extractStridedSlice S24x6144x1 ![0, 0, 0] (taken a3 a4) slices_S24x6144x4_S24x6144x1_0_0_0) shapeCasts_S24x6144x1_S24x6144)

/-- The lower limit of each candidate's probe. -/
def st1 (a3 : FVec F S4x24x128 .f32) (a4 : IVec S24x6144 32) : FVec F S24x6144 .f32 :=
  (shapeCast _ (extractStridedSlice S24x6144x1 ![0, 0, 1] (taken a3 a4) slices_S24x6144x4_S24x6144x1_0_0_1) shapeCasts_S24x6144x1_S24x6144)

/-- The norm of each candidate's probe. -/
def st2 (a3 : FVec F S4x24x128 .f32) (a4 : IVec S24x6144 32) : FVec F S24x6144 .f32 :=
  (shapeCast _ (extractStridedSlice S24x6144x1 ![0, 0, 2] (taken a3 a4) slices_S24x6144x4_S24x6144x1_0_0_2) shapeCasts_S24x6144x1_S24x6144)

/-- The sum of codes of each candidate's probe. -/
def st3 (a3 : FVec F S4x24x128 .f32) (a4 : IVec S24x6144 32) : FVec F S24x6144 .f32 :=
  (shapeCast _ (extractStridedSlice S24x6144x1 ![0, 0, 3] (taken a3 a4) slices_S24x6144x4_S24x6144x1_0_0_3) shapeCasts_S24x6144x1_S24x6144)

/-- The weighted ones every candidate shares with every probe's planes. -/
def ipAll (a1 : IVec S24x48x64x128 32) (a2 : IVec S2x256x128 32) : IVec S24x6144x8 32 :=
  (Host.reduce IntOp.addi (muli (id (ctpop (andi (broadcastInDim S24x6144x8x4x64 ![0, 1, 2, 3, 4] bcast_S24x6144x1x1x64_S24x6144x8x4x64_0_1_2_3_4 (broadcastInDim S24x6144x1x1x64 ![0, 1, 4] bcast_S24x6144x64_S24x6144x1x1x64_0_1_4 (shapeCast _ (transpose S24x48x128x64 [0, 1, 3, 2] a1 transposes_S24x48x64x128_S24x48x128x64_0_1_3_2) shapeCasts_S24x48x128x64_S24x6144x64))) (broadcastInDim S24x6144x8x4x64 ![0, 1, 2, 3, 4] bcast_S24x1x8x4x64_S24x6144x8x4x64_0_1_2_3_4 (broadcastInDim S24x1x8x4x64 ![0, 2, 3, 4] bcast_S24x8x4x64_S24x1x8x4x64_0_2_3_4 (id (shapeCast _ (extractStridedSlice S192x4x64 ![0, 0, 0] (shapeCast _ (transpose S2x128x4x64 [0, 3, 1, 2] (shapeCast _ a2 shapeCasts_S2x256x128_S2x4x64x128) transposes_S2x4x64x128_S2x128x4x64_0_3_1_2) shapeCasts_S2x128x4x64_S256x4x64) slices_S256x4x64_S192x4x64_0_0_0) shapeCasts_S192x4x64_S24x8x4x64))))))) (broadcastInDim S24x6144x8x4x64 ![0, 1, 2, 3, 4] bcast_S1x1x1x4x1_S24x6144x8x4x64_0_1_2_3_4 (broadcastInDim S1x1x1x4x1 ![3, 4] bcast_S4x1_S1x1x1x4x1_3_4 (broadcastInDim S4x1 ![0] bcast_S4_S4x1_0 (Host.shli (broadcastInDim S4 ![] bcast_S_S4 (constantI S_ 32 1#32)) (iotaInDim S4 32 0)))))) (constantI S_ 32 0#32) reducesTo_S24x6144x8x4x64_S24x6144x8_d3_4 h_S_)

/-- The weighted ones every candidate shares with its own probe's planes. -/
def ipTaken (a1 : IVec S24x48x64x128 32) (a2 : IVec S2x256x128 32) (a4 : IVec S24x6144 32) : IVec S24x6144 32 :=
  (shapeCast _ (select (Host.reduce IntOp.andi (andi (cmpi .sge (shapeCast _ (wrapIx a4) shapeCasts_S24x6144x1_S24x6144x1x1) (broadcastInDim S24x6144x1x1 ![] bcast_S_S24x6144x1x1 (constantI S_ 32 0#32))) (cmpi .sle (shapeCast _ (wrapIx a4) shapeCasts_S24x6144x1_S24x6144x1x1) (broadcastInDim S24x6144x1x1 ![0, 1, 2, 3] bcast_S1x1x1x1_S24x6144x1x1_0_1_2_3 (broadcastInDim S1x1x1x1 ![3] bcast_S1_S1x1x1x1_3 (constantI S1 32 7#32))))) (constantI S_ 1 1#1) reducesTo_S24x6144x1x1_S24x6144x1_d3 h_S_) (Host.gather gather_S24x6144x8_S24x6144x1x1_S24x6144x1_n_2_01_01_2_3_111 (ipAll a1 a2) (shapeCast _ (wrapIx a4) shapeCasts_S24x6144x1_S24x6144x1x1)) (broadcastInDim S24x6144x1 ![] bcast_S_S24x6144x1 (constantI S_ 32 2147483648#32))) shapeCasts_S24x6144x1_S24x6144)

/-- The ones of every candidate's code. -/
def popX (a1 : IVec S24x48x64x128 32) : IVec S24x6144 32 :=
  (Host.reduce IntOp.addi (id (ctpop (shapeCast _ (transpose S24x48x128x64 [0, 1, 3, 2] a1 transposes_S24x48x64x128_S24x48x128x64_0_1_3_2) shapeCasts_S24x48x128x64_S24x6144x64))) (constantI S_ 32 0#32) reducesTo_S24x6144x64_S24x6144_d2 h_S_)

/-- The candidates that lie in their lists. -/
def valid (a0 : IVec S24 32) : IVec S24x6144 1 :=
  (cmpi .slt (broadcastInDim S24x6144 ![0, 1] bcast_S1x6144_S24x6144_0_1 (broadcastInDim S1x6144 ![1] bcast_S6144_S1x6144_1 (iotaInDim S6144 32 0))) (broadcastInDim S24x6144 ![0, 1] bcast_S24x1_S24x6144_0_1 (broadcastInDim S24x1 ![0] bcast_S24_S24x1_0 a0)))

/-- The estimated inner products. -/
def ipEst (a1 : IVec S24x48x64x128 32) (a2 : IVec S2x256x128 32) (a3 : FVec F S4x24x128 .f32) (a4 : IVec S24x6144 32) (a6 : FVec F S24x6144 .f32) : FVec F S24x6144 .f32 :=
  (Host.divf (subf (Host.divf (subf (addf (mulf (mulf (broadcastInDim S24x6144 ![] bcast_S_S24x6144 (constant S_ .f32 0x40000000#32)) (st0 a3 a4)) (sitofp .f32 (ipTaken a1 a2 a4))) (mulf (mulf (broadcastInDim S24x6144 ![] bcast_S_S24x6144 (constant S_ .f32 0x40000000#32)) (st1 a3 a4)) (sitofp .f32 (popX a1)))) (mulf (st0 a3 a4) (st3 a3 a4))) (broadcastInDim S24x6144 ![] bcast_S_S24x6144 (constant S_ .f32 0x423504F3#32))) (mulf (broadcastInDim S24x6144 ![] bcast_S_S24x6144 (constant S_ .f32 0x423504F3#32)) (st1 a3 a4))) (mulf (select (cmpf .ogt (st2 a3 a4) (broadcastInDim S24x6144 ![] bcast_S_S24x6144 (constant S_ .f32 0x00000000#32))) (st2 a3 a4) (broadcastInDim S24x6144 ![] bcast_S_S24x6144 (id (constant S_ .f32 0x3F800000#32)))) a6))

/-- The reference's distances. -/
def outD (a0 : IVec S24 32) (a1 : IVec S24x48x64x128 32) (a2 : IVec S2x256x128 32) (a3 : FVec F S4x24x128 .f32) (a4 : IVec S24x6144 32) (a5 : FVec F S24x6144 .f32) (a6 : FVec F S24x6144 .f32) : FVec F S24x6144 .f32 :=
  select (valid a0) (subf (addf (mulf a5 a5) (mulf (st2 a3 a4) (st2 a3 a4))) (mulf (mulf (mulf (broadcastInDim S24x6144 ![] bcast_S_S24x6144 (constant S_ .f32 0x40000000#32)) a5) (st2 a3 a4)) (ipEst a1 a2 a3 a4 a6))) (broadcastInDim S24x6144 ![] bcast_S_S24x6144 (id (constant S_ .f32 0x00000000#32)))

/-- The reference's error bounds. -/
def outE (a0 : IVec S24 32) (a3 : FVec F S4x24x128 .f32) (a4 : IVec S24x6144 32) (a5 : FVec F S24x6144 .f32) (a6 : FVec F S24x6144 .f32) : FVec F S24x6144 .f32 :=
  select (valid a0) (mulf (Host.divf (mulf (mulf (mulf (broadcastInDim S24x6144 ![] bcast_S_S24x6144 (constant S_ .f32 0x40000000#32)) a5) (st2 a3 a4)) (Host.sqrt (subf (broadcastInDim S24x6144 ![] bcast_S_S24x6144 (constant S_ .f32 0x3F800000#32)) (mulf a6 a6)))) a6) (broadcastInDim S24x6144 ![] bcast_S_S24x6144 (constant S_ .f32 0x3D2C02A8#32))) (broadcastInDim S24x6144 ![] bcast_S_S24x6144 (id (constant S_ .f32 0x00000000#32)))

/-- The reference's inner products. -/
def outI (a0 : IVec S24 32) (a1 : IVec S24x48x64x128 32) (a2 : IVec S2x256x128 32) (a3 : FVec F S4x24x128 .f32) (a4 : IVec S24x6144 32) (a6 : FVec F S24x6144 .f32) : FVec F S24x6144 .f32 :=
  select (valid a0) (ipEst a1 a2 a3 a4 a6) (broadcastInDim S24x6144 ![] bcast_S_S24x6144 (id (constant S_ .f32 0x00000000#32)))

/-- The printed distances are these. -/
theorem res87_eq (m : (ℓ : Loc nD τ sig) → Buf (Elt F) ℓ) (c : Dev nD) : res_main_v87 m c = outD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold res_main_v87 outD ipEst ipTaken ipAll popX valid st0 st1 st2 st3 taken wrapIx; rfl

/-- The printed inner products are these. -/
theorem res89_eq (m : (ℓ : Loc nD τ sig) → Buf (Elt F) ℓ) (c : Dev nD) : res_main_v89 m c = outI (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) := by
  unfold res_main_v89 outI ipEst ipTaken ipAll popX valid st0 st1 st2 st3 taken wrapIx; rfl

/-- The reference's run, its three results named. -/
theorem run_named (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = outD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v88) = outE (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v89) = outI (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (res87_eq m c), (h c).2.1.trans (by unfold outE valid st2 taken wrapIx; rfl),
    (h c).2.2.1.trans (res89_eq m c), (h c).2.2.2⟩) (run m ρ)

/-- The reference runs, leaves its arguments and ends quiescent. -/
theorem quiescent_ref : Cert.quiescent_ReferenceIdeal := fun m ρ _ =>
  (θ_run defs _ _).mono (fun r h => ⟨fun c => (h c).2.2.2, sem_eq_zero_of_no_sems (by decide) r.2⟩) (run (F := Ideal) m ρ)

end Cert.Score.Ref

end
-- ==== Proof.Spec.lean ====
module

public import Idealize.ShloMosaic.Lib.Pointwise
public import Mathlib.Data.BitVec

@[expose] public section

set_option maxRecDepth 65536

noncomputable section

namespace Cert.Score.Spec

open Idealize.ShloMosaic

/-! ## One candidate's scores, in numbers -/

/-- The codes' index of word `w` of candidate `s` of query `b`. -/
abbrev cix (b : Fin 24) (s : Fin 6144) (w : Fin 64) : (⟨4, ![24, 48, 64, 128]⟩ : Shape).Idx :=
  ix4 b ⟨s.val / 128, by omega⟩ w ⟨s.val % 128, by omega⟩

/-- The planes' index of word `w` of bit `q` of probe `p` of query `b`. -/
abbrev pix (b : Fin 24) (p : Fin 8) (q : Fin 4) (w : Fin 64) : (⟨3, ![2, 256, 128]⟩ : Shape).Idx :=
  ix3 ⟨(b.val * 8 + p.val) / 128, by omega⟩ ⟨q.val * 64 + w.val, by omega⟩ ⟨(b.val * 8 + p.val) % 128, by omega⟩

/-- The weighted ones a code shares with four bit planes: the binary dot product. -/
def ipW (c : Fin 64 → BitVec 32) (p : Fin 4 → Fin 64 → BitVec 32) : BitVec 32 :=
  ∑ q, ∑ w, IntOp.ctpop (c w &&& p q w) * BitVec.ofNat 32 (2 ^ q.val)

/-- The ones of a code. -/
def popW (c : Fin 64 → BitVec 32) : BitVec 32 := ∑ w, IntOp.ctpop (c w)

/-- A 32-bit float literal, ideally. -/
abbrev lit (b : BitVec 32) : EReal := Ideal.ofBits .f32 b

/-- The estimated inner product: from the quantiser's step `dl`, lower limit `vl`, norm `nq` and sum of codes `sq`, the
    binary dot product `ip`, the code's ones `px` and the candidate's `io`. -/
def ipS (dl vl nq sq : EReal) (ip px : BitVec 32) (io : EReal) : EReal :=
  Ideal.div (Ideal.div (lit 0x40000000#32 * dl * FloatOps.sitofp (F := Ideal) FTy.f32 ip
      + lit 0x40000000#32 * vl * FloatOps.sitofp (F := Ideal) FTy.f32 px - dl * sq) (lit 0x423504F3#32) - lit 0x423504F3#32 * vl)
    ((if 0 < nq then nq else 1) * io)

/-- The estimated distance: from the query's norm, the candidate's norm and the estimated inner product. -/
def distS (nq nr ip : EReal) : EReal := nr * nr + nq * nq - lit 0x40000000#32 * nr * nq * ip

/-- The error bound. -/
def errS (nq nr io : EReal) : EReal :=
  Ideal.div (lit 0x40000000#32 * nr * nq * Ideal.sqrt (1 - io * io)) io * lit 0x3D2C02A8#32

/-- Whether position `s` lies in a list of `n` candidates. -/
def inList (s : Fin 6144) (n : BitVec 32) : BitVec 1 := IntOp.cmpi .slt (BitVec.ofNat 32 s.val) n

section
variable (a0 : IVec ⟨1, ![24]⟩ 32) (a1 : IVec ⟨4, ![24, 48, 64, 128]⟩ 32) (a2 : IVec ⟨3, ![2, 256, 128]⟩ 32)
  (a3 : FVec Ideal ⟨3, ![4, 24, 128]⟩ .f32) (a5 a6 : FVec Ideal ⟨2, ![24, 6144]⟩ .f32) (b : Fin 24) (s : Fin 6144) (p : Fin 8)

/-- Candidate `s` of query `b`'s estimated inner product at probe `p`, before the list's end is looked at. -/
def ipA : EReal := ipS (a3 (ix3 0 b ⟨p.val, by omega⟩)) (a3 (ix3 1 b ⟨p.val, by omega⟩)) (a3 (ix3 2 b ⟨p.val, by omega⟩))
  (a3 (ix3 3 b ⟨p.val, by omega⟩)) (ipW (fun w => a1 (cix b s w)) (fun q w => a2 (pix b p q w))) (popW fun w => a1 (cix b s w)) (a6 (ix2 b s))
/-- Its inner product, zero past the list's end. -/
def valI : EReal := Scalar.select (inList s (a0 (ix1 b))) (ipA a1 a2 a3 a6 b s p) 0
/-- Its distance, zero past the list's end. -/
def valD : EReal := Scalar.select (inList s (a0 (ix1 b)))
  (distS (a3 (ix3 2 b ⟨p.val, by omega⟩)) (a5 (ix2 b s)) (ipA a1 a2 a3 a6 b s p)) 0
/-- Its error bound, zero past the list's end. -/
def valE : EReal := Scalar.select (inList s (a0 (ix1 b))) (errS (a3 (ix3 2 b ⟨p.val, by omega⟩)) (a5 (ix2 b s)) (a6 (ix2 b s))) 0
end

end Cert.Score.Spec

end
-- ==== Proof.PackVal.lean ====
module

public import proofs.«01_k».proof.Proof.Body
public import proofs.«01_k».proof.Proof.Spec
public import Idealize.ShloMosaic.Lib.Pointwise
public import Mathlib.Tactic.IntervalCases

@[expose] public section

set_option maxRecDepth 65536
set_option maxHeartbeats 100000

noncomputable section

namespace Cert.Score

open Cert.KernelIdeal Cert.KernelIdeal.Gen
open Idealize.ShloMosaic Idealize.ShloMosaic.TcCoe Cert.Score.Spec

/-! ## The packed counts of a candidate -/

/-- A sum of words by `vector.multi_reduction` is their sum. -/
theorem fold_addi {ι : Type*} (S : Finset ι) (c : BitVec 32) (x : ι → BitVec 32) : S.fold IntOp.addi c x = c + ∑ i ∈ S, x i := by
  induction S using Finset.cons_induction with
  | empty => simp
  | cons a S ha ih => rw [Finset.fold_cons, Finset.sum_cons, ih]; show x a + (c + _) = _; rw [add_left_comm]

/-- The ones of the first code tiles at an element. -/
theorem onesUpTo_at (c : ℕ → IVec S1x1x8x128 32) (u : Fin 8) (l : Fin 128) (n : ℕ) :
    onesUpTo c n (ix2 u l) = ∑ j ∈ Finset.range n, IntOp.ctpop (c j (ix4 0 0 u l)) := by
  induction n with
  | zero => rfl
  | succ n ih =>
    rw [Finset.sum_range_succ, ← ih]
    pointwise [onesUpTo]
    rfl

/-- A tile taken at lanes in range. -/
theorem takeLanes_at (t ln : IVec S8x128 32) (u : Fin 8) (l : Fin 128) (h : (ln (ix2 u l)).toNat < 128) :
    takeLanes t ln (ix2 u l) = t (ix2 u ⟨(ln (ix2 u l)).toNat, h⟩) := by
  have h0 : IntOp.cmpi .slt (ln (ix2 u l)) 0#32 = 0#1 := by
    show BitVec.ofBool (BitVec.slt _ _) = _
    rw [BitVec.slt_eq_decide, BitVec.toInt_eq_toNat_of_lt (by omega)]
    exact congrArg BitVec.ofBool (decide_eq_false (by simp))
  pointwise [takeLanes]
  refine congrArg t (congrArg (ix2 u) (Fin.ext ?_))
  show (Scalar.select (IntOp.cmpi .slt (ln (ix2 u l)) 0#32) (IntOp.addi (ln (ix2 u l)) 128#32) (ln (ix2 u l))).toNat % 128 = (ln (ix2 u l)).toNat
  rw [h0]
  exact Nat.mod_eq_of_lt h

/-- The ones the first tiles share at an element. -/
theorem sharedUpTo_at (ln : IVec S8x128 32) (c : ℕ → IVec S1x1x8x128 32) (b : ℕ → IVec S1x8x128 32) (u : Fin 8) (l : Fin 128)
    (h : (ln (ix2 u l)).toNat < 128) (n : ℕ) :
    sharedUpTo ln c b n (ix2 u l) = ∑ j ∈ Finset.range n, IntOp.ctpop (c j (ix4 0 0 u l) &&& b j (ix3 0 u ⟨(ln (ix2 u l)).toNat, h⟩)) := by
  induction n with
  | zero => rfl
  | succ n ih =>
    rw [Finset.sum_range_succ, ← ih]
    pointwise [sharedUpTo]
    rw [takeLanes_at _ _ u l h]
    pointwise
    rfl

theorem lane_at (v4 : BitVec 32) (p : IVec S1x128 32) (u : Fin 8) (l : Fin 128) : lane v4 p (ix2 u l) = p (ix2 0 l) + v4 := by
  pointwise [lane]
  rfl

/-- A shift to the left by a number of bits is the product with its power of two. -/
theorem shli_mul (x : BitVec 32) (k : Fin 32) : IntOp.shli .vector x (BitVec.ofNat 32 k.val) = x * BitVec.ofNat 32 (2 ^ k.val) := by
  have hk : (BitVec.ofNat 32 k.val).toNat = k.val := by simp; omega
  unfold IntOp.shli
  rw [if_pos (by omega), BitVec.shiftLeft_eq', hk, BitVec.shiftLeft_eq_mul_twoPow]
  refine congrArg (x * ·) (BitVec.eq_of_toNat_eq ?_)
  rw [BitVec.toNat_twoPow, BitVec.toNat_ofNat]

/-- Sixty-four words lie as eight tiles of eight rows. -/
theorem sum_tiles (g : ℕ → BitVec 32) : ∑ u : Fin 8, ∑ j ∈ Finset.range 8, g (8 * j + u.val) = ∑ w : Fin 64, g w.val := by
  simp only [Finset.sum_range]
  rw [Finset.sum_comm, ← Fintype.sum_prod_type' (f := fun j u : Fin 8 => g (8 * j.val + u.val))]
  exact Fintype.sum_equiv (finProdFinEquiv (m := 8) (n := 8)) _ (fun w : Fin (8 * 8) => g w.val) fun x =>
    congrArg g (Nat.add_comm _ _)

theorem shl1 (x : BitVec 32) : IntOp.shli .vector x 1#32 = x * 2#32 := shli_mul x 1
theorem shl2 (x : BitVec 32) : IntOp.shli .vector x 2#32 = x * 4#32 := shli_mul x 2
theorem shl3 (x : BitVec 32) : IntOp.shli .vector x 3#32 = x * 8#32 := shli_mul x 3
theorem shl16 (x : BitVec 32) : IntOp.shli .vector x 16#32 = x * 65536#32 := shli_mul x 16

/-- The binary dot product plane by plane. -/
theorem ipW_eq (c : Fin 64 → BitVec 32) (p : Fin 4 → Fin 64 → BitVec 32) :
    ipW c p = (∑ w, IntOp.ctpop (c w &&& p 0 w)) + (∑ w, IntOp.ctpop (c w &&& p 1 w)) * 2#32 + (∑ w, IntOp.ctpop (c w &&& p 2 w)) * 4#32
      + (∑ w, IntOp.ctpop (c w &&& p 3 w)) * 8#32 := by
  unfold ipW
  rw [Fin.sum_univ_four]
  simp only [← Finset.sum_mul]
  refine congrArg₂ (· + ·) (congrArg₂ (· + ·) (congrArg₂ (· + ·) (BitVec.mul_one _) rfl) rfl) rfl

/-- The packed counts of a lane: the shared ones of the four planes, weighted, and the code's ones above them. -/
theorem packRow_at (v4 : BitVec 32) (p : IVec S1x128 32) (c : ℕ → IVec S1x1x8x128 32) (b : ℕ → ℕ → IVec S1x8x128 32) (l : Fin 128)
    (cw : ℕ → BitVec 32) (bw : ℕ → ℕ → BitVec 32) (h : (p (ix2 0 l) + v4).toNat < 128)
    (hc : ∀ j (u : Fin 8), c j (ix4 0 0 u l) = cw (8 * j + u.val))
    (hb : ∀ q j (u : Fin 8), b q j (ix3 0 u ⟨(p (ix2 0 l) + v4).toNat, h⟩) = bw q (8 * j + u.val)) :
    packRow v4 p c b (ix2 0 l) = ipW (fun w => cw w.val) (fun q w => bw q.val w.val) + popW (fun w => cw w.val) * 65536#32 := by
  have hs : ∀ q (u : Fin 8), sharedUpTo (lane v4 p) c (b q) 8 (ix2 u l) = ∑ j ∈ Finset.range 8, IntOp.ctpop (cw (8 * j + u.val) &&& bw q (8 * j + u.val)) := by
    intro q u
    rw [sharedUpTo_at _ _ _ u l (by rw [lane_at]; exact h)]
    refine Finset.sum_congr rfl fun j _ => ?_
    simp only [lane_at, hc, hb]
  have ho : ∀ u : Fin 8, onesUpTo c 8 (ix2 u l) = ∑ j ∈ Finset.range 8, IntOp.ctpop (cw (8 * j + u.val)) := by
    intro u
    rw [onesUpTo_at]
    simp only [hc]
  pointwise [packRow, fold_addi]
  rw [BitVec.zero_add, ipW_eq, popW]
  simp only [hs, ho, shl1, shl2, shl3, shl16]
  show ∑ x : Fin 8, ((((_ + _) + _) + _) + _ : BitVec 32) = _
  simp only [Finset.sum_add_distrib, ← Finset.sum_mul]
  rw [sum_tiles fun w => IntOp.ctpop (cw w), sum_tiles fun w => IntOp.ctpop (cw w &&& bw 0 w), sum_tiles fun w => IntOp.ctpop (cw w &&& bw 1 w),
    sum_tiles fun w => IntOp.ctpop (cw w &&& bw 2 w), sum_tiles fun w => IntOp.ctpop (cw w &&& bw 3 w)]
  rfl

/-! ## The counts are small, so that the packed word falls apart again -/

/-- A sum of small words is small. -/
theorem sum_small {ι : Type*} (S : Finset ι) (x : ι → BitVec 32) (B : ℕ) (h : ∀ i ∈ S, ∃ n ≤ B, x i = BitVec.ofNat 32 n) :
    ∃ n ≤ S.card * B, ∑ i ∈ S, x i = BitVec.ofNat 32 n := by
  induction S using Finset.cons_induction with
  | empty => exact ⟨0, by simp, rfl⟩
  | cons a S ha ih =>
    obtain ⟨n, hn, en⟩ := ih fun i hi => h i (Finset.mem_cons_of_mem hi)
    obtain ⟨k, hk, ek⟩ := h a (Finset.mem_cons_self a S)
    refine ⟨k + n, ?_, ?_⟩
    · rw [Finset.card_cons, Nat.add_mul, Nat.one_mul]; omega
    · rw [Finset.sum_cons, en, ek, BitVec.ofNat_add]

/-- A word has at most 32 ones. -/
theorem ctpop_small (x : BitVec 32) : ∃ n ≤ 32, IntOp.ctpop x = BitVec.ofNat 32 n :=
  ⟨_, (List.length_filter_le _ _).trans (by simp), rfl⟩

theorem popW_small (c : Fin 64 → BitVec 32) : ∃ n ≤ 2048, popW c = BitVec.ofNat 32 n :=
  (sum_small Finset.univ _ 32 fun w _ => ctpop_small (c w)).imp fun n h => ⟨h.1.trans (by simp), h.2⟩

theorem ipW_small (c : Fin 64 → BitVec 32) (p : Fin 4 → Fin 64 → BitVec 32) : ∃ n ≤ 65535, ipW c p = BitVec.ofNat 32 n := by
  have h : ∀ q : Fin 4, ∃ n ≤ 2048, ∑ w, IntOp.ctpop (c w &&& p q w) = BitVec.ofNat 32 n := fun q =>
    (sum_small Finset.univ _ 32 fun w _ => ctpop_small _).imp fun n h => ⟨h.1.trans (by simp), h.2⟩
  obtain ⟨n0, h0, e0⟩ := h 0
  obtain ⟨n1, h1, e1⟩ := h 1
  obtain ⟨n2, h2, e2⟩ := h 2
  obtain ⟨n3, h3, e3⟩ := h 3
  refine ⟨n0 + n1 * 2 + n2 * 4 + n3 * 8, by omega, ?_⟩
  rw [ipW_eq, e0, e1, e2, e3]
  simp only [BitVec.ofNat_add, BitVec.ofNat_mul]

/-- The low half of a packed word. -/
theorem low_half (c : Fin 64 → BitVec 32) (p : Fin 4 → Fin 64 → BitVec 32) : IntOp.andi (ipW c p + popW c * 65536#32) 65535#32 = ipW c p := by
  obtain ⟨n, hn, en⟩ := ipW_small c p
  obtain ⟨k, hk, ek⟩ := popW_small c
  rw [en, ek]
  refine BitVec.eq_of_toNat_eq ?_
  show (_ &&& _ : BitVec 32).toNat = _
  rw [BitVec.toNat_and, BitVec.toNat_add, BitVec.toNat_mul]
  simp only [BitVec.toNat_ofNat]
  rw [show 65535 % 2 ^ 32 = 2 ^ 16 - 1 from rfl, Nat.and_two_pow_sub_one_eq_mod]
  omega

/-- The high half of a packed word. -/
theorem high_half (c : Fin 64 → BitVec 32) (p : Fin 4 → Fin 64 → BitVec 32) : IntOp.shrui .vector (ipW c p + popW c * 65536#32) 16#32 = popW c := by
  obtain ⟨n, hn, en⟩ := ipW_small c p
  obtain ⟨k, hk, ek⟩ := popW_small c
  rw [en, ek]
  unfold IntOp.shrui
  rw [if_pos (by decide), BitVec.ushiftRight_eq']
  refine BitVec.eq_of_toNat_eq ?_
  rw [BitVec.toNat_ushiftRight, BitVec.toNat_add, BitVec.toNat_mul]
  simp only [BitVec.toNat_ofNat, Nat.shiftRight_eq_div_pow]
  rw [show 2 ^ (16 % 2 ^ 32) = 65536 from rfl]
  omega

end Cert.Score

end
-- ==== Proof.BlockVal.lean ====
module

public import proofs.«01_k».proof.Proof.PackVal

@[expose] public section

set_option maxRecDepth 65536
set_option maxHeartbeats 400000

noncomputable section

namespace Cert.Score

open Cert.KernelIdeal Cert.KernelIdeal.Gen
open Idealize.ShloMosaic Idealize.ShloMosaic.TcCoe Cert.Score.Spec

/-! ## The results of a grid point, position by position -/

/-- The index with the coordinates of `y`. -/
theorem at_eq {s : Shape} (hs : ∀ a, 0 < s.size a) (v : Fin s.rank → ℕ) (y : s.Idx) (h : ∀ a, v a = (y a).val) : at' s hs v = y :=
  funext fun a => Fin.ext (by show v a % s.size a = _; rw [h a]; exact Nat.mod_eq_of_lt (y a).isLt)

/-- A tile read at an index. -/
theorem rd_eq {s : Shape} {α : Type} (hs : ∀ a, 0 < s.size a) (X : s.Idx → α) (off size : Fin s.rank → ℕ) (x : (⟨s.rank, size⟩ : Shape).Idx) (y : s.Idx)
    (h : ∀ a, off a + (x a).val = (y a).val) : rd hs X off size x = X y := congrArg X (at_eq hs _ y h)

theorem all2 {P : Fin 2 → Prop} (h0 : P 0) (h1 : P 1) : ∀ a, P a := Fin.forall_fin_two.mpr ⟨h0, h1⟩
theorem all3 {P : Fin 3 → Prop} (h0 : P 0) (h1 : P 1) (h2 : P 2) : ∀ a, P a := by
  intro a; have h : a = 0 ∨ a = 1 ∨ a = 2 := by revert a; decide
  rcases h with rfl | rfl | rfl <;> assumption
theorem all4 {P : Fin 4 → Prop} (h0 : P 0) (h1 : P 1) (h2 : P 2) (h3 : P 3) : ∀ a, P a := by
  intro a; have h : a = 0 ∨ a = 1 ∨ a = 2 ∨ a = 3 := by revert a; decide
  rcases h with rfl | rfl | rfl | rfl <;> assumption

section
variable {F : FTy → Type} [FloatOps F]

/-- The codes of a row's position `cl`. -/
abbrev bcode (X3 : Vec F S8x8x64x128 .i32) (r : Fin 8) (cl : Fin 1024) (w : Fin 64) : BitVec 32 :=
  X3 (ix4 r ⟨cl.val / 128, by omega⟩ w ⟨cl.val % 128, by omega⟩)

/-- The planes of query `b`'s probe `p`. -/
abbrev bplane (X4 : Vec F S2x256x128 .i32) (b : Fin 24) (p : Fin 8) (q : Fin 4) (w : Fin 64) : BitVec 32 := X4 (pix b p q w)

/-- The packed counts of a position whose probe is in range. -/
theorem packAll_at (i : grid0.Coords) (X3 : Vec F S8x8x64x128 .i32) (X4 : Vec F S2x256x128 .i32) (X6 : Vec F S8x1024 .i32) (r : Fin 8) (cl : Fin 1024)
    (b : Fin 24) (hb : b.val = 8 * (i 0).val + r.val) (p : Fin 8) (hp : (X6 (ix2 r cl)).toNat = p.val) :
    packAll i X3 X4 X6 (ix2 r cl) = ipW (bcode X3 r cl) (bplane X4 b p) + popW (bcode X3 r cl) * 65536#32 := by
  have hcl := Nat.div_add_mod cl.val 128
  have hb24 := b.isLt
  have h6 : rd pos6 X6 ![r.val, 128 * (cl.val / 128)] S1x128.size (ix2 0 ⟨cl.val % 128, by omega⟩) = X6 (ix2 r cl) :=
    rd_eq pos6 X6 _ _ _ _ (all2 rfl hcl)
  have hl : (X6 (ix2 r cl) + v4w i r.val).toNat = (b.val * 8 + p.val) % 128 := by
    rw [BitVec.toNat_add, hp, v4w_nat, ← hb]
    omega
  have hk : (rd pos6 X6 ![r.val, 128 * (cl.val / 128)] S1x128.size (ix2 0 ⟨cl.val % 128, by omega⟩) + v4w i r.val).toNat = (b.val * 8 + p.val) % 128 := by
    rw [h6, hl]
  have e : at' S1x128 pos1 ![0, cl.val % 128] = ix2 0 ⟨cl.val % 128, by omega⟩ := at_eq pos1 _ _ (all2 rfl rfl)
  refine (congrArg (packT (v4w i r.val) X3 X4 X6 r.val (cl.val / 128) (128 * (cl.val / 128)) ((8 * (i 0).val + r.val) / 16)) e).trans ?_
  refine (packRow_at _ _ _ _ _ (fun w => X3 (at' S8x8x64x128 pos3 ![r.val, cl.val / 128, w, cl.val % 128]))
    (fun q w => X4 (at' S2x256x128 pos4 ![(8 * (i 0).val + r.val) / 16, 64 * q + w, (b.val * 8 + p.val) % 128])) ?_ ?_ ?_).trans ?_
  · exact lt_of_eq_of_lt hk (by omega)
  · intro j u
    exact congrArg X3 (congrArg (at' S8x8x64x128 pos3) (funext (all4 rfl rfl rfl (Nat.zero_add _))))
  · intro q j u
    exact congrArg X4 (congrArg (at' S2x256x128 pos4) (funext (all3 rfl (Nat.add_assoc _ _ _) ((Nat.zero_add _).trans hk))))
  · have hc : (fun w : Fin 64 => X3 (at' S8x8x64x128 pos3 ![r.val, cl.val / 128, w.val, cl.val % 128])) = bcode X3 r cl :=
      funext fun w => congrArg X3 (at_eq pos3 _ _ (all4 rfl rfl rfl rfl))
    have hq : (fun (q : Fin 4) (w : Fin 64) => X4 (at' S2x256x128 pos4 ![(8 * (i 0).val + r.val) / 16, 64 * q.val + w.val, (b.val * 8 + p.val) % 128]))
        = bplane X4 b p := funext fun q => funext fun w => congrArg X4 (at_eq pos4 _ _ (all3
          (show (8 * (i 0).val + r.val) / 16 = (b.val * 8 + p.val) / 128 by omega)
          (show 64 * q.val + w.val = q.val * 64 + w.val by omega) rfl))
    exact congrArg₂ (fun c p => ipW c p + popW c * 65536#32) hc hq

end

/-! ## The three results -/

/-- A statistic taken at a probe in range. -/
theorem takeStat_at (t : FVec Ideal S8x128 .f32) (pr : IVec S8x128 32) (u : Fin 8) (l : Fin 128) (p : Fin 8) (h : (pr (ix2 u l)).toNat = p.val) :
    takeStat t pr (ix2 u l) = t (ix2 u ⟨p.val, by omega⟩) := by
  have h0 : IntOp.cmpi .slt (pr (ix2 u l)) 0#32 = 0#1 := by
    show BitVec.ofBool (BitVec.slt _ _) = _
    rw [BitVec.slt_eq_decide, BitVec.toInt_eq_toNat_of_lt (by omega)]
    exact congrArg BitVec.ofBool (decide_eq_false (by simp))
  pointwise [takeStat]
  refine congrArg t (congrArg (ix2 u) (Fin.ext ?_))
  show (Scalar.select (IntOp.cmpi .slt (pr (ix2 u l)) 0#32) (IntOp.addi (pr (ix2 u l)) 128#32) (pr (ix2 u l))).toNat % 128 = p.val
  rw [h0]
  show (pr (ix2 u l)).toNat % 128 = _
  omega

section
variable (x : Ins Ideal) (i : grid0.Coords) (r : Fin 8) (cl : Fin 1024) (b : Fin 24) (p : Fin 8)

/-- A position's lane in its block of 128. -/
abbrev lan (cl : Fin 1024) : Fin 128 := ⟨cl.val % 128, by omega⟩

theorem stat_at (k : Fin 4) (l : Fin 128) : x.stat k.val (ix2 r l) = x.X5 (ix3 k r l) := by
  unfold Ins.stat
  pointwise
  exact rd_eq pos5 _ _ _ _ _ (all3 (Nat.add_zero _) (Nat.zero_add _) (Nat.zero_add _))

theorem rd_blk {α : Type} (X : S8x1024.Idx → α) : rd pos6 X ![0, 128 * (cl.val / 128)] S8x128.size (ix2 r (lan cl)) = X (ix2 r cl) :=
  rd_eq pos6 _ _ _ _ _ (all2 (Nat.zero_add _) (Nat.div_add_mod _ _))

theorem pr_at : x.pr (cl.val / 128) (ix2 r (lan cl)) = x.X6 (ix2 r cl) := rd_blk r cl _
theorem nr_at : x.nr (cl.val / 128) (ix2 r (lan cl)) = x.X7 (ix2 r cl) := rd_blk r cl _
theorem io_at : x.io (cl.val / 128) (ix2 r (lan cl)) = x.X8 (ix2 r cl) := rd_blk r cl _

theorem statAt (h : (x.X6 (ix2 r cl)).toNat = p.val) (k : Fin 4) :
    takeStat (x.stat k.val) (x.pr (cl.val / 128)) (ix2 r (lan cl)) = x.X5 (ix3 k r ⟨p.val, by omega⟩) := by
  rw [takeStat_at _ _ r (lan cl) p (by rw [pr_at]; exact h), stat_at]

theorem epw_nat : ∀ (i : grid0.Coords) (k : Fin 8), (epw i k.val).toNat = 1024 * (i 1).val + 128 * k.val := by decide +kernel

/-- Whether a position lies in its list. -/
theorem valid_at (s : Fin 6144) (hs : s.val = 1024 * (i 1).val + cl.val) :
    validE i (cl.val / 128) x.ln (ix2 r (lan cl)) = inList s (x.X9 (ix2 r (lan cl))) := by
  pointwise [validE]
  have hl : x.ln (ix2 r (lan cl)) = x.X9 (ix2 r (lan cl)) := rd_eq pos9 _ _ _ _ _ (all2 (Nat.zero_add _) (Nat.zero_add _))
  have he : IntOp.addi (BitVec.ofNat 32 (cl.val % 128)) (epw i (cl.val / 128)) = BitVec.ofNat 32 s.val := by
    have h1 := epw_nat i ⟨cl.val / 128, by omega⟩
    have h2 := s.isLt
    refine BitVec.eq_of_toNat_eq ?_
    show (_ + _ : BitVec 32).toNat = _
    rw [BitVec.toNat_add, h1, BitVec.toNat_ofNat, BitVec.toNat_ofNat, hs]
    show (cl.val % 128 % 2 ^ 32 + (1024 * (i 1).val + 128 * (cl.val / 128))) % 2 ^ 32 = _
    omega
  rw [hl, he]
  rfl

theorem ipT_val (pk : IVec S8x128 32) (c : Fin 64 → BitVec 32) (q : Fin 4 → Fin 64 → BitVec 32) (h : (x.X6 (ix2 r cl)).toNat = p.val)
   (hpk : pk (ix2 r (lan cl)) = ipW c q + popW c * 65536#32) :
    x.ipT (cl.val / 128) pk (ix2 r (lan cl)) = ipS (x.X5 (ix3 0 r ⟨p.val, by omega⟩)) (x.X5 (ix3 1 r ⟨p.val, by omega⟩)) (x.X5 (ix3 2 r ⟨p.val, by omega⟩))
      (x.X5 (ix3 3 r ⟨p.val, by omega⟩)) (ipW c q) (popW c) (x.X8 (ix2 r cl)) := by
  have s0 : takeStat (x.stat 0) _ _ = _ := statAt x r cl p h 0
  have s1 : takeStat (x.stat 1) _ _ = _ := statAt x r cl p h 1
  have s2 : takeStat (x.stat 2) _ _ = _ := statAt x r cl p h 2
  have s3 : takeStat (x.stat 3) _ _ = _ := statAt x r cl p h 3
  pointwise [Ins.ipT, ipE, ipBin, popX]
  rw [s0, s1, s2, s3, hpk, low_half, high_half, io_at]
  rfl

variable (X3 : Vec Ideal S8x8x64x128 .i32) (X4 : Vec Ideal S2x256x128 .i32) (s : Fin 6144)

/-- The inner product of a position before the list's end is looked at, from the blocks of a grid point. -/
abbrev bip : EReal := ipS (x.X5 (ix3 0 r ⟨p.val, by omega⟩)) (x.X5 (ix3 1 r ⟨p.val, by omega⟩)) (x.X5 (ix3 2 r ⟨p.val, by omega⟩))
  (x.X5 (ix3 3 r ⟨p.val, by omega⟩)) (ipW (bcode (F := Ideal) X3 r cl) (bplane (F := Ideal) X4 b p)) (popW (bcode (F := Ideal) X3 r cl)) (x.X8 (ix2 r cl))

variable (hb : b.val = 8 * (i 0).val + r.val) (hs : s.val = 1024 * (i 1).val + cl.val) (h : (x.X6 (ix2 r cl)).toNat = p.val)

include hb h in
theorem ipT_all : x.ipT (cl.val / 128) (rd pos6 (packAll i X3 X4 x.X6) ![0, 128 * (cl.val / 128)] S8x128.size) (ix2 r (lan cl)) = bip x r cl b p X3 X4 :=
  ipT_val x r cl p _ _ _ h ((rd_blk r cl _).trans (packAll_at i X3 X4 x.X6 r cl b hb p h))

theorem outArr_at {α : Type} (tile : ℕ → S8x128.Idx → α) : outArr tile (ix2 r cl) = tile (cl.val / 128) (ix2 r (lan cl)) :=
  congrArg (tile (cl.val / 128)) (at_eq pos9 _ _ (all2 rfl rfl))

include hb hs h in
/-- The inner product of a position. -/
theorem resI_at : resI i X3 X4 x (ix2 r cl) = Scalar.select (inList s (x.X9 (ix2 r (lan cl)))) (bip x r cl b p X3 X4) 0 := by
  unfold resI
  rw [outArr_at]
  pointwise [Ins.oI]
  rw [valid_at x i r cl s hs, ipT_all x i r cl b p X3 X4 hb h]

include hb hs h in
/-- The distance of a position. -/
theorem resD_at : resD i X3 X4 x (ix2 r cl) = Scalar.select (inList s (x.X9 (ix2 r (lan cl))))
    (distS (x.X5 (ix3 2 r ⟨p.val, by omega⟩)) (x.X7 (ix2 r cl)) (bip x r cl b p X3 X4)) 0 := by
  have s2 : takeStat (x.stat 2) _ _ = _ := statAt x r cl p h 2
  unfold resD
  rw [outArr_at]
  pointwise [Ins.oD, distE]
  rw [valid_at x i r cl s hs, ipT_all x i r cl b p X3 X4 hb h, s2, nr_at]
  rfl

include hs h in
/-- The error bound of a position. -/
theorem resE_at : resE i x (ix2 r cl) = Scalar.select (inList s (x.X9 (ix2 r (lan cl))))
    (errS (x.X5 (ix3 2 r ⟨p.val, by omega⟩)) (x.X7 (ix2 r cl)) (x.X8 (ix2 r cl))) 0 := by
  have s2 : takeStat (x.stat 2) _ _ = _ := statAt x r cl p h 2
  unfold resE
  rw [outArr_at]
  pointwise [Ins.oE, errE]
  rw [valid_at x i r cl s hs, s2, nr_at, io_at]
  rfl
end

end Cert.Score

end
-- ==== Proof.RefAt.lean ====
module

public import proofs.«01_k».proof.Proof.RefVal
public import proofs.«01_k».proof.Proof.Spec
public import Idealize.ShloMosaic.Lib.Pointwise
public import Mathlib.Tactic.IntervalCases
public import Mathlib.Data.BitVec

@[expose] public section

set_option maxRecDepth 65536
set_option maxHeartbeats 0

noncomputable section

namespace Cert.Score.Ref

open Cert.ReferenceIdeal Cert.ReferenceIdeal.Gen
open Idealize.ShloMosaic Idealize.ShloMosaic.TcCoe Idealize.SL.Sem Idealize.ShloMosaic.StableHlo Cert.Score.Spec

variable (a0 : IVec S24 32) (a1 : IVec S24x48x64x128 32) (a2 : IVec S2x256x128 32) (a3 : FVec Ideal S4x24x128 .f32)
  (a4 : IVec S24x6144 32) (a5 a6 : FVec Ideal S24x6144 .f32)

/-! ## The reference's values at a candidate -/

/-- A word below eight, as a signed number. -/
theorem small (w : BitVec 32) (h : w.toNat < 8) : IntOp.cmpi .slt w 0#32 = 0#1 ∧ IntOp.cmpi .sge w 0#32 = 1#1 ∧ IntOp.cmpi .sle w 7#32 = 1#1
    ∧ w.toInt.toNat = w.toNat := by
  obtain ⟨n, hn, rfl⟩ : ∃ n, n < 8 ∧ w = BitVec.ofNat 32 n := ⟨w.toNat, h, by simp⟩
  clear h
  interval_cases n <;> decide

/-- A probe in range is not moved. -/
theorem wrapIx_at (b : Fin 24) (s : Fin 6144) (z : Fin 1) (h : (a4 (ix2 b s)).toNat < 8) : wrapIx a4 (ix3 b s z) = a4 (ix2 b s) := by
  pointwise [wrapIx]
  rw [(small _ h).1]
  rfl

/-- The statistics read at a candidate, its start index clamped. -/
theorem gather_stats (x : FVec Ideal S24x8x4 .f32) (idx : IVec S24x6144x1 32) (b : Fin 24) (s : Fin 6144) (k : Fin 4) :
    Host.gather gather_S24x8x4_S24x6144x1_S24x6144x4_2_1_0_0_1_2_114 x idx (ix3 b s k)
      = x (ix3 b ⟨min (idx (ix3 b s 0)).toInt.toNat 7, by omega⟩ k) := by
  let d := gather_S24x8x4_S24x6144x1_S24x6144x4_2_1_0_0_1_2_114
  unfold Host.gather
  refine congrArg x (funext fun a => Fin.ext ?_)
  show d.start (ix3 b s k) idx a + d.batchCoord (ix3 b s k) a + d.offCoord (ix3 b s k) a = _
  have h012 : a = 0 ∨ a = 1 ∨ a = 2 := by revert a; decide
  rcases h012 with rfl | rfl | rfl
  · rw [d.start_batching _ _ _ (List.mem_singleton.mpr rfl), d.offCoord_eq_zero _ _ (fun h => ((d.mem_sKept _).mp h).2 (List.mem_singleton.mpr rfl))]
    simp only [Nat.zero_add, Nat.add_zero]
    unfold GatherDims.batchCoord
    rw [dif_pos (show _ ∈ d.operandBatchingDims from List.mem_singleton.mpr rfl)]
    rfl
  · rw [d.batchCoord_eq_zero _ _ (by decide), d.offCoord_eq_zero _ _ (fun h => ((d.mem_sKept _).mp h).1 (List.mem_singleton.mpr rfl))]
    simp only [Nat.add_zero]
    unfold GatherDims.start
    rw [dif_pos (show _ ∈ d.startIndexMap from List.mem_singleton.mpr rfl)]
    have hsi : d.siIdx (ix3 b s k) ⟨List.idxOf (1 : Fin 3) d.startIndexMap, List.idxOf_lt_length_iff.2 (List.mem_singleton.mpr rfl)⟩ = ix3 b s 0 := by
      funext b'; refine Fin.ext ?_
      match b' with
      | ⟨0, _⟩ => rfl
      | ⟨1, _⟩ => rfl
      | ⟨2, _⟩ => rfl
    exact congrArg (fun z => min (idx z).toInt.toNat 7) hsi
  · rw [d.batchCoord_eq_zero _ _ (by decide)]
    unfold GatherDims.start GatherDims.offCoord
    rw [dif_neg (by decide), dif_pos (by decide)]
    simp only [Nat.zero_add]
    rfl

/-- The counts read at a candidate, its start index clamped. -/
theorem gather_counts (x : IVec S24x6144x8 32) (idx : IVec S24x6144x1x1 32) (b : Fin 24) (s : Fin 6144) (k : Fin 1) :
    Host.gather gather_S24x6144x8_S24x6144x1x1_S24x6144x1_n_2_01_01_2_3_111 x idx (ix3 b s k)
      = x (ix3 b s ⟨min (idx (ix4 b s k 0)).toInt.toNat 7, by omega⟩) := by
  let d := gather_S24x6144x8_S24x6144x1x1_S24x6144x1_n_2_01_01_2_3_111
  unfold Host.gather
  refine congrArg x (funext fun a => Fin.ext ?_)
  show d.start (ix3 b s k) idx a + d.batchCoord (ix3 b s k) a + d.offCoord (ix3 b s k) a = _
  have h012 : a = 0 ∨ a = 1 ∨ a = 2 := by revert a; decide
  rcases h012 with rfl | rfl | rfl
  · rw [d.start_batching _ _ _ (by decide), d.offCoord_eq_zero _ _ (by decide)]
    simp only [Nat.zero_add, Nat.add_zero]
    unfold GatherDims.batchCoord
    rw [dif_pos (by decide)]
    rfl
  · rw [d.start_batching _ _ _ (by decide), d.offCoord_eq_zero _ _ (by decide)]
    simp only [Nat.zero_add, Nat.add_zero]
    unfold GatherDims.batchCoord
    rw [dif_pos (by decide)]
    rfl
  · rw [d.batchCoord_eq_zero _ _ (by decide), d.offCoord_eq_zero _ _ (by decide)]
    simp only [Nat.add_zero]
    unfold GatherDims.start
    rw [dif_pos (show _ ∈ d.startIndexMap from List.mem_singleton.mpr rfl)]
    have hsi : d.siIdx (ix3 b s k) ⟨List.idxOf (2 : Fin 3) d.startIndexMap, List.idxOf_lt_length_iff.2 (List.mem_singleton.mpr rfl)⟩ = ix4 b s k 0 := by
      funext b'; refine Fin.ext ?_
      match b' with
      | ⟨0, _⟩ => rfl
      | ⟨1, _⟩ => rfl
      | ⟨2, _⟩ => rfl
      | ⟨3, _⟩ => rfl
    exact congrArg (fun z => min (idx z).toInt.toNat 7) hsi

/-- A sum of words by `stablehlo.reduce` is their sum. -/
theorem fold_addi {ι : Type*} (S : Finset ι) (c : BitVec 32) (x : ι → BitVec 32) : S.fold IntOp.addi c x = c + ∑ i ∈ S, x i := by
  induction S using Finset.cons_induction with
  | empty => simp
  | cons a S ha ih => rw [Finset.fold_cons, Finset.sum_cons, ih]; show x a + (c + _) = _; rw [add_left_comm]

/-- The indices a reduction over the last two of five axes adds up. -/
theorem drop34 {t : Shape} {n0 n1 n2 n3 n4 : ℕ} (h : (⟨5, ![n0, n1, n2, n3, n4]⟩ : Shape).ReducesTo [3, 4] ⟨3, ![n0, n1, n2]⟩)
    (a : Fin n0) (b : Fin n1) (c : Fin n2) (i : (⟨5, ![n0, n1, n2, n3, n4]⟩ : Shape).Idx) :
    h.drop i = ix3 a b c ↔ ∃ k : Fin n3 × Fin n4, ix5 a b c k.1 k.2 = i := by
  constructor
  · intro e
    refine ⟨(i 3, i 4), ?_⟩
    funext d; apply Fin.ext
    match d with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => rfl
  · rintro ⟨k, rfl⟩
    funext d
    apply Fin.ext
    match d with
    | ⟨0, _⟩ => rfl
    | ⟨1, _⟩ => rfl
    | ⟨2, _⟩ => rfl

/-- A sum over the last two of five axes. -/
theorem sum34 {n0 n1 n2 n3 n4 : ℕ} (h : (⟨5, ![n0, n1, n2, n3, n4]⟩ : Shape).ReducesTo [3, 4] ⟨3, ![n0, n1, n2]⟩)
    (a : Fin n0) (b : Fin n1) (c : Fin n2) (v : (⟨5, ![n0, n1, n2, n3, n4]⟩ : Shape).Idx → BitVec 32) :
    ∑ i ∈ Finset.univ.filter (fun i => h.drop i = ix3 a b c), v i = ∑ k : Fin n3, ∑ l : Fin n4, v (ix5 a b c k l) := by
  refine (Finset.sum_filter_eq_sum_of_fiber _ (fun k : Fin n3 × Fin n4 => ix5 a b c k.1 k.2)
    (fun _ _ e => Prod.ext (congrFun e 3) (congrFun e 4)) (drop34 (t := ⟨3, ![n0, n1, n2]⟩) h a b c) v).trans ?_
  simp only [Fintype.sum_prod_type]

/-- A conjunction of trues is true. -/
theorem fold_andi {ι : Type*} (S : Finset ι) (x : ι → BitVec 1) (h : ∀ i, x i = 1#1) : S.fold IntOp.andi 1#1 x = 1#1 := by
  induction S using Finset.cons_induction with
  | empty => rfl
  | cons a S ha ih => rw [Finset.fold_cons, ih, h]; rfl

theorem ipAll_at (b : Fin 24) (s : Fin 6144) (p : Fin 8) :
    ipAll a1 a2 (ix3 b s p) = ipW (fun w => a1 (cix b s w)) (fun q w => a2 (pix b p q w)) := by
  unfold ipAll
  rw [Host.reduce_eq_fold, fold_addi, sum34]
  pointwise [id]
  rw [show (0#32 : BitVec 32) = 0 from rfl, zero_add]
  refine Finset.sum_congr rfl fun q _ => Finset.sum_congr rfl fun w _ => ?_
  have hq : IntOp.shli ArithUnit.host 1#32 (BitVec.ofNat 32 q.val) = BitVec.ofNat 32 (2 ^ q.val) := by revert q; decide
  rw [hq]
  rfl

theorem popX_at (b : Fin 24) (s : Fin 6144) : popX a1 (ix2 b s) = popW fun w => a1 (cix b s w) := by
  pointwise [popX, fold_addi, id]
  exact zero_add _

theorem taken_at (b : Fin 24) (s : Fin 6144) (k : Fin 4) (h : (a4 (ix2 b s)).toNat < 8) :
   taken a3 a4 (ix3 b s k) = a3 (ix3 k b ⟨(a4 (ix2 b s)).toNat, by omega⟩) := by
  pointwise [taken, gather_stats]
  rw [fold_andi _ _ fun x => by rw [wrapIx_at a4 b s x h, (small _ h).2.1, (small _ h).2.2.1]; rfl]
  refine (if_pos rfl).trans (congrArg a3 ?_)
  refine congrArg (ix3 k b) (Fin.ext ?_)
  show min _ _ = (a4 (ix2 b s)).toNat
  rw [wrapIx_at a4 b s 0 h, (small _ h).2.2.2]
  omega

theorem ipTaken_at (b : Fin 24) (s : Fin 6144) (h : (a4 (ix2 b s)).toNat < 8) :
    ipTaken a1 a2 a4 (ix2 b s) = ipW (fun w => a1 (cix b s w)) (fun q w => a2 (pix b ⟨(a4 (ix2 b s)).toNat, h⟩ q w)) := by
  rw [← ipAll_at]
  pointwise [ipTaken, gather_counts]
  rw [fold_andi _ _ fun x => by rw [wrapIx_at a4 b s 0 h, (small _ h).2.1, (small _ h).2.2.1]; rfl]
  refine (if_pos rfl).trans (congrArg (ipAll a1 a2) ?_)
  refine congrArg (ix3 b s) (Fin.ext ?_)
  show min _ _ = (a4 (ix2 b s)).toNat
  rw [wrapIx_at a4 b s 0 h, (small _ h).2.2.2]
  omega

/-- The reference's inner product of a candidate. -/
theorem outI_at (b : Fin 24) (s : Fin 6144) (h : (a4 (ix2 b s)).toNat < 8) :
    outI a0 a1 a2 a3 a4 a6 (ix2 b s) = valI a0 a1 a2 a3 a6 b s ⟨(a4 (ix2 b s)).toNat, h⟩ := by
  pointwise [outI, ipEst, valid, st0, st1, st2, st3, id]
  rw [taken_at a3 a4 b s 0 h, taken_at a3 a4 b s 1 h, taken_at a3 a4 b s 2 h, taken_at a3 a4 b s 3 h, ipTaken_at a1 a2 a4 b s h, popX_at]
  rfl

/-- The reference's distance of a candidate. -/
theorem outD_at (b : Fin 24) (s : Fin 6144) (h : (a4 (ix2 b s)).toNat < 8) :
    outD a0 a1 a2 a3 a4 a5 a6 (ix2 b s) = valD a0 a1 a2 a3 a5 a6 b s ⟨(a4 (ix2 b s)).toNat, h⟩ := by
  pointwise [outD, ipEst, valid, st0, st1, st2, st3, id]
  rw [taken_at a3 a4 b s 0 h, taken_at a3 a4 b s 1 h, taken_at a3 a4 b s 2 h, taken_at a3 a4 b s 3 h, ipTaken_at a1 a2 a4 b s h, popX_at]
  rfl

/-- The reference's error bound of a candidate. -/
theorem outE_at (b : Fin 24) (s : Fin 6144) (h : (a4 (ix2 b s)).toNat < 8) :
    outE a0 a3 a4 a5 a6 (ix2 b s) = valE a0 a3 a5 a6 b s ⟨(a4 (ix2 b s)).toNat, h⟩ := by
  pointwise [outE, valid, st0, st1, st2, st3, id]
  rw [taken_at a3 a4 b s 2 h]
  rfl

end Cert.Score.Ref

end
-- ==== Proof.ArrVal.lean ====
module

public import proofs.«01_k».proof.Proof.BlockVal
public import proofs.«01_k».proof.Proof.Run
public import proofs.«01_k».proof.Proof.RefAt

@[expose] public section

set_option maxRecDepth 65536
set_option maxHeartbeats 400000

noncomputable section

namespace Cert.Score

open Cert.KernelIdeal Cert.KernelIdeal.Gen
open Idealize.ShloMosaic Idealize.ShloMosaic.TcCoe Cert.Score.Spec
open Idealize.ShloMosaic.Pipeline (Dat Cfg Window)

/-! ## The result arrays after the last grid point -/

variable (m : (ℓ : Loc nD τ sig) → Buf (Elt Ideal) ℓ) (hO : Ok m) (c : Dev nD) (t : Fin (cfgM m hO).N)

section
variable (r : Fin 8) (cl : Fin 1024) (b : Fin 24) (s : Fin 6144)
  (hb : b.val = 8 * ((grid0.coords t) 0).val + r.val) (hs : s.val = 1024 * ((grid0.coords t) 1).val + cl.val)

include hb hs in
/-- A position's element of a window of eight queries and 1024 positions. -/
theorem row_col (e : S24x6144.Idx) (h0 : (e 0).val = (BitVec.ofNat 32 ((grid0.coords t) 0).val).toNat * 8 + 1 * r.val)
    (h1 : (e 1).val = (BitVec.ofNat 32 ((grid0.coords t) 1).val).toNat * 1024 + 1 * cl.val) : e = ix2 b s := by
  rw [word0] at h0
  rw [word1] at h1
  exact funext (all2 (Fin.ext (show _ = b.val by omega)) (Fin.ext (show _ = s.val by omega)))

include hb hs in
theorem emb7 : (((cfgM m hO).win 7).blk t).view.emb (ix2 r cl) = (ix2 b s : S24x6144.Idx) := row_col m hO t r cl b s hb hs _ rfl rfl
include hb hs in
theorem emb8 : (((cfgM m hO).win 8).blk t).view.emb (ix2 r cl) = (ix2 b s : S24x6144.Idx) := row_col m hO t r cl b s hb hs _ rfl rfl
include hb hs in
theorem emb9 : (((cfgM m hO).win 9).blk t).view.emb (ix2 r cl) = (ix2 b s : S24x6144.Idx) := row_col m hO t r cl b s hb hs _ rfl rfl

include hb hs in
/-- The codes of a block. -/
theorem blk0 (w : Fin 64) : bcode (F := Ideal) (iblk m hO c 0 t) r cl w = m ((c : Thread nD τ).loc main_arg1) (cix b s w) := by
  refine (congrFun (V_main_arg1 m c) _).trans (congrArg (m ((c : Thread nD τ).loc main_arg1)) (funext (all4 (Fin.ext ?_) (Fin.ext ?_) (Fin.ext ?_) (Fin.ext ?_))))
  · show (BitVec.ofNat 32 ((grid0.coords t) 0).val).toNat * 8 + 1 * r.val = b.val
    rw [word0]; omega
  · show (BitVec.ofNat 32 ((grid0.coords t) 1).val).toNat * 8 + 1 * (cl.val / 128) = s.val / 128
    rw [word1]; omega
  · show 0 * 64 + 1 * w.val = w.val
    omega
  · show 0 * 128 + 1 * (cl.val % 128) = s.val % 128
    omega

/-- The planes of a block are the planes. -/
theorem blk1 : iblk m hO c 1 t = m ((c : Thread nD τ).loc main_arg2) := by
  refine funext fun (y : S2x256x128.Idx) => ?_
  refine (congrFun (V_main_arg2 m c) _).trans (congrArg (m ((c : Thread nD τ).loc main_arg2)) (funext (all3 (Fin.ext ?_) (Fin.ext ?_) (Fin.ext ?_))))
  · show 0 * 2 + 1 * (y 0).val = (y 0).val
    omega
  · show 0 * 256 + 1 * (y 1).val = (y 1).val
    omega
  · show 0 * 128 + 1 * (y 2).val = (y 2).val
    omega

include hb in
/-- The statistics of a block. -/
theorem blk2 (k : Fin 4) (l : Fin 128) : (insAt m hO c t).X5 (ix3 k r l) = m ((c : Thread nD τ).loc main_arg3) (ix3 k b l) := by
  refine (congrFun (V_main_arg3 m c) _).trans (congrArg (m ((c : Thread nD τ).loc main_arg3)) (funext (all3 (Fin.ext ?_) (Fin.ext ?_) (Fin.ext ?_))))
  · show 0 * 4 + 1 * k.val = k.val
    omega
  · show (BitVec.ofNat 32 ((grid0.coords t) 0).val).toNat * 8 + 1 * r.val = b.val
    rw [word0]; omega
  · show 0 * 128 + 1 * l.val = l.val
    omega

include hb hs in
/-- The probes of a block. -/
theorem blk3 : (insAt m hO c t).X6 (ix2 r cl) = m ((c : Thread nD τ).loc main_arg4) (ix2 b s) :=
  (congrFun (V_main_arg4 m c) _).trans (congrArg (m ((c : Thread nD τ).loc main_arg4)) (row_col m hO t r cl b s hb hs _ rfl rfl))
include hb hs in
/-- The norms of a block. -/
theorem blk4 : (insAt m hO c t).X7 (ix2 r cl) = m ((c : Thread nD τ).loc main_arg5) (ix2 b s) :=
  (congrFun (V_main_arg5 m c) _).trans (congrArg (m ((c : Thread nD τ).loc main_arg5)) (row_col m hO t r cl b s hb hs _ rfl rfl))
include hb hs in
/-- The code products of a block. -/
theorem blk5 : (insAt m hO c t).X8 (ix2 r cl) = m ((c : Thread nD τ).loc main_arg6) (ix2 b s) :=
  (congrFun (V_main_arg6 m c) _).trans (congrArg (m ((c : Thread nD τ).loc main_arg6)) (row_col m hO t r cl b s hb hs _ rfl rfl))

include hb in
/-- The lengths of a block. -/
theorem blk6 (l : Fin 128) : (insAt m hO c t).X9 (ix2 r l) = m ((c : Thread nD τ).loc main_arg0) (ix1 b) := by
  obtain rfl : c = 0 := Subsingleton.elim _ _
  refine (len_row m hO 0 t (ix2 r l)).trans ?_
  refine congrArg (m ((Dev.tc (0 : Dev nD) : Thread nD τ).loc main_arg0)) (funext fun (a : Fin 1) => ?_)
  obtain rfl : a = 0 := Subsingleton.elim _ _
  refine Fin.ext ?_
  have hq : qcol (grid0.coords t) r.val = 8 * ((grid0.coords t) 0).val + r.val := qw_nat (grid0.coords t) r
  show qcol (grid0.coords t) r.val + 1 * 0 = b.val
  omega
end

/-- Every point writes its block back. -/
theorem flush7 : ((cfgM m hO).win 7).flush t = true :=
  (by decide +kernel : ∀ t : Fin grid0.N, Pipeline.Window.flushOf grid0 true cc0_transform_7 t = true) t
theorem flush8 : ((cfgM m hO).win 8).flush t = true :=
  (by decide +kernel : ∀ t : Fin grid0.N, Pipeline.Window.flushOf grid0 true cc0_transform_8 t = true) t
theorem flush9 : ((cfgM m hO).win 9).flush t = true :=
  (by decide +kernel : ∀ t : Fin grid0.N, Pipeline.Window.flushOf grid0 true cc0_transform_9 t = true) t

/-- The grid point of a row block and a column block. -/
theorem point : ∀ (p : Fin 3) (q : Fin 6), ∃ t : Fin grid0.N, ((grid0.coords t) 0).val = p.val ∧ ((grid0.coords t) 1).val = q.val := by
  decide +kernel

/-- Every position lies in some point's block. -/
theorem point_of (b : Fin 24) (s : Fin 6144) : ∃ t : Fin grid0.N, b.val = 8 * ((grid0.coords t) 0).val + b.val % 8 ∧
    s.val = 1024 * ((grid0.coords t) 1).val + s.val % 1024 := by
  obtain ⟨t, h0, h1⟩ := point ⟨b.val / 8, by omega⟩ ⟨s.val / 1024, by omega⟩
  refine ⟨t, ?_, ?_⟩
  · rw [h0]; show _ = 8 * (b.val / 8) + _; omega
  · rw [h1]; show _ = 1024 * (s.val / 1024) + _; omega

/-- A point's block has the rows and columns of its coordinates. -/
theorem in_block (r : Fin 8) (cl : Fin 1024) : 8 * ((grid0.coords t) 0).val + r.val < 24 ∧ 1024 * ((grid0.coords t) 1).val + cl.val < 6144 := by
  have h0 : ((grid0.coords t) 0).val < 3 := ((grid0.coords t) 0).isLt
  have h1 : ((grid0.coords t) 1).val < 6 := ((grid0.coords t) 1).isLt
  omega

/-- The arguments. -/
abbrev A0 : IVec S24 32 := m ((c : Thread nD τ).loc main_arg0)
abbrev A1 : IVec S24x48x64x128 32 := m ((c : Thread nD τ).loc main_arg1)
abbrev A2 : IVec S2x256x128 32 := m ((c : Thread nD τ).loc main_arg2)
abbrev A3 : FVec Ideal S4x24x128 .f32 := m ((c : Thread nD τ).loc main_arg3)
abbrev A4 : IVec S24x6144 32 := m ((c : Thread nD τ).loc main_arg4)
abbrev A5 : FVec Ideal S24x6144 .f32 := m ((c : Thread nD τ).loc main_arg5)
abbrev A6 : FVec Ideal S24x6144 .f32 := m ((c : Thread nD τ).loc main_arg6)

/-- The reference's three results of the arguments. -/
abbrev GI : FVec Ideal S24x6144 .f32 := Ref.outI (A0 m c) (A1 m c) (A2 m c) (A3 m c) (A4 m c) (A6 m c)
abbrev GD : FVec Ideal S24x6144 .f32 := Ref.outD (A0 m c) (A1 m c) (A2 m c) (A3 m c) (A4 m c) (A5 m c) (A6 m c)
abbrev GE : FVec Ideal S24x6144 .f32 := Ref.outE (A0 m c) (A3 m c) (A4 m c) (A5 m c) (A6 m c)

variable (H : ∀ (b : Fin 24) (s : Fin 6144), (A4 m c (ix2 b s)).toNat < 8)

/-- The inner product of a position from a point's blocks is that from the arguments. -/
theorem bip_eq (r : Fin 8) (cl : Fin 1024) (b : Fin 24) (s : Fin 6144) (p : Fin 8)
    (hb : b.val = 8 * ((grid0.coords t) 0).val + r.val) (hs : s.val = 1024 * ((grid0.coords t) 1).val + cl.val) :
    bip (insAt m hO c t) r cl b p (iblk m hO c 0 t) (iblk m hO c 1 t) = ipA (A1 m c) (A2 m c) (A3 m c) (A6 m c) b s p := by
  unfold bip ipA
  rw [funext (blk0 m hO c t r cl b s hb hs), blk1, blk2 m hO c t r b hb 0, blk2 m hO c t r b hb 1, blk2 m hO c t r b hb 2, blk2 m hO c t r b hb 3,
    blk5 m hO c t r cl b s hb hs]

/-- An index of two coordinates. -/
theorem idx2_eq {n k : ℕ} (y : (⟨2, ![n, k]⟩ : Shape).Idx) : y = ix2 (y 0) (y 1) := funext (all2 rfl rfl)

include H in
/-- The inner products of a position, from a point's blocks, are the reference's. -/
theorem el9 (r : Fin 8) (cl : Fin 1024) (b : Fin 24) (s : Fin 6144) (hb : b.val = 8 * ((grid0.coords t) 0).val + r.val)
    (hs : s.val = 1024 * ((grid0.coords t) 1).val + cl.val) : resI (grid0.coords t) (iblk m hO c 0 t) (iblk m hO c 1 t) (insAt m hO c t) (ix2 r cl) = GI m c (ix2 b s) := by
  have hp := H b s
  have e3 : ((insAt m hO c t).X6 (ix2 r cl)).toNat = (A4 m c (ix2 b s)).toNat := congrArg BitVec.toNat (blk3 m hO c t r cl b s hb hs)
  refine Eq.trans ?_ (Ref.outI_at (A0 m c) (A1 m c) (A2 m c) (A3 m c) (A4 m c) (A6 m c) b s hp).symm
  refine (resI_at (insAt m hO c t) (grid0.coords t) r cl b ⟨_, hp⟩ (iblk m hO c 0 t) (iblk m hO c 1 t) s hb hs e3).trans ?_
  unfold valI
  rw [bip_eq m hO c t r cl b s _ hb hs, blk6 m hO c t r b hb]

include H in
/-- So a point leaves its block of the reference's inner products. -/
theorem out9 : (dats m hO 0 c).flushed 9 t = (((cfgM m hO).win 9).blk t).view.read (Elt Ideal) (GI m c) := by
  refine (after0_9 m hO c t).trans (funext fun (y : S8x1024.Idx) => ?_)
  obtain ⟨r, cl, rfl⟩ : ∃ (r : Fin 8) (cl : Fin 1024), y = ix2 r cl := ⟨y 0, y 1, idx2_eq y⟩
  have hb := in_block m hO t r cl
  exact (el9 m hO c t H r cl ⟨_, hb.1⟩ ⟨_, hb.2⟩ rfl rfl).trans (congrArg (GI m c) (emb9 m hO t r cl ⟨_, hb.1⟩ ⟨_, hb.2⟩ rfl rfl).symm)

include H in
/-- The inner products after the run. -/
theorem arr9 : (dats m hO 0 c).arrAt 9 (cfgM m hO).N = GI m c := by
  refine Dat.arrAt_eq_of_cover (dats m hO 0 c) 9 _ (fun t _ => out9 m hO c t H) fun (i : S24x6144.Idx) => ?_
  obtain ⟨b, s, rfl⟩ : ∃ (b : Fin 24) (s : Fin 6144), i = ix2 b s := ⟨i 0, i 1, idx2_eq i⟩
  obtain ⟨t, hb, hs⟩ := point_of b s
  refine ⟨t, flush9 m hO t, ?_⟩
  have e := View.emb_mem_set (((cfgM m hO).win 9).blk t).view (ix2 (⟨b.val % 8, by omega⟩ : Fin 8) (⟨s.val % 1024, by omega⟩ : Fin 1024))
  rw [emb9 m hO t _ _ b s hb hs] at e
  exact e

include H in
/-- The distances of a position, from a point's blocks, are the reference's. -/
theorem el7 (r : Fin 8) (cl : Fin 1024) (b : Fin 24) (s : Fin 6144) (hb : b.val = 8 * ((grid0.coords t) 0).val + r.val)
    (hs : s.val = 1024 * ((grid0.coords t) 1).val + cl.val) : resD (grid0.coords t) (iblk m hO c 0 t) (iblk m hO c 1 t) (insAt m hO c t) (ix2 r cl) = GD m c (ix2 b s) := by
  have hp := H b s
  have e3 : ((insAt m hO c t).X6 (ix2 r cl)).toNat = (A4 m c (ix2 b s)).toNat := congrArg BitVec.toNat (blk3 m hO c t r cl b s hb hs)
  refine Eq.trans ?_ (Ref.outD_at (A0 m c) (A1 m c) (A2 m c) (A3 m c) (A4 m c) (A5 m c) (A6 m c) b s hp).symm
  refine (resD_at (insAt m hO c t) (grid0.coords t) r cl b ⟨_, hp⟩ (iblk m hO c 0 t) (iblk m hO c 1 t) s hb hs e3).trans ?_
  unfold valD
  rw [bip_eq m hO c t r cl b s _ hb hs, blk6 m hO c t r b hb, blk2 m hO c t r b hb 2, blk4 m hO c t r cl b s hb hs]

include H in
/-- So a point leaves its block of the reference's distances. -/
theorem out7 : (dats m hO 0 c).flushed 7 t = (((cfgM m hO).win 7).blk t).view.read (Elt Ideal) (GD m c) := by
  refine (after0_7 m hO c t).trans (funext fun (y : S8x1024.Idx) => ?_)
  obtain ⟨r, cl, rfl⟩ : ∃ (r : Fin 8) (cl : Fin 1024), y = ix2 r cl := ⟨y 0, y 1, idx2_eq y⟩
  have hb := in_block m hO t r cl
  exact (el7 m hO c t H r cl ⟨_, hb.1⟩ ⟨_, hb.2⟩ rfl rfl).trans (congrArg (GD m c) (emb7 m hO t r cl ⟨_, hb.1⟩ ⟨_, hb.2⟩ rfl rfl).symm)

include H in
/-- The distances after the run. -/
theorem arr7 : (dats m hO 0 c).arrAt 7 (cfgM m hO).N = GD m c := by
  refine Dat.arrAt_eq_of_cover (dats m hO 0 c) 7 _ (fun t _ => out7 m hO c t H) fun (i : S24x6144.Idx) => ?_
  obtain ⟨b, s, rfl⟩ : ∃ (b : Fin 24) (s : Fin 6144), i = ix2 b s := ⟨i 0, i 1, idx2_eq i⟩
  obtain ⟨t, hb, hs⟩ := point_of b s
  refine ⟨t, flush7 m hO t, ?_⟩
  have e := View.emb_mem_set (((cfgM m hO).win 7).blk t).view (ix2 (⟨b.val % 8, by omega⟩ : Fin 8) (⟨s.val % 1024, by omega⟩ : Fin 1024))
  rw [emb7 m hO t _ _ b s hb hs] at e
  exact e

include H in
/-- The error bounds of a position, from a point's blocks, are the reference's. -/
theorem el8 (r : Fin 8) (cl : Fin 1024) (b : Fin 24) (s : Fin 6144) (hb : b.val = 8 * ((grid0.coords t) 0).val + r.val)
    (hs : s.val = 1024 * ((grid0.coords t) 1).val + cl.val) : resE (grid0.coords t) (insAt m hO c t) (ix2 r cl) = GE m c (ix2 b s) := by
  have hp := H b s
  have e3 : ((insAt m hO c t).X6 (ix2 r cl)).toNat = (A4 m c (ix2 b s)).toNat := congrArg BitVec.toNat (blk3 m hO c t r cl b s hb hs)
  refine Eq.trans ?_ (Ref.outE_at (A0 m c) (A3 m c) (A4 m c) (A5 m c) (A6 m c) b s hp).symm
  rw [resE_at (insAt m hO c t) (grid0.coords t) r cl b ⟨_, hp⟩ s hs e3]
  unfold valE
  rw [blk6 m hO c t r b hb, blk2 m hO c t r b hb 2, blk4 m hO c t r cl b s hb hs, blk5 m hO c t r cl b s hb hs]

include H in
/-- So a point leaves its block of the reference's error bounds. -/
theorem out8 : (dats m hO 0 c).flushed 8 t = (((cfgM m hO).win 8).blk t).view.read (Elt Ideal) (GE m c) := by
  refine (after0_8 m hO c t).trans (funext fun (y : S8x1024.Idx) => ?_)
  obtain ⟨r, cl, rfl⟩ : ∃ (r : Fin 8) (cl : Fin 1024), y = ix2 r cl := ⟨y 0, y 1, idx2_eq y⟩
  have hb := in_block m hO t r cl
  exact (el8 m hO c t H r cl ⟨_, hb.1⟩ ⟨_, hb.2⟩ rfl rfl).trans (congrArg (GE m c) (emb8 m hO t r cl ⟨_, hb.1⟩ ⟨_, hb.2⟩ rfl rfl).symm)

include H in
/-- The error bounds after the run. -/
theorem arr8 : (dats m hO 0 c).arrAt 8 (cfgM m hO).N = GE m c := by
  refine Dat.arrAt_eq_of_cover (dats m hO 0 c) 8 _ (fun t _ => out8 m hO c t H) fun (i : S24x6144.Idx) => ?_
  obtain ⟨b, s, rfl⟩ : ∃ (b : Fin 24) (s : Fin 6144), i = ix2 b s := ⟨i 0, i 1, idx2_eq i⟩
  obtain ⟨t, hb, hs⟩ := point_of b s
  refine ⟨t, flush8 m hO t, ?_⟩
  have e := View.emb_mem_set (((cfgM m hO).win 8).blk t).view (ix2 (⟨b.val % 8, by omega⟩ : Fin 8) (⟨s.val % 1024, by omega⟩ : Fin 1024))
  rw [emb8 m hO t _ _ b s hb hs] at e
  exact e

end Cert.Score

end
-- ==== Proof.QHyps.lean ====
module

public import proofs.«01_k».proof.Proof.Gen.QuantiseIdeal.Frame.Runs

@[expose] public section

set_option maxRecDepth 65536
set_option maxHeartbeats 1000000

noncomputable section

namespace Cert.Quant

open Cert.QuantiseIdeal Cert.QuantiseIdeal.Gen
open Idealize.ShloMosaic Idealize.ShloMosaic.TcCoe Idealize.SL.Sem

/-! ## The rows the body reads are rows of the centroids -/

/-- A probe in range names a row of the centroids. -/
theorem row_ok (w : BitVec 32) (h : w.toNat < 400) : k0_chk1 w := by
  intro a
  have e : a = 0 ∨ a = 1 := by revert a; decide
  rcases e with rfl | rfl
  · show w.toNat + 1 ≤ 400
    omega
  · exact Nat.le_refl _

variable {F : FTy → Type} [FloatOps F] (m : (ℓ : Loc nD τ sig) → Buf (Elt F) ℓ)

/-- Every word of the probes' block is in range. -/
def InRange : Prop := ∀ (c : Dev nD) (t : Fin cfg0.N) (i : S24x8.Idx), ((iblk m c 0 t : S24x8.Idx → BitVec 32) i).toNat < 400

variable {m}

/-- So is every word the body loads of it. -/
theorem word_lt (h : InRange m) (c : Dev nD) (t : Fin cfg0.N) (B : LoadRect S24x8) (j : B.shape.Idx) :
    BitVec.toNat ((ms0_0 t).view.readAt (Elt F) B ((hs0_0 t).unread (iblk m c 0 t)) j) < 400 := by
  rw [View.readAt_apply, Memref.IsWhole.read_unread]
  exact h c t _

theorem hyps (h : InRange m) : Hyps m := by
  intro c t
  repeat' refine And.intro ?_ ?_
  all_goals exact row_ok _ (word_lt h c t _ _)

end Cert.Quant

end
-- ==== Proof.QSpec.lean ====
module

public import Idealize.ShloMosaic.Lib.Pointwise
public import Idealize.ShloMosaic.Lib.IdealHost
public import Mathlib.Data.BitVec
public import Mathlib.Tactic.IntervalCases

@[expose] public section

set_option maxRecDepth 65536

noncomputable section

namespace Cert.Quant.Spec

open Idealize.ShloMosaic

/-! ## One row's quantiser, in numbers -/

/-- A 32-bit float literal, ideally. -/
abbrev lit (b : BitVec 32) : EReal := Ideal.ofBits .f32 b

/-- The least residual of a row: the quantiser's lower limit. -/
def lo (r : Fin 2048 → EReal) : EReal := Finset.univ.fold min (lit 0x7F800000#32) r

/-- The quantiser's step: a fifteenth of the residuals' range. -/
def st (r : Fin 2048 → EReal) : EReal := Ideal.div (Finset.univ.fold max (lit 0xFF800000#32) r - lo r) (lit 0x41700000#32)

/-- The row's norm. -/
def nq (r : Fin 2048 → EReal) : EReal := Ideal.sqrt (∑ x, r x * r x)

/-- The code of one residual, `u` the random rounding's draw. -/
def code (r u : Fin 2048 → EReal) (d : Fin 2048) : BitVec 32 :=
  FloatOps.fptosi (F := Ideal) (φ := .f32) 32 (min (lit 0x41700000#32) (max 0 (Ideal.liftRound Int.floor
    ((r d - lo r) * Ideal.div 1 (if 0 < st r then st r else 1) + u d))))

/-- The sum of a row's codes. -/
def sum (r u : Fin 2048 → EReal) : EReal :=
  FloatOps.sitofp (F := Ideal) FTy.f32 (Finset.univ.fold IntOp.addi (0#32) fun x => code r u x)

/-- Lane `l` of a row's statistics: the step, the lower limit, the norm, and from there on the sum of codes. -/
def stat (r u : Fin 2048 → EReal) (l : Fin 128) : EReal :=
  Scalar.select (IntOp.cmpi CmpIPredicate.eq (BitVec.ofNat 32 l.val) 0#32) (st r)
    (Scalar.select (IntOp.cmpi CmpIPredicate.eq (BitVec.ofNat 32 l.val) 1#32) (lo r)
      (Scalar.select (IntOp.cmpi CmpIPredicate.eq (BitVec.ofNat 32 l.val) 2#32) (nq r) (sum r u)))

/-- The residual of coordinate `d` of query `b` at centroid `k`. -/
def res (x : FVec Ideal ⟨2, ![24, 2048]⟩ .f32) (c : FVec Ideal ⟨2, ![400, 2048]⟩ .f32) (b : Fin 24) (k : Fin 400) (d : Fin 2048) : EReal :=
  x (ix2 b d) - c (ix2 k d)

theorem lit_fifteen : lit 0x41700000#32 = ((15 : ℝ) : EReal) := by
  simp [lit, Ideal.ofBits, Ideal.ieee, -EReal.coe_mul]; norm_num

/-- A value clipped to `[0, 15]` is, as a word, at most fifteen. -/
theorem fptosi_small (y : EReal) : ∃ n : ℕ, n ≤ 15 ∧ FloatOps.fptosi (F := Ideal) (φ := .f32) 32 (min (lit 0x41700000#32) (max 0 y)) = BitVec.ofNat 32 n := by
  obtain ⟨x, h0, h1, e⟩ : ∃ x : ℝ, 0 ≤ x ∧ x ≤ 15 ∧ min (lit 0x41700000#32) (max 0 y) = (x : EReal) := by
    rw [lit_fifteen]
    induction y using EReal.rec with
    | bot => exact ⟨0, le_refl _, by norm_num, by rw [max_eq_left bot_le]; exact min_eq_right (by exact_mod_cast (by norm_num : (0 : ℝ) ≤ 15))⟩
    | top => exact ⟨15, by norm_num, le_refl _, by rw [max_eq_right le_top]; exact min_eq_left le_top⟩
    | coe z =>
      refine ⟨min 15 (max 0 z), le_min (by norm_num) (le_max_left _ _), min_le_left _ _, ?_⟩
      norm_cast
  rw [e]
  show ∃ n : ℕ, n ≤ 15 ∧ Ideal.fptosi 32 (x : EReal) = BitVec.ofNat 32 n
  have hf0 : 0 ≤ ⌊x⌋ := Int.floor_nonneg.mpr h0
  have hf1 : ⌊x⌋ ≤ 15 := by have := (Int.floor_le x).trans h1; exact_mod_cast this
  refine ⟨⌊x⌋.toNat, by omega, ?_⟩
  unfold Ideal.fptosi
  rw [Ideal.toIntClamped_coe, if_pos h0, max_eq_right (by norm_num; omega), min_eq_right (by norm_num; omega)]
  obtain ⟨n, hn⟩ := Int.eq_ofNat_of_zero_le hf0
  rw [hn]
  exact BitVec.ofInt_natCast 32 n

/-- A code survives being stored as a byte. -/
theorem byte (r u : Fin 2048 → EReal) (d : Fin 2048) : ((code r u d).truncate 8).zeroExtend 32 = code r u d := by
  obtain ⟨n, hn, e⟩ := fptosi_small (Ideal.liftRound Int.floor ((r d - lo r) * Ideal.div 1 (if 0 < st r then st r else 1) + u d))
  unfold code
  rw [e]
  interval_cases n <;> decide

end Cert.Quant.Spec

end
-- ==== Proof.QPay.lean ====
module

public import proofs.«01_k».proof.Proof.QSpec
public import Idealize.ShloMosaic.Lib.Pointwise
public import proofs.«01_k».proof.Proof.Gen.QuantiseIdeal.Skeleton

@[expose] public section

set_option maxHeartbeats 1000000

noncomputable section

namespace Cert.Quant.Pay

open Cert.QuantiseIdeal Cert.QuantiseIdeal.Gen
open Idealize.ShloMosaic Idealize.ShloMosaic.TcCoe Idealize.SL.Sem Idealize.ShloMosaic.StableHlo

/-! ## What the body computes from eight rows of residuals and their draws -/

section
variable {F : FTy → Type} [FloatOps F]

/-- Eight rows' codes, as the body stores them. -/
def q8 (v : Vec F S8x2048 .f32) (w : Vec F S1x8x2048 .f32) : Vec F S1x8x2048 .i8 := k0_pay215 v w

/-- Eight rows' statistics, as the body stores them. -/
def s8 (v : Vec F S8x2048 .f32) (w : Vec F S1x8x2048 .f32) : Vec F S8x128 .f32 :=
  k0_pay216 (iota .tc S8x128 32 [1] iota_S8x128_d1_w32) (k0_pay210 v) (k0_pay211 v) (k0_pay212 v) (k0_pay213 v w)
end

variable (v : Vec Ideal S8x2048 .f32) (w : Vec Ideal S1x8x2048 .f32) (p : Fin 8)

theorem lo_at : k0_pay210 v (ix2 p 0) = Spec.lo fun d => v (ix2 p d) := by
  pointwise [k0_pay210]
  rfl

theorem nq_at : k0_pay211 v (ix2 p 0) = Spec.nq fun d => v (ix2 p d) := by
  pointwise [k0_pay211]
  rfl

theorem st_at : k0_pay212 v (ix2 p 0) = Spec.st fun d => v (ix2 p d) := by
  pointwise [k0_pay212]
  rw [lo_at]
  rfl

theorem code_at (d : Fin 2048) : k0_pay213 v w (ix2 p d) = Spec.code (fun d => v (ix2 p d)) (fun d => w (ix3 0 p d)) d := by
  pointwise [k0_pay213]
  rw [lo_at, st_at]
  rfl

theorem q8_at (z : Fin 1) (d : Fin 2048) :
    q8 v w (ix3 z p d) = (Spec.code (fun d => v (ix2 p d)) (fun d => w (ix3 0 p d)) d).truncate 8 := by
  pointwise [q8, k0_pay215]
  rw [code_at]

theorem s8_at (l : Fin 128) : s8 v w (ix2 p l) = Spec.stat (fun d => v (ix2 p d)) (fun d => w (ix3 0 p d)) l := by
  pointwise [s8, k0_pay216]
  rw [lo_at, st_at, nq_at, show (fun x => k0_pay213 v w (ix2 p x)) = _ from funext fun x => code_at v w p x]
  rfl

end Cert.Quant.Pay

end
-- ==== Proof.QPieces.lean ====
module

public import proofs.«01_k».proof.Proof.QHyps
public import proofs.«01_k».proof.Proof.QPay
public import Idealize.ShloMosaic.Lib.WholeRead
public import Idealize.ShloMosaic.Lib.WritesUnit

@[expose] public section

set_option maxRecDepth 65536
set_option maxHeartbeats 200000

noncomputable section

namespace Cert.Quant

open Cert.QuantiseIdeal Cert.QuantiseIdeal.Gen
open Idealize.ShloMosaic Idealize.ShloMosaic.TcCoe Idealize.SL.Sem

/-! ## What the body stores, row by row and query by query -/

theorem all2 {P : Fin 2 → Prop} (h0 : P 0) (h1 : P 1) : ∀ a, P a := Fin.forall_fin_two.mpr ⟨h0, h1⟩
theorem all3 {P : Fin 3 → Prop} (h0 : P 0) (h1 : P 1) (h2 : P 2) : ∀ a, P a := by
  intro a; have h : a = 0 ∨ a = 1 ∨ a = 2 := by revert a; decide
  rcases h with rfl | rfl | rfl <;> assumption

theorem inb_word (i : Fin 192) : ∀ a, (![i.val / 8, i.val % 8] : Fin 2 → ℕ) a + S1x1.size a ≤ S24x8.size a :=
  all2 (show i.val / 8 + 1 ≤ 24 by omega) (show i.val % 8 + 1 ≤ 8 by omega)
theorem inb_xrow (i : Fin 192) : ∀ a, (![i.val / 8, 0] : Fin 2 → ℕ) a + S1x2048.size a ≤ S24x2048.size a :=
  all2 (show i.val / 8 + 1 ≤ 24 by omega) (Nat.le_refl 2048)
theorem inb_row (i : Fin 192) : ∀ a, (![i.val, 0] : Fin 2 → ℕ) a + S1x2048.size a ≤ S192x2048.size a :=
  all2 (show i.val + 1 ≤ 192 by omega) (Nat.le_refl 2048)
theorem inb_rows (b : Fin 24) : ∀ a, (![8 * b.val, 0] : Fin 2 → ℕ) a + S8x2048.size a ≤ S192x2048.size a :=
  all2 (show 8 * b.val + 8 ≤ 192 by omega) (Nat.le_refl 2048)
theorem inb_stat (b : Fin 24) : ∀ a, (![8 * b.val, 0] : Fin 2 → ℕ) a + S8x128.size a ≤ S192x128.size a :=
  all2 (show 8 * b.val + 8 ≤ 192 by omega) (Nat.le_refl 128)
theorem inb_code (b : Fin 24) : ∀ a, (![b.val, 0, 0] : Fin 3 → ℕ) a + S1x8x2048.size a ≤ S24x8x2048.size a :=
  all3 (show b.val + 1 ≤ 24 by omega) (Nat.le_refl 8) (Nat.le_refl 2048)

section
variable {F : FTy → Type} [FloatOps F] {m : (ℓ : Loc nD τ sig) → Buf (Elt F) ℓ} (h : InRange m) (c : Dev nD) (t : Fin cfg0.N)

/-- The probe of row `i`, as the body loads it. -/
def word (m : (ℓ : Loc nD τ sig) → Buf (Elt F) ℓ) (c : Dev nD) (t : Fin cfg0.N) (i : Fin 192) : BitVec 32 :=
  (ms0_0 t).view.readAt (Elt F) (Rect.unit (s := S24x8) ![i.val / 8, i.val % 8] S1x1.size (inb_word i)).toLoadRect
    ((hs0_0 t).unread (iblk m c 0 t)) (Shape.Idx.first (numel1_S1x1.symm ▸ Nat.one_pos))

include h in
theorem word_ok (i : Fin 192) : k0_chk1 (word m c t i) := row_ok _ (word_lt h c t _ _)

/-- The residuals of row `i`, as the body stores them. -/
def rowP (i : Fin 192) : S1x2048.Idx → F .f32 :=
  k0_pay2
    ((ms0_1 t).view.readAt (Elt F) (Rect.unit (s := S24x2048) ![i.val / 8, 0] S1x2048.size (inb_xrow i)).toLoadRect
      ((hs0_1 t).unread (iblk m c 1 t)))
    ((ms0_2 t).view.readAt (Elt F) (Rect.unit (s := S400x2048) (k0_off1 (word m c t i)) S1x2048.size (word_ok h c t i)).toLoadRect
      ((hs0_2 t).unread (iblk m c 2 t)))

/-- The rows stored, the last one first. -/
def rows : List (View.Piece (Elt F) S192x2048 .f32) :=
  View.tilePieces (s := S192x2048) S1x2048.size (fun i : Fin 192 => ![i.val, 0]) inb_row (rowP h c t) 192 (Nat.le_refl 192)

/-- The eight rows of query `b`, as the body loads them back. -/
def rows8 (b : Fin 24) : Vec F S8x2048 .f32 :=
  scM0_0.view.readCov (rows h c t) (Rect.unit (s := S192x2048) ![8 * b.val, 0] S8x2048.size (inb_rows b)).toLoadRect

/-- The draws of query `b`. -/
def draws (m : (ℓ : Loc nD τ sig) → Buf (Elt F) ℓ) (c : Dev nD) (t : Fin cfg0.N) (b : Fin 24) : Vec F S1x8x2048 .f32 :=
  (ms0_3 t).view.readAt (Elt F) (Rect.unit (s := S24x8x2048) ![b.val, 0, 0] S1x8x2048.size (inb_code b)).toLoadRect
    ((hs0_3 t).unread (iblk m c 3 t))

/-- The codes stored, the last query's first. -/
def codes : List (View.Piece (Elt F) S24x8x2048 .i8) :=
  View.tilePieces (s := S24x8x2048) S1x8x2048.size (fun b : Fin 24 => ![b.val, 0, 0]) inb_code
    (fun b => Pay.q8 (rows8 h c t b) (draws m c t b)) 24 (Nat.le_refl 24)

/-- The statistics stored, the last query's first. -/
def stats : List (View.Piece (Elt F) S192x128 .f32) :=
  View.tilePieces (s := S192x128) S8x128.size (fun b : Fin 24 => ![8 * b.val, 0]) inb_stat
    (fun b => Pay.s8 (rows8 h c t b) (draws m c t b)) 24 (Nat.le_refl 24)
end

/-! ## Their values -/

variable {m : (ℓ : Loc nD τ sig) → Buf (Elt Ideal) ℓ} (h : InRange m) (c : Dev nD) (t : Fin cfg0.N)

theorem word_at (b : Fin 24) (p : Fin 8) (i : Fin 192) (hi : i.val = 8 * b.val + p.val) :
    word m c t i = (iblk m c 0 t : S24x8.Idx → BitVec 32) (ix2 b p) := by
  refine (Memref.IsWhole.readAt_unread (hs0_0 t) _ _ _).trans (congrArg (iblk m c 0 t : S24x8.Idx → BitVec 32) ?_)
  refine funext (all2 (Fin.ext ?_) (Fin.ext ?_))
  · show i.val / 8 + 1 * 0 = b.val
    omega
  · show i.val % 8 + 1 * 0 = p.val
    omega

/-- The residual of a row's coordinate. -/
theorem rowP_at (b : Fin 24) (p : Fin 8) (i : Fin 192) (hi : i.val = 8 * b.val + p.val) (d : Fin 2048) :
    rowP h c t i (ix2 0 d)
      = Spec.res (iblk m c 1 t) (iblk m c 2 t) b ⟨((iblk m c 0 t : S24x8.Idx → BitVec 32) (ix2 b p)).toNat, h c t _⟩ d := by
  have hx : ((ms0_1 t).view.readAt (Elt Ideal) (Rect.unit (s := S24x2048) ![i.val / 8, 0] S1x2048.size (inb_xrow i)).toLoadRect
      ((hs0_1 t).unread (iblk m c 1 t))) (ix2 0 d) = (iblk m c 1 t : S24x2048.Idx → EReal) (ix2 b d) := by
    refine (Memref.IsWhole.readAt_unread (hs0_1 t) _ _ _).trans (congrArg (iblk m c 1 t : S24x2048.Idx → EReal) ?_)
    refine funext (all2 (Fin.ext ?_) (Fin.ext ?_))
    · show i.val / 8 + 1 * 0 = b.val
      omega
    · show 0 + 1 * d.val = d.val
      omega
  have hc : ((ms0_2 t).view.readAt (Elt Ideal) (Rect.unit (s := S400x2048) (k0_off1 (word m c t i)) S1x2048.size (word_ok h c t i)).toLoadRect
      ((hs0_2 t).unread (iblk m c 2 t))) (ix2 0 d)
      = (iblk m c 2 t : S400x2048.Idx → EReal) (ix2 ⟨((iblk m c 0 t : S24x8.Idx → BitVec 32) (ix2 b p)).toNat, h c t _⟩ d) := by
    refine (Memref.IsWhole.readAt_unread (hs0_2 t) _ _ _).trans (congrArg (iblk m c 2 t : S400x2048.Idx → EReal) ?_)
    refine funext (all2 (Fin.ext ?_) (Fin.ext ?_))
    · show (word m c t i).toNat + 1 * 0 = ((iblk m c 0 t : S24x8.Idx → BitVec 32) (ix2 b p)).toNat
      rw [word_at c t b p i hi]
      omega
    · show 0 + 1 * d.val = d.val
      omega
  unfold rowP
  refine Eq.trans ?_ (congrArg₂ (fun a b : EReal => a - b) hx hc)
  pointwise [k0_pay2]

/-- A row read off what was stored. -/
theorem rows_at (v : View sig .tc .vmem S192x2048 .f32) (f : v.ty.Contents (Elt Ideal)) (y : S192x2048.Idx) (i : Fin 192) (d : Fin 2048)
    (h0 : (y 0).val = i.val) (h1 : (y 1).val = d.val) :
    v.read (Elt Ideal) (v.writes (Elt Ideal) f (rows h c t)) y = rowP h c t i (ix2 0 d) := by
  unfold rows
  generalize rowP h c t = P
  refine View.read_tilePieces v f S1x2048.size (fun i : Fin 192 => ![i.val, 0]) inb_row P 192 (Nat.le_refl 192) y i i.isLt (ix2 0 d)
    (all2 ?_ ?_) 0 ?_
  · show (y 0).val = i.val + 0
    omega
  · show (y 1).val = 0 + d.val
    omega
  · intro i' hne
    have : i'.val ≠ i.val := fun e => hne (Fin.ext e)
    show (y 0).val < i'.val ∨ i'.val + 1 ≤ (y 0).val
    omega

theorem rows8_at (b : Fin 24) (p : Fin 8) (d : Fin 2048) :
    rows8 h c t b (ix2 p d)
      = Spec.res (iblk m c 1 t) (iblk m c 2 t) b ⟨((iblk m c 0 t : S24x8.Idx → BitVec 32) (ix2 b p)).toNat, h c t _⟩ d := by
  have hb := b.isLt
  have hp := p.isLt
  have hi : 8 * b.val + p.val < 192 := by omega
  unfold rows8 View.readCov
  rw [View.readAt_apply]
  refine (rows_at h c t _ _ _ ⟨8 * b.val + p.val, hi⟩ d ?_ ?_).trans ?_
  · show 8 * b.val + 1 * p.val = 8 * b.val + p.val
    omega
  · show 0 + 1 * d.val = d.val
    omega
  · exact rowP_at h c t b p ⟨8 * b.val + p.val, hi⟩ rfl d

theorem draws_at (b : Fin 24) (z : Fin 1) (p : Fin 8) (d : Fin 2048) :
    draws m c t b (ix3 z p d) = (iblk m c 3 t : S24x8x2048.Idx → EReal) (ix3 b p d) := by
  refine (Memref.IsWhole.readAt_unread (hs0_3 t) _ _ _).trans (congrArg (iblk m c 3 t : S24x8x2048.Idx → EReal) ?_)
  have hz := z.isLt
  refine funext (all3 (Fin.ext ?_) (Fin.ext ?_) (Fin.ext ?_))
  · show b.val + 1 * z.val = b.val
    omega
  · show 0 + 1 * p.val = p.val
    omega
  · show 0 + 1 * d.val = d.val
    omega

/-- The codes read off what was stored. -/
theorem codes_at (v : View sig .tc .vmem S24x8x2048 .i8) (f : v.ty.Contents (Elt Ideal)) (b : Fin 24) (p : Fin 8) (d : Fin 2048) :
    v.read (Elt Ideal) (v.writes (Elt Ideal) f (codes h c t)) (ix3 b p d)
      = (Spec.code (Spec.res (iblk m c 1 t) (iblk m c 2 t) b ⟨((iblk m c 0 t : S24x8.Idx → BitVec 32) (ix2 b p)).toNat, h c t _⟩)
          (fun d => (iblk m c 3 t : S24x8x2048.Idx → EReal) (ix3 b p d)) d).truncate 8 := by
  unfold codes
  refine (View.read_tilePieces v f S1x8x2048.size (fun b : Fin 24 => ![b.val, 0, 0]) inb_code
    (fun b => Pay.q8 (rows8 h c t b) (draws m c t b)) 24 (Nat.le_refl 24) (ix3 b p d) b b.isLt (ix3 0 p d) (all3 ?_ ?_ ?_) 0 ?_).trans ?_
  · show b.val = b.val + 0
    omega
  · show p.val = 0 + p.val
    omega
  · show d.val = 0 + d.val
    omega
  · intro i' hne
    have : i'.val ≠ b.val := fun e => hne (Fin.ext e)
    show b.val < i'.val ∨ i'.val + 1 ≤ b.val
    omega
  · beta_reduce
    rw [Pay.q8_at, show (fun d => rows8 h c t b (ix2 p d)) = _ from funext fun d => rows8_at h c t b p d,
      show (fun d => draws m c t b (ix3 0 p d)) = _ from funext fun d => draws_at c t b 0 p d]

/-- The statistics read off what was stored. -/
theorem stats_at (v : View sig .tc .vmem S192x128 .f32) (f : v.ty.Contents (Elt Ideal)) (i : Fin 192) (l : Fin 128) (b : Fin 24) (p : Fin 8)
    (hi : i.val = 8 * b.val + p.val) :
    v.read (Elt Ideal) (v.writes (Elt Ideal) f (stats h c t)) (ix2 i l)
      = Spec.stat (Spec.res (iblk m c 1 t) (iblk m c 2 t) b ⟨((iblk m c 0 t : S24x8.Idx → BitVec 32) (ix2 b p)).toNat, h c t _⟩)
          (fun d => (iblk m c 3 t : S24x8x2048.Idx → EReal) (ix3 b p d)) l := by
  unfold stats
  refine (View.read_tilePieces v f S8x128.size (fun b : Fin 24 => ![8 * b.val, 0]) inb_stat
    (fun b => Pay.s8 (rows8 h c t b) (draws m c t b)) 24 (Nat.le_refl 24) (ix2 i l) b b.isLt (ix2 p l) (all2 ?_ ?_) 0 ?_).trans ?_
  · show i.val = 8 * b.val + p.val
    omega
  · show l.val = 0 + l.val
    omega
  · intro i' hne
    have : i'.val ≠ b.val := fun e => hne (Fin.ext e)
    show i.val < 8 * i'.val ∨ 8 * i'.val + 8 ≤ i.val
    omega
  · beta_reduce
    rw [Pay.s8_at, show (fun d => rows8 h c t b (ix2 p d)) = _ from funext fun d => rows8_at h c t b p d,
      show (fun d => draws m c t b (ix3 0 p d)) = _ from funext fun d => draws_at c t b 0 p d]

end Cert.Quant

end
-- ==== Proof.QRef.lean ====
module

public import proofs.«01_k».proof.Defs
public import proofs.«01_k».proof.Proof.Gen.QuantiseReferenceIdeal
public import proofs.«01_k».proof.Proof.Gen.QuantiseReferenceIdeal.Run
public import Idealize.ShloMosaic.Lib.Quiescent

@[expose] public section

set_option maxRecDepth 65536
set_option maxHeartbeats 0

noncomputable section

namespace Cert.Quant.Ref

open Cert.QuantiseReferenceIdeal Cert.QuantiseReferenceIdeal.Gen Cert.QuantiseReferenceIdeal.Value
open Idealize.ShloMosaic Idealize.ShloMosaic.TcCoe Idealize.SL.Sem Idealize.ShloMosaic.StableHlo

variable {F : FTy → Type} [FloatOps F]

/-! ## The quantising reference's values, in steps -/

/-- Each probe, a negative one counted from the end. -/
def wrapIx (a2 : IVec S24x8 32) : IVec S24x8x1 32 :=
  broadcastInDim S24x8x1 ![0, 1] bcast_S24x8_S24x8x1_0_1 (select (cmpi .slt a2 (broadcastInDim S24x8 ![] bcast_S_S24x8 (constantI S_ 32 0#32))) (addi a2 (broadcastInDim S24x8 ![] bcast_S_S24x8 (constantI S_ 32 400#32))) a2)

/-- The residuals of each query at each of its probes. -/
def rr (a0 : FVec F S24x2048 .f32) (a1 : FVec F S400x2048 .f32) (a2 : IVec S24x8 32) : FVec F S24x8x2048 .f32 :=
  subf (broadcastInDim S24x8x2048 ![0, 1, 2] bcast_S24x1x2048_S24x8x2048_0_1_2 (broadcastInDim S24x1x2048 ![0, 2] bcast_S24x2048_S24x1x2048_0_2 a0)) (Host.gather gather_S400x2048_S24x8x1_S24x8x2048_2_0_n_n_0_2_12048 a1 (wrapIx a2))

/-- The least residual. -/
def lo (r : FVec F S24x8x2048 .f32) : FVec F S24x8 .f32 :=
  Host.reduce FloatOps.minimumf r (constant S_ .f32 0x7F800000#32) reducesTo_S24x8x2048_S24x8_d2 h_S_

/-- The quantiser's step. -/
def st (r : FVec F S24x8x2048 .f32) : FVec F S24x8 .f32 :=
  Host.divf (subf (Host.reduce FloatOps.maximumf r (constant S_ .f32 0xFF800000#32) reducesTo_S24x8x2048_S24x8_d2 h_S_) (lo r)) (broadcastInDim S24x8 ![] bcast_S_S24x8 (constant S_ .f32 0x41700000#32))

/-- The residual's norm. -/
def nq (r : FVec F S24x8x2048 .f32) : FVec F S24x8 .f32 :=
  Host.sqrt (Host.reduceAdd (mulf r r) (constant S_ .f32 0x00000000#32) reducesTo_S24x8x2048_S24x8_d2 h_S_)

/-- The codes, as words. -/
def code (r u : FVec F S24x8x2048 .f32) : IVec S24x8x2048 32 :=
  fptosi 32 (minimumf (broadcastInDim S24x8x2048 ![] bcast_S_S24x8x2048 (id (constant S_ .f32 0x41700000#32))) (maximumf (broadcastInDim S24x8x2048 ![] bcast_S_S24x8x2048 (id (constant S_ .f32 0x00000000#32))) (Host.floor (addf (mulf (subf r (broadcastInDim S24x8x2048 ![0, 1, 2] bcast_S24x8x1_S24x8x2048_0_1_2 (broadcastInDim S24x8x1 ![0, 1] bcast_S24x8_S24x8x1_0_1 (lo r)))) (broadcastInDim S24x8x2048 ![0, 1, 2] bcast_S24x8x1_S24x8x2048_0_1_2 (broadcastInDim S24x8x1 ![0, 1] bcast_S24x8_S24x8x1_0_1 (Host.divf (broadcastInDim S24x8 ![] bcast_S_S24x8 (constant S_ .f32 0x3F800000#32)) (select (cmpf .ogt (st r) (broadcastInDim S24x8 ![] bcast_S_S24x8 (constant S_ .f32 0x00000000#32))) (st r) (broadcastInDim S24x8 ![] bcast_S_S24x8 (id (constant S_ .f32 0x3F800000#32)))))))) u))))

/-- The sum of the codes. -/
def sq (q : IVec S24x8x2048 32) : FVec F S24x8 .f32 :=
  sitofp .f32 (Host.reduce IntOp.addi (extui 32 (trunci 8 q natLt_8_32) natLt_8_32) (constantI S_ 32 0#32) reducesTo_S24x8x2048_S24x8_d2 h_S_)

/-- A column of every row, spread over the lanes. -/
def lanes (v : FVec F S24x8 .f32) : FVec F S24x8x128 .f32 :=
  broadcastInDim S24x8x128 ![0, 1, 2] bcast_S24x8x1_S24x8x128_0_1_2 (broadcastInDim S24x8x1 ![0, 1] bcast_S24x8_S24x8x1_0_1 v)

/-- The lanes numbered `k`. -/
def lane (k : BitVec 32) : IVec S24x8x128 1 :=
  cmpi .eq (iotaInDim S24x8x128 32 2) (broadcastInDim S24x8x128 ![] bcast_S_S24x8x128 (constantI S_ 32 k))

/-- The reference's codes. -/
def outQ (a0 : FVec F S24x2048 .f32) (a1 : FVec F S400x2048 .f32) (a2 : IVec S24x8 32) (a3 : FVec F S24x8x2048 .f32) : IVec S24x8x2048 8 :=
  trunci 8 (code (rr a0 a1 a2) a3) natLt_8_32

/-- The reference's statistics. -/
def outS (a0 : FVec F S24x2048 .f32) (a1 : FVec F S400x2048 .f32) (a2 : IVec S24x8 32) (a3 : FVec F S24x8x2048 .f32) : FVec F S192x128 .f32 :=
  shapeCast _ (select (lane 0#32) (lanes (st (rr a0 a1 a2))) (select (lane 1#32) (lanes (lo (rr a0 a1 a2)))
    (select (lane 2#32) (lanes (nq (rr a0 a1 a2))) (lanes (sq (code (rr a0 a1 a2) a3)))))) shapeCasts_S24x8x128_S192x128

/-- The reference's run, its two results named. -/
theorem run_named (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = outQ (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v51) = outS (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by unfold res_main_v33 outQ code st lo rr wrapIx; rfl),
    (h c).2.1.trans (by unfold res_main_v51 outS sq code nq st lo rr wrapIx lanes lane; rfl), (h c).2.2⟩) (run m ρ)

/-- The reference runs, leaves its arguments and ends quiescent. -/
theorem quiescent_ref : Cert.quiescent_QuantiseReferenceIdeal := fun m ρ _ =>
  (θ_run defs _ _).mono (fun r h => ⟨fun c => (h c).2.2, sem_eq_zero_of_no_sems (by decide) r.2⟩) (run (F := Ideal) m ρ)

end Cert.Quant.Ref

end
-- ==== Proof.QRefAt.lean ====
module

public import proofs.«01_k».proof.Proof.QRef
public import proofs.«01_k».proof.Proof.QSpec

@[expose] public section

set_option maxRecDepth 65536
set_option maxHeartbeats 1000000

noncomputable section

namespace Cert.Quant.Ref

open Cert.QuantiseReferenceIdeal Cert.QuantiseReferenceIdeal.Gen
open Idealize.ShloMosaic Idealize.ShloMosaic.TcCoe Idealize.SL.Sem Idealize.ShloMosaic.StableHlo

/-! ## The quantising reference's values at a row -/

section
variable (r u : FVec Ideal S24x8x2048 .f32) (b : Fin 24) (p : Fin 8)

theorem lo_at : lo r (ix2 b p) = Spec.lo fun d => r (ix3 b p d) := by
  pointwise [lo]
  rfl

theorem st_at : st r (ix2 b p) = Spec.st fun d => r (ix3 b p d) := by
  pointwise [st]
  rw [lo_at]
  rfl

theorem nq_at : nq r (ix2 b p) = Spec.nq fun d => r (ix3 b p d) := by
  pointwise [nq]
  rfl

theorem code_at (d : Fin 2048) : code r u (ix3 b p d) = Spec.code (fun d => r (ix3 b p d)) (fun d => u (ix3 b p d)) d := by
  pointwise [code, id]
  rw [lo_at, st_at]
  rfl

theorem sq_at : Ref.sq (F := Ideal) (code r u) (ix2 b p) = Spec.sum (fun d => r (ix3 b p d)) (fun d => u (ix3 b p d)) := by
  pointwise [Ref.sq]
  refine congrArg (FloatOps.sitofp (F := Ideal) FTy.f32) (Finset.fold_congr fun d _ => ?_)
  rw [code_at]
  exact Spec.byte _ _ d
end

variable (a0 : FVec Ideal S24x2048 .f32) (a1 : FVec Ideal S400x2048 .f32) (a2 : IVec S24x8 32) (a3 : FVec Ideal S24x8x2048 .f32)

/-- A word in `[0, 400)`, as a signed number. -/
theorem small (w : BitVec 32) (h : w.toNat < 400) : IntOp.cmpi .slt w 0#32 = 0#1 ∧ w.toInt.toNat = w.toNat := by
  obtain ⟨n, hn, rfl⟩ : ∃ n, n < 400 ∧ w = BitVec.ofNat 32 n := ⟨w.toNat, h, by simp⟩
  have e : (BitVec.ofNat 32 n).toNat = n := by rw [BitVec.toNat_ofNat]; omega
  have ei : (BitVec.ofNat 32 n).toInt = (n : ℤ) := by rw [BitVec.toInt_eq_toNat_cond, e, if_pos (by omega)]
  refine ⟨?_, by rw [ei, e]; exact Int.toNat_natCast n⟩
  show BitVec.ofBool (BitVec.slt _ _) = 0#1
  have : BitVec.slt (BitVec.ofNat 32 n) 0#32 = false := by
    unfold BitVec.slt; rw [ei]; exact decide_eq_false (by simp)
  rw [this]; rfl

/-- A probe in range is not moved. -/
theorem wrapIx_at (b : Fin 24) (p : Fin 8) (z : Fin 1) (h : (a2 (ix2 b p)).toNat < 400) : wrapIx a2 (ix3 b p z) = a2 (ix2 b p) := by
  pointwise [wrapIx]
  rw [(small _ h).1]
  rfl

/-- The centroid read for a probe, its start index clamped. -/
theorem gather_at (x : FVec Ideal S400x2048 .f32) (idx : IVec S24x8x1 32) (b : Fin 24) (p : Fin 8) (d : Fin 2048) :
    Host.gather gather_S400x2048_S24x8x1_S24x8x2048_2_0_n_n_0_2_12048 x idx (ix3 b p d)
      = x (ix2 ⟨min (idx (ix3 b p 0)).toInt.toNat 399, by omega⟩ d) := by
  let g := gather_S400x2048_S24x8x1_S24x8x2048_2_0_n_n_0_2_12048
  unfold Host.gather
  refine congrArg x (funext fun a => Fin.ext ?_)
  show g.start (ix3 b p d) idx a + g.batchCoord (ix3 b p d) a + g.offCoord (ix3 b p d) a = _
  have h01 : a = 0 ∨ a = 1 := by revert a; decide
  rcases h01 with rfl | rfl
  · rw [g.batchCoord_eq_zero _ _ (by decide), g.offCoord_eq_zero _ _ (by decide)]
    simp only [Nat.add_zero]
    unfold GatherDims.start
    rw [dif_pos (show _ ∈ g.startIndexMap from List.mem_singleton.mpr rfl)]
    have hsi : g.siIdx (ix3 b p d) ⟨List.idxOf (0 : Fin 2) g.startIndexMap, List.idxOf_lt_length_iff.2 (List.mem_singleton.mpr rfl)⟩ = ix3 b p 0 := by
      funext b'; refine Fin.ext ?_
      match b' with
      | ⟨0, _⟩ => rfl
      | ⟨1, _⟩ => rfl
      | ⟨2, _⟩ => rfl
    exact congrArg (fun z => min (idx z).toInt.toNat 399) hsi
  · rw [g.batchCoord_eq_zero _ _ (by decide)]
    unfold GatherDims.start GatherDims.offCoord
    rw [dif_neg (by decide), dif_pos (by decide)]
    simp only [Nat.zero_add]
    rfl

/-- The residuals of a probe in range. -/
theorem rr_at (b : Fin 24) (p : Fin 8) (d : Fin 2048) (h : (a2 (ix2 b p)).toNat < 400) :
    rr a0 a1 a2 (ix3 b p d) = Spec.res a0 a1 b ⟨(a2 (ix2 b p)).toNat, h⟩ d := by
  pointwise [rr, gather_at]
  unfold Spec.res
  refine congrArg (fun z => a0 (ix2 b d) - a1 (ix2 z d)) (Fin.ext ?_)
  show min _ _ = (a2 (ix2 b p)).toNat
  rw [wrapIx_at a2 b p 0 h, (small _ h).2]
  omega

/-- The reference's code of a coordinate. -/
theorem outQ_at (b : Fin 24) (p : Fin 8) (d : Fin 2048) (h : (a2 (ix2 b p)).toNat < 400) :
    outQ a0 a1 a2 a3 (ix3 b p d)
      = (Spec.code (Spec.res a0 a1 b ⟨(a2 (ix2 b p)).toNat, h⟩) (fun d => a3 (ix3 b p d)) d).truncate 8 := by
  pointwise [outQ]
  rw [code_at, show (fun d => rr a0 a1 a2 (ix3 b p d)) = Spec.res a0 a1 b ⟨(a2 (ix2 b p)).toNat, h⟩ from
    funext fun d => rr_at a0 a1 a2 b p d h]

/-- The reference's statistics of a row. -/
theorem outS_at (i : Fin 192) (l : Fin 128) (h : (a2 (ix2 ⟨i.val / 8, by omega⟩ ⟨i.val % 8, by omega⟩)).toNat < 400) :
    outS a0 a1 a2 a3 (ix2 i l)
      = Spec.stat (Spec.res a0 a1 ⟨i.val / 8, by omega⟩ ⟨(a2 (ix2 ⟨i.val / 8, by omega⟩ ⟨i.val % 8, by omega⟩)).toNat, h⟩)
          (fun d => a3 (ix3 ⟨i.val / 8, by omega⟩ ⟨i.val % 8, by omega⟩ d)) l := by
  pointwise [outS, lanes, lane]
  rw [st_at, lo_at, nq_at, sq_at, show (fun d => rr a0 a1 a2 (ix3 _ _ d)) = Spec.res a0 a1 _ ⟨(a2 (ix2 _ _)).toNat, h⟩ from
    funext fun d => rr_at a0 a1 a2 _ _ d h]
  rfl

end Cert.Quant.Ref

end
-- ==== Proof.QBlk.lean ====
module

public import proofs.«01_k».proof.Proof.QPieces
public import proofs.«01_k».proof.Proof.QRefAt

@[expose] public section

set_option maxRecDepth 65536
set_option maxHeartbeats 400000

noncomputable section

namespace Cert.Quant

open Cert.QuantiseIdeal Cert.QuantiseIdeal.Gen
open Idealize.ShloMosaic Idealize.ShloMosaic.TcCoe Idealize.SL.Sem

/-! ## The blocks are the arguments -/

section
variable {F : FTy → Type} [FloatOps F] (m : (ℓ : Loc nD τ sig) → Buf (Elt F) ℓ) (c : Dev nD) (t : Fin cfg0.N)

/-- The probes' block. -/
theorem blk0 : iblk m c 0 t = m ((c : Thread nD τ).loc main_arg2) := by
  refine funext fun (y : S24x8.Idx) => ?_
  refine (congrFun (V_main_arg2 m c) _).trans (congrArg (m ((c : Thread nD τ).loc main_arg2)) (funext (all2 (Fin.ext ?_) (Fin.ext ?_))))
  · show 0 * 24 + 1 * (y 0).val = (y 0).val
    omega
  · show 0 * 8 + 1 * (y 1).val = (y 1).val
    omega

/-- The queries' block. -/
theorem blk1 : iblk m c 1 t = m ((c : Thread nD τ).loc main_arg0) := by
  refine funext fun (y : S24x2048.Idx) => ?_
  refine (congrFun (V_main_arg0 m c) _).trans (congrArg (m ((c : Thread nD τ).loc main_arg0)) (funext (all2 (Fin.ext ?_) (Fin.ext ?_))))
  · show 0 * 24 + 1 * (y 0).val = (y 0).val
    omega
  · show 0 * 2048 + 1 * (y 1).val = (y 1).val
    omega

/-- The centroids' block. -/
theorem blk2 : iblk m c 2 t = m ((c : Thread nD τ).loc main_arg1) := by
  refine funext fun (y : S400x2048.Idx) => ?_
  refine (congrFun (V_main_arg1 m c) _).trans (congrArg (m ((c : Thread nD τ).loc main_arg1)) (funext (all2 (Fin.ext ?_) (Fin.ext ?_))))
  · show 0 * 400 + 1 * (y 0).val = (y 0).val
    omega
  · show 0 * 2048 + 1 * (y 1).val = (y 1).val
    omega

/-- The draws' block. -/
theorem blk3 : iblk m c 3 t = m ((c : Thread nD τ).loc main_arg3) := by
  refine funext fun (y : S24x8x2048.Idx) => ?_
  refine (congrFun (V_main_arg3 m c) _).trans (congrArg (m ((c : Thread nD τ).loc main_arg3)) (funext (all3 (Fin.ext ?_) (Fin.ext ?_) (Fin.ext ?_))))
  · show 0 * 24 + 1 * (y 0).val = (y 0).val
    omega
  · show 0 * 8 + 1 * (y 1).val = (y 1).val
    omega
  · show 0 * 2048 + 1 * (y 2).val = (y 2).val
    omega

variable {m}

/-- Probes in range are in range in their block. -/
theorem inRange (H : ∀ (c : Dev nD) (i : S24x8.Idx), BitVec.toNat (m ((c : Thread nD τ).loc main_arg2) i) < 400) : InRange m := by
  intro c t i
  rw [blk0]
  exact H c i
end

/-! ## What the body stores is the reference's results -/

variable {m : (ℓ : Loc nD τ sig) → Buf (Elt Ideal) ℓ} (h : InRange m) (c : Dev nD) (t : Fin cfg0.N)

/-- The reference's codes of the arguments. -/
abbrev GQ (m : (ℓ : Loc nD τ sig) → Buf (Elt Ideal) ℓ) (c : Dev nD) : IVec S24x8x2048 8 :=
  Ref.outQ (F := Ideal) (m ((c : Thread nD τ).loc main_arg0)) (m ((c : Thread nD τ).loc main_arg1)) (m ((c : Thread nD τ).loc main_arg2)) (m ((c : Thread nD τ).loc main_arg3))
/-- The reference's statistics of the arguments. -/
abbrev GS (m : (ℓ : Loc nD τ sig) → Buf (Elt Ideal) ℓ) (c : Dev nD) : FVec Ideal S192x128 .f32 :=
  Ref.outS (F := Ideal) (m ((c : Thread nD τ).loc main_arg0)) (m ((c : Thread nD τ).loc main_arg1)) (m ((c : Thread nD τ).loc main_arg2)) (m ((c : Thread nD τ).loc main_arg3))

/-- The codes stored, read back, are the reference's. -/
theorem codes_eq (v : View sig .tc .vmem S24x8x2048 .i8) (f : v.ty.Contents (Elt Ideal)) :
    v.read (Elt Ideal) (v.writes (Elt Ideal) f (codes h c t)) = GQ m c := by
  refine funext fun (y : S24x8x2048.Idx) => ?_
  obtain ⟨b, p, d, rfl⟩ : ∃ (b : Fin 24) (p : Fin 8) (d : Fin 2048), y = ix3 b p d := ⟨y 0, y 1, y 2, funext (all3 rfl rfl rfl)⟩
  refine (codes_at h c t v f b p d).trans ?_
  have hr : BitVec.toNat (m ((c : Thread nD τ).loc main_arg2) (ix2 b p)) < 400 := by
    have e := h c t (ix2 b p)
    rwa [blk0] at e
  refine Eq.trans ?_ (Ref.outQ_at (m ((c : Thread nD τ).loc main_arg0)) (m ((c : Thread nD τ).loc main_arg1)) (m ((c : Thread nD τ).loc main_arg2)) (m ((c : Thread nD τ).loc main_arg3)) b p d hr).symm
  simp only [blk0, blk1, blk2, blk3]

/-- The statistics stored, read back, are the reference's. -/
theorem stats_eq (v : View sig .tc .vmem S192x128 .f32) (f : v.ty.Contents (Elt Ideal)) :
    v.read (Elt Ideal) (v.writes (Elt Ideal) f (stats h c t)) = GS m c := by
  refine funext fun (y : S192x128.Idx) => ?_
  obtain ⟨i, l, rfl⟩ : ∃ (i : Fin 192) (l : Fin 128), y = ix2 i l := ⟨y 0, y 1, funext (all2 rfl rfl)⟩
  refine (stats_at h c t v f i l ⟨i.val / 8, by omega⟩ ⟨i.val % 8, by omega⟩ (by show i.val = 8 * (i.val / 8) + i.val % 8; omega)).trans ?_
  have hr : BitVec.toNat (m ((c : Thread nD τ).loc main_arg2) (ix2 ⟨i.val / 8, by omega⟩ ⟨i.val % 8, by omega⟩)) < 400 := by
    have e := h c t (ix2 ⟨i.val / 8, by omega⟩ ⟨i.val % 8, by omega⟩)
    rwa [blk0] at e
  refine Eq.trans ?_ (Ref.outS_at (m ((c : Thread nD τ).loc main_arg0)) (m ((c : Thread nD τ).loc main_arg1)) (m ((c : Thread nD τ).loc main_arg2)) (m ((c : Thread nD τ).loc main_arg3)) i l hr).symm
  simp only [blk0, blk1, blk2, blk3]

end Cert.Quant

end
-- ==== Proof.QOuts.lean ====
module

public import proofs.«01_k».proof.Proof.QBlk
public import proofs.«01_k».proof.Proof.Gen.QuantiseIdeal.Frame

@[expose] public section

set_option maxRecDepth 65536
set_option maxHeartbeats 4000000

noncomputable section

namespace Cert.Quant

open Cert.QuantiseIdeal Cert.QuantiseIdeal.Gen
open Idealize.ShloMosaic Idealize.ShloMosaic.TcCoe Idealize.ShloMosaic.Tactic Idealize.SL.Sem

/-! ## What the run leaves in the outputs' buffers is what the body was seen to store -/

variable {F : FTy → Type} [FloatOps F] {m : (ℓ : Loc nD τ sig) → Buf (Elt F) ℓ} (h : InRange m) (c : Dev nD) (t : Fin cfg0.N)

theorem outs_codes : (outsAt0 m (hyps h) c t).1 = VO0_4.read (Elt F) (VO0_4.writes (Elt F) VO0_4.junk (codes h c t)) := by
  sl_kernel_rfl

theorem outs_stats : (outsAt0 m (hyps h) c t).2.1 = VO0_5.read (Elt F) (VO0_5.writes (Elt F) VO0_5.junk (stats h c t)) := by
  sl_kernel_rfl

end Cert.Quant

end
-- ==== Proof.QPre.lean ====
module

public import proofs.«01_k».proof.Defs
public import proofs.«01_k».proof.Proof.Gen.Quantise
public import proofs.«01_k».proof.Proof.Gen.QuantiseIdeal

@[expose] public section

set_option maxRecDepth 100000
set_option maxHeartbeats 0

noncomputable section

namespace Cert.Quant

open Idealize.ShloMosaic Idealize.ShloMosaic.TcCoe Idealize.SL.Sem

/-! ## The precondition, and the two texts of the quantising call -/

/-- The precondition's own side condition: a scalar broadcasts to the probes' shape. -/
theorem preFacts : Cert.Pre_clusters_in_range.Facts := ⟨by decide⟩

attribute [local instance] preFacts

/-- A word that is signed at least 0 and less than 400 is below 400. -/
theorem below (w : BitVec 32) (h : IntOp.andi (IntOp.cmpi .sge w 0#32) (IntOp.cmpi .slt w 400#32) = 1#1) : w.toNat < 400 := by
  have e : ∀ p q : Bool, BitVec.ofBool p &&& BitVec.ofBool q = 1#1 → p = true ∧ q = true := by decide
  obtain ⟨h0, h1⟩ := e _ _ h
  have h0' : (0#32).sle w = true := h0
  have h1' : w.slt 400#32 = true := h1
  rw [BitVec.sle_eq_decide, decide_eq_true_eq] at h0'
  rw [BitVec.slt_eq_decide, decide_eq_true_eq] at h1'
  have hz : (0#32).toInt = 0 := by decide
  have h8 : (400#32).toInt = 400 := by decide
  rw [hz, BitVec.toInt_eq_toNat_cond] at h0'
  rw [h8, BitVec.toInt_eq_toNat_cond] at h1'
  split at h0' <;> omega

/-- The precondition at a probe. -/
theorem fn_at {F : FTy → Type} [FloatOps F] (a0 : FVec F Cert.Pre_clusters_in_range.S24x2048 .f32) (a1 : FVec F Cert.Pre_clusters_in_range.S400x2048 .f32)
    (a2 : IVec Cert.Pre_clusters_in_range.S24x8 32) (a3 : FVec F Cert.Pre_clusters_in_range.S24x8x2048 .f32) (i : Cert.Pre_clusters_in_range.S24x8.Idx) :
    Cert.Pre_clusters_in_range.fn a0 a1 a2 a3 i = IntOp.andi (IntOp.cmpi .sge (a2 i) 0#32) (IntOp.cmpi .slt (a2 i) 400#32) := rfl

theorem clusters_ideal (m : (ℓ : Loc Cert.QuantiseIdeal.nD Cert.QuantiseIdeal.τ Cert.QuantiseIdeal.sig) → Buf (Elt Ideal) ℓ) (h : Cert.Pre_QuantiseIdeal m)
    (c : Dev Cert.QuantiseIdeal.nD) (i : Cert.QuantiseIdeal.S24x8.Idx) :
    BitVec.toNat (m ((c : Thread Cert.QuantiseIdeal.nD Cert.QuantiseIdeal.τ).loc Cert.QuantiseIdeal.main_arg2) i) < 400 :=
  below _ ((fn_at _ _ _ _ i).symm.trans (congrFun (h c) i))

theorem clusters_bits (m : (ℓ : Loc Cert.Quantise.nD Cert.Quantise.τ Cert.Quantise.sig) → Buf (Elt Bits) ℓ) (h : Cert.Pre_Quantise m)
    (c : Dev Cert.Quantise.nD) (i : Cert.Quantise.S24x8.Idx) :
    BitVec.toNat (m ((c : Thread Cert.Quantise.nD Cert.Quantise.τ).loc Cert.Quantise.main_arg2) i) < 400 :=
  below _ ((fn_at _ _ _ _ i).symm.trans (congrFun (h c) i))

/-- The two texts' tables of bodies are the same table. -/
theorem defs₀_eq {F : FTy → Type} [FloatOps F] : Cert.Quantise.defs₀ (F := F) = Cert.QuantiseIdeal.defs₀ (F := F) := by
  unfold Cert.Quantise.defs₀ Cert.QuantiseIdeal.defs₀
  refine congrArg Defs.onTc (funext fun l => funext fun a => ?_)
  obtain ⟨l, hl⟩ := l
  obtain rfl : l = 0 := Nat.lt_one_iff.mp hl
  obtain ⟨t, s⟩ := a
  rfl

theorem defs_eq {F : FTy → Type} [FloatOps F] : Cert.Quantise.defs (F := F) = Cert.QuantiseIdeal.defs (F := F) :=
  congrArg (Pipeline.defs Cert.QuantiseIdeal.pcfgs) defs₀_eq

end Cert.Quant

end
-- ==== Proof.QArr.lean ====
module

public import proofs.«01_k».proof.Proof.QOuts
public import proofs.«01_k».proof.Proof.QPre
public import proofs.«01_k».proof.Proof.QRef
public import proofs.«01_k».proof.Proof.Gen.QuantiseIdeal.Value

@[expose] public section

set_option maxRecDepth 65536
set_option maxHeartbeats 400000

noncomputable section

namespace Cert.Quant

open Cert.QuantiseIdeal Cert.QuantiseIdeal.Gen
open Idealize.ShloMosaic Idealize.ShloMosaic.TcCoe Idealize.SL.Sem
open Idealize.ShloMosaic.Pipeline (Dat Cfg Window)

attribute [local instance] preFacts

/-! ## The result arrays of the quantising call -/

section
variable {m : (ℓ : Loc nD τ sig) → Buf (Elt Ideal) ℓ} (h : InRange m) (c : Dev nD) (t : Fin cfg0.N)

theorem emb4 (y : S24x8x2048.Idx) : ((cfg0.win 4).blk t).view.emb y = (y : S24x8x2048.Idx) := by
  refine funext (all3 (Fin.ext ?_) (Fin.ext ?_) (Fin.ext ?_))
  · show 0 * 24 + 1 * (y 0).val = (y 0).val
    omega
  · show 0 * 8 + 1 * (y 1).val = (y 1).val
    omega
  · show 0 * 2048 + 1 * (y 2).val = (y 2).val
    omega

theorem emb5 (y : S192x128.Idx) : ((cfg0.win 5).blk t).view.emb y = (y : S192x128.Idx) := by
  refine funext (all2 (Fin.ext ?_) (Fin.ext ?_))
  · show 0 * 192 + 1 * (y 0).val = (y 0).val
    omega
  · show 0 * 128 + 1 * (y 1).val = (y 1).val
    omega

/-- The one point leaves the reference's codes. -/
theorem out4 : (dats m (hyps h) 0 c).flushed 4 t = ((cfg0.win 4).blk t).view.read (Elt Ideal) (GQ m c) := by
  refine (after0_4 m (hyps h) c t).trans (((outs_codes h c t).trans (codes_eq h c t _ _)).trans (funext fun (y : S24x8x2048.Idx) => ?_))
  exact congrArg (GQ m c) (emb4 t y).symm

theorem out5 : (dats m (hyps h) 0 c).flushed 5 t = ((cfg0.win 5).blk t).view.read (Elt Ideal) (GS m c) := by
  refine (after0_5 m (hyps h) c t).trans (((outs_stats h c t).trans (stats_eq h c t _ _)).trans (funext fun (y : S192x128.Idx) => ?_))
  exact congrArg (GS m c) (emb5 t y).symm

/-- The codes after the run. -/
theorem arr4 : (dats m (hyps h) 0 c).arrAt 4 cfg0.N = GQ m c := by
  refine Dat.arrAt_eq_of_cover (dats m (hyps h) 0 c) 4 _ (fun t _ => out4 h c t) fun (i : S24x8x2048.Idx) => ?_
  refine ⟨t0_0, flush0_4 t0_0, ?_⟩
  have e := View.emb_mem_set ((cfg0.win 4).blk t0_0).view i
  rw [emb4 t0_0 i] at e
  exact e

/-- The statistics after the run. -/
theorem arr5 : (dats m (hyps h) 0 c).arrAt 5 cfg0.N = GS m c := by
  refine Dat.arrAt_eq_of_cover (dats m (hyps h) 0 c) 5 _ (fun t _ => out5 h c t) fun (i : S192x128.Idx) => ?_
  refine ⟨t0_0, flush0_5 t0_0, ?_⟩
  have e := View.emb_mem_set ((cfg0.win 5).blk t0_0).view i
  rw [emb5 t0_0 i] at e
  exact e
end

/-! ## The claims -/

/-- The idealized quantising call runs, leaves its arguments and ends quiescent. -/
theorem quiescent_ideal : Cert.quiescent_QuantiseIdeal := fun m g hpre =>
  frame m g (hyps (inRange (clusters_ideal m hpre)))

/-- So does the call itself: the same text over the machine's own floats. -/
theorem quiescent_bits : Cert.quiescent_Quantise := by
  intro m g hpre
  have H := clusters_bits m hpre
  rw [defs_eq]
  exact frame (F := Bits) m g (hyps (inRange H))

/-- THE VALUES: both programs end with the reference's codes and statistics of the arguments, the arguments unchanged. -/
theorem values : Cert.algebraic_QuantiseIdeal_QuantiseReferenceIdeal := by
  intro m g m' g' hpre hargs
  have h : InRange m := inRange (clusters_ideal m hpre)
  refine ⟨fun c => GQ m c, fun c => GS m c, ?_, ?_⟩
  · refine (θ_run _ _ _).mono (fun r k c => ?_) (Value.run_blocks m g (hyps h))
    exact ⟨(k c).1.trans (arr4 h c), (k c).2.1.trans (arr5 h c), (k c).2.2.2⟩
  · refine (θ_run _ _ _).mono (fun r k c => ?_) (Ref.run_named m' g')
    obtain ⟨e0, e1, e2, e3⟩ := hargs c
    refine ⟨(k c).1.trans ?_, (k c).2.1.trans ?_, (k c).2.2⟩
    · rw [e0, e1, e2, e3]
    · rw [e0, e1, e2, e3]

end Cert.Quant

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Quantise
public import proofs.«01_k».proof.Proof.Gen.QuantiseIdeal.Value
public import proofs.«01_k».proof.Proof.Gen.QuantiseReferenceIdeal.Run
public import proofs.«01_k».proof.Proof.Gen.QuantiseIdeal.Frame
public import proofs.«01_k».proof.Proof.Frames
public import proofs.«01_k».proof.Proof.RefVal
public import proofs.«01_k».proof.Proof.ArrVal
public import proofs.«01_k».proof.Proof.QArr
public import Idealize.ShloMosaic.Lib.Pointwise

@[expose] public section

set_option maxRecDepth 65536

noncomputable section

namespace Cert.Proof

open Idealize.ShloMosaic Idealize.SL.Sem

/-- The precondition's own side condition: a scalar broadcasts to the probes' shape. -/
theorem preFacts : Cert.Pre_probes_in_range.Facts := ⟨by decide⟩

attribute [local instance] preFacts

/-- A word that is signed at least 0 and less than 8 is below 8. -/
theorem below_eight (w : BitVec 32) (h : IntOp.andi (IntOp.cmpi .sge w 0#32) (IntOp.cmpi .slt w 8#32) = 1#1) : w.toNat < 8 := by
  have e : ∀ p q : Bool, BitVec.ofBool p &&& BitVec.ofBool q = 1#1 → p = true ∧ q = true := by decide
  obtain ⟨h0, h1⟩ := e _ _ h
  have h0' : (0#32).sle w = true := h0
  have h1' : w.slt 8#32 = true := h1
  rw [BitVec.sle_eq_decide, decide_eq_true_eq] at h0'
  rw [BitVec.slt_eq_decide, decide_eq_true_eq] at h1'
  have hz : (0#32).toInt = 0 := by decide
  have h8 : (8#32).toInt = 8 := by decide
  rw [hz, BitVec.toInt_eq_toNat_cond] at h0'
  rw [h8, BitVec.toInt_eq_toNat_cond] at h1'
  split at h0' <;> omega

/-- THE PRECONDITION SAYS what it means: every probe is below 8. -/
theorem probes (m : (ℓ : Loc Cert.KernelIdeal.nD Cert.KernelIdeal.τ Cert.KernelIdeal.sig) → Buf (Elt Ideal) ℓ) (h : Cert.Pre_KernelIdeal_probes_in_range m)
    (c : Dev Cert.KernelIdeal.nD) (b : Fin 24) (s : Fin 6144) : (Cert.Score.A4 m c (ix2 b s)).toNat < 8 := by
  have e := congrFun (h c) (ix2 b s)
  refine below_eight _ (Eq.trans ?_ e)
  pointwise [Cert.Pre_probes_in_range.fn]

/-- THE VALUES: both programs end with the reference's three arrays of the arguments, the arguments unchanged. -/
theorem values : Cert.algebraic_KernelIdeal_ReferenceIdeal_pre_probes_in_range := by
  intro m g m' g' hpre hargs
  have H := probes m hpre
  refine ⟨fun c => Cert.Score.GD m c, fun c => Cert.Score.GE m c, fun c => Cert.Score.GI m c, ?_, ?_⟩
  · refine (θ_run _ _ _).mono (fun r h c => ?_) (θ_run_and (Cert.Score.run_main m g (Cert.Score.ok m)) (Cert.Score.unchanged m g (Cert.Score.ok m)))
    exact ⟨((h.1 c).1 7).trans (Cert.Score.arr7 m (Cert.Score.ok m) c (H c)), ((h.1 c).1 8).trans (Cert.Score.arr8 m (Cert.Score.ok m) c (H c)),
      ((h.1 c).1 9).trans (Cert.Score.arr9 m (Cert.Score.ok m) c (H c)), h.2 c⟩
  · refine (θ_run _ _ _).mono (fun r h c => ?_) (Cert.Score.Ref.run_named m' g')
    obtain ⟨e0, e1, e2, e3, e4, e5, e6⟩ := hargs c
    refine ⟨(h c).1.trans ?_, (h c).2.1.trans ?_, (h c).2.2.1.trans ?_, (h c).2.2.2⟩
    · rw [e0, e1, e2, e3, e4, e5, e6]
    · rw [e0, e3, e4, e5, e6]
    · rw [e0, e1, e2, e3, e4, e6]

/-- THE CERTIFICATE. -/
theorem claim : Cert.Claim :=
  ⟨Cert.Kernel.Gen.facts, Cert.KernelIdeal.Gen.facts, Cert.ReferenceIdeal.Gen.facts, Cert.Quantise.Gen.facts, Cert.QuantiseIdeal.Gen.facts,
    Cert.QuantiseReferenceIdeal.Gen.facts, preFacts, Cert.Quant.preFacts,
    Cert.Score.quiescent_bits, Cert.Score.quiescent_ideal, fun m g _ => Cert.Score.quiescent_ideal m g trivial,
    Cert.Score.Ref.quiescent_ref, fun m g _ => Cert.Score.Ref.quiescent_ref m g trivial,
    Cert.Quant.quiescent_bits, Cert.Quant.quiescent_ideal, Cert.Quant.Ref.quiescent_ref, fun m g _ => Cert.Quant.Ref.quiescent_ref m g trivial,
    trivial, values, trivial, Cert.Quant.values⟩

end Cert.Proof

end
